-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_one_winner [hPre_one_winner : Cert.Pre_one_winner.Facts] (m : (ℓ : Loc Cert.KernelIdeal.nD Cert.KernelIdeal.τ Cert.KernelIdeal.sig) → Buf (Elt Ideal) ℓ) : Prop :=
  ∀ c : Dev Cert.KernelIdeal.nD,
    (Cert.Pre_one_winner.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_one_winner [hPre_one_winner : Cert.Pre_one_winner.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_one_winner.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_one_winner [hKernelIdeal : Cert.KernelIdeal.Facts] [hPre_one_winner : Cert.Pre_one_winner.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_one_winner m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_one_winner [hReferenceIdeal : Cert.ReferenceIdeal.Facts] [hPre_one_winner : Cert.Pre_one_winner.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_one_winner m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_one_winner [hKernelIdeal : Cert.KernelIdeal.Facts] [hReferenceIdeal : Cert.ReferenceIdeal.Facts] [hPre_one_winner : Cert.Pre_one_winner.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_one_winner m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_one_winner : Cert.Pre_one_winner.Facts),
    quiescent_Kernel (hKernel := hKernel)
    ∧ quiescent_KernelIdeal (hKernelIdeal := hKernelIdeal)
    ∧ quiescent_KernelIdeal_pre_one_winner (hKernelIdeal := hKernelIdeal) (hPre_one_winner := hPre_one_winner)
    ∧ quiescent_ReferenceIdeal (hReferenceIdeal := hReferenceIdeal)
    ∧ quiescent_ReferenceIdeal_pre_one_winner (hReferenceIdeal := hReferenceIdeal) (hPre_one_winner := hPre_one_winner)
    ∧ preserves_Kernel_KernelIdeal
    ∧ algebraic_KernelIdeal_ReferenceIdeal_pre_one_winner (hKernelIdeal := hKernelIdeal) (hReferenceIdeal := hReferenceIdeal) (hPre_one_winner := hPre_one_winner)
-- ==== Pre_one_winner.lean ====
abbrev S1x8192x8 : Shape := ⟨3, ![1, 8192, 8]⟩
abbrev S8 : Shape := ⟨1, ![8]⟩
abbrev S1x8192x4 : Shape := ⟨3, ![1, 8192, 4]⟩
abbrev S_ : Shape := ⟨0, ![]⟩
abbrev S1x1x8 : Shape := ⟨3, ![1, 1, 8]⟩
abbrev S1 : Shape := ⟨1, ![1]⟩
abbrev S2 : Shape := ⟨1, ![2]⟩
abbrev S1x1x1x1 : Shape := ⟨4, ![1, 1, 1, 1]⟩
abbrev S64x1x8192x8 : Shape := ⟨4, ![64, 1, 8192, 8]⟩
abbrev S1x1x8192x8 : Shape := ⟨4, ![1, 1, 8192, 8]⟩
abbrev S64x1x8192 : Shape := ⟨3, ![64, 1, 8192]⟩
abbrev S64x1x8192x1 : Shape := ⟨4, ![64, 1, 8192, 1]⟩

class Facts : Prop where
  slices_S1x8192x8_S1x8192x4_0_0_2 : S1x8192x8.Slices ![0, 0, 2] S1x8192x4
  bcast_S_S1x8192x4 : S_.BroadcastsInDim S1x8192x4 (![] : Fin 0 → Fin S1x8192x4.rank)
  reducesTo_S1x8192x4_S_d0_1_2 : S1x8192x4.ReducesTo [0, 1, 2] S_
  h_S_ : 0 < S_.numel
  bcast_S8_S1x1x8_2 : S8.BroadcastsInDim S1x1x8 (![2] : Fin 1 → Fin S1x1x8.rank)
  bcast_S1x1x8_S1x8192x8_0_1_2 : S1x1x8.BroadcastsInDim S1x8192x8 (![0, 1, 2] : Fin 3 → Fin S1x8192x8.rank)
  bcast_S_S1 : S_.BroadcastsInDim S1 (![] : Fin 0 → Fin S1.rank)
  concatenates_S1_S1_S2_d0 : Shape.Concatenates [S1, S1] S2 0
  bcast_S_S1x1x1x1 : S_.BroadcastsInDim S1x1x1x1 (![] : Fin 0 → Fin S1x1x1x1.rank)
  slices_S2_S1_0 : S2.Slices ![0] S1
  shapeCasts_S1_S_ : S1.ShapeCasts S_
  slices_S2_S1_1 : S2.Slices ![1] S1
  bcast_S_S64x1x8192x8 : S_.BroadcastsInDim S64x1x8192x8 (![] : Fin 0 → Fin S64x1x8192x8.rank)
  natLt_32_64 : 32 < 64
  bcast_S1x1x1x1_S64x1x8192x8_0_1_2_3 : S1x1x1x1.BroadcastsInDim S64x1x8192x8 (![0, 1, 2, 3] : Fin 4 → Fin S64x1x8192x8.rank)
  bcast_S1x8192x8_S1x1x8192x8_1_2_3 : S1x8192x8.BroadcastsInDim S1x1x8192x8 (![1, 2, 3] : Fin 3 → Fin S1x1x8192x8.rank)
  bcast_S1x1x8192x8_S64x1x8192x8_0_1_2_3 : S1x1x8192x8.BroadcastsInDim S64x1x8192x8 (![0, 1, 2, 3] : Fin 4 → Fin S64x1x8192x8.rank)
  reducesTo_S64x1x8192x8_S64x1x8192_d3 : S64x1x8192x8.ReducesTo [3] S64x1x8192
  bcast_S64x1x8192_S64x1x8192x1_0_1_2 : S64x1x8192.BroadcastsInDim S64x1x8192x1 (![0, 1, 2] : Fin 3 → Fin S64x1x8192x1.rank)
  bcast_S64x1x8192x1_S64x1x8192x8_0_1_2_3 : S64x1x8192x1.BroadcastsInDim S64x1x8192x8 (![0, 1, 2, 3] : Fin 4 → Fin S64x1x8192x8.rank)
  natLt_1_32 : 1 < 32
  bcast_S_S64x1x8192 : S_.BroadcastsInDim S64x1x8192 (![] : Fin 0 → Fin S64x1x8192.rank)
  reducesTo_S64x1x8192_S_d0_1_2 : S64x1x8192.ReducesTo [0, 1, 2] S_

variable [Facts]

noncomputable abbrev lit0 : Fin 8 → BitVec 32 := fun
  | 0 => 0x00000000#32 | 1 => 0x00000000#32 | 2 => 0x3F800000#32 | 3 => 0x3F800000#32 | 4 => 0x3F800000#32 | 5 => 0x3F800000#32 | 6 => 0x00000000#32 | 7 => 0x00000000#32
  | _ => 0#32

noncomputable abbrev lit1 : Fin 8 → BitVec 32 := fun
  | 0 => 0xC61C4000#32 | 1 => 0xC61C4000#32 | 2 => 0x00000000#32 | 3 => 0x00000000#32 | 4 => 0x00000000#32 | 5 => 0x00000000#32 | 6 => 0xC61C4000#32 | 7 => 0xC61C4000#32
  | _ => 0#32

def fn_threefry2x32_part9 {F : FTy → Type} [FloatOps F] (arg0 : IVec S_ 32) (v163 : IVec S64x1x8192x8 32) (v169 : IVec S64x1x8192x8 32) (v170 : IVec S64x1x8192x8 32) : IVec S64x1x8192x8 32 × IVec S64x1x8192x8 32 :=
  let v171 : IVec S64x1x8192x8 32 := addi v163 v170
  let v172 : IVec S64x1x8192x8 32 := broadcastInDim S64x1x8192x8 ![] bcast_S_S64x1x8192x8 arg0
  let v173 : IVec S64x1x8192x8 32 := addi v169 v172
  let c_44 : IVec S_ 32 := constantI S_ 32 5#32
  let v174 : IVec S64x1x8192x8 32 := broadcastInDim S64x1x8192x8 ![] bcast_S_S64x1x8192x8 c_44
  let v175 : IVec S64x1x8192x8 32 := addi v173 v174
  (v171, v175)

def fn_threefry2x32_part8 {F : FTy → Type} [FloatOps F] (arg0 : IVec S_ 32) (v1 : IVec S_ 32) (v148 : IVec S64x1x8192x8 32) (v149 : IVec S64x1x8192x8 32) (v151 : IVec S64x1x8192x8 32) : IVec S64x1x8192x8 32 × IVec S64x1x8192x8 32 :=
  let c_39 : IVec S_ 32 := constantI S_ 32 17#32
  let v152 : IVec S64x1x8192x8 32 := broadcastInDim S64x1x8192x8 ![] bcast_S_S64x1x8192x8 c_39
  let v153 : IVec S64x1x8192x8 32 := Host.shrui v148 v152
  let v154 : IVec S64x1x8192x8 32 := ori v151 v153
  let v155 : IVec S64x1x8192x8 32 := xori v149 v154
  let v156 : IVec S64x1x8192x8 32 := addi v149 v155
  let c_40 : IVec S_ 32 := constantI S_ 32 26#32
  let v157 : IVec S64x1x8192x8 32 := broadcastInDim S64x1x8192x8 ![] bcast_S_S64x1x8192x8 c_40
  let v158 : IVec S64x1x8192x8 32 := Host.shli v155 v157
  let c_41 : IVec S_ 32 := constantI S_ 32 6#32
  let v159 : IVec S64x1x8192x8 32 := broadcastInDim S64x1x8192x8 ![] bcast_S_S64x1x8192x8 c_41
  let v160 : IVec S64x1x8192x8 32 := Host.shrui v155 v159
  let v161 : IVec S64x1x8192x8 32 := ori v158 v160
  let v162 : IVec S64x1x8192x8 32 := xori v156 v161
  let v163 : IVec S64x1x8192x8 32 := addi v156 v162
  let c_42 : IVec S_ 32 := constantI S_ 32 6#32
  let v164 : IVec S64x1x8192x8 32 := broadcastInDim S64x1x8192x8 ![] bcast_S_S64x1x8192x8 c_42
  let v165 : IVec S64x1x8192x8 32 := Host.shli v162 v164
  let c_43 : IVec S_ 32 := constantI S_ 32 26#32
  let v166 : IVec S64x1x8192x8 32 := broadcastInDim S64x1x8192x8 ![] bcast_S_S64x1x8192x8 c_43
  let v167 : IVec S64x1x8192x8 32 := Host.shrui v162 v166
  let v168 : IVec S64x1x8192x8 32 := ori v165 v167
  let v169 : IVec S64x1x8192x8 32 := xori v163 v168
  let v170 : IVec S64x1x8192x8 32 := broadcastInDim S64x1x8192x8 ![] bcast_S_S64x1x8192x8 v1
  fn_threefry2x32_part9 (F := F) arg0 v163 v169 v170

def fn_threefry2x32_part7 {F : FTy → Type} [FloatOps F] (arg0 : IVec S_ 32) (arg1 : IVec S_ 32) (v1 : IVec S_ 32) (v128 : IVec S64x1x8192x8 32) (v129 : IVec S64x1x8192x8 32) (v131 : IVec S64x1x8192x8 32) (c_34 : IVec S_ 32) : IVec S64x1x8192x8 32 × IVec S64x1x8192x8 32 :=
  let v132 : IVec S64x1x8192x8 32 := broadcastInDim S64x1x8192x8 ![] bcast_S_S64x1x8192x8 c_34
  let v133 : IVec S64x1x8192x8 32 := Host.shrui v128 v132
  let v134 : IVec S64x1x8192x8 32 := ori v131 v133
  let v135 : IVec S64x1x8192x8 32 := xori v129 v134
  let v136 : IVec S64x1x8192x8 32 := broadcastInDim S64x1x8192x8 ![] bcast_S_S64x1x8192x8 arg1
  let v137 : IVec S64x1x8192x8 32 := addi v129 v136
  let v138 : IVec S64x1x8192x8 32 := broadcastInDim S64x1x8192x8 ![] bcast_S_S64x1x8192x8 v1
  let v139 : IVec S64x1x8192x8 32 := addi v135 v138
  let c_35 : IVec S_ 32 := constantI S_ 32 4#32
  let v140 : IVec S64x1x8192x8 32 := broadcastInDim S64x1x8192x8 ![] bcast_S_S64x1x8192x8 c_35
  let v141 : IVec S64x1x8192x8 32 := addi v139 v140
  let v142 : IVec S64x1x8192x8 32 := addi v137 v141
  let c_36 : IVec S_ 32 := constantI S_ 32 13#32
  let v143 : IVec S64x1x8192x8 32 := broadcastInDim S64x1x8192x8 ![] bcast_S_S64x1x8192x8 c_36
  let v144 : IVec S64x1x8192x8 32 := Host.shli v141 v143
  let c_37 : IVec S_ 32 := constantI S_ 32 19#32
  let v145 : IVec S64x1x8192x8 32 := broadcastInDim S64x1x8192x8 ![] bcast_S_S64x1x8192x8 c_37
  let v146 : IVec S64x1x8192x8 32 := Host.shrui v141 v145
  let v147 : IVec S64x1x8192x8 32 := ori v144 v146
  let v148 : IVec S64x1x8192x8 32 := xori v142 v147
  let v149 : IVec S64x1x8192x8 32 := addi v142 v148
  let c_38 : IVec S_ 32 := constantI S_ 32 15#32
  let v150 : IVec S64x1x8192x8 32 := broadcastInDim S64x1x8192x8 ![] bcast_S_S64x1x8192x8 c_38
  let v151 : IVec S64x1x8192x8 32 := Host.shli v148 v150
  fn_threefry2x32_part8 (F := F) arg0 v1 v148 v149 v151

def fn_threefry2x32_part6 {F : FTy → Type} [FloatOps F] (arg0 : IVec S_ 32) (arg1 : IVec S_ 32) (v1 : IVec S_ 32) (v108 : IVec S64x1x8192x8 32) (v113 : IVec S64x1x8192x8 32) : IVec S64x1x8192x8 32 × IVec S64x1x8192x8 32 :=
  let v114 : IVec S64x1x8192x8 32 := xori v108 v113
  let v115 : IVec S64x1x8192x8 32 := addi v108 v114
  let c_29 : IVec S_ 32 := constantI S_ 32 29#32
  let v116 : IVec S64x1x8192x8 32 := broadcastInDim S64x1x8192x8 ![] bcast_S_S64x1x8192x8 c_29
  let v117 : IVec S64x1x8192x8 32 := Host.shli v114 v116
  let c_30 : IVec S_ 32 := constantI S_ 32 3#32
  let v118 : IVec S64x1x8192x8 32 := broadcastInDim S64x1x8192x8 ![] bcast_S_S64x1x8192x8 c_30
  let v119 : IVec S64x1x8192x8 32 := Host.shrui v114 v118
  let v120 : IVec S64x1x8192x8 32 := ori v117 v119
  let v121 : IVec S64x1x8192x8 32 := xori v115 v120
  let v122 : IVec S64x1x8192x8 32 := addi v115 v121
  let c_31 : IVec S_ 32 := constantI S_ 32 16#32
  let v123 : IVec S64x1x8192x8 32 := broadcastInDim S64x1x8192x8 ![] bcast_S_S64x1x8192x8 c_31
  let v124 : IVec S64x1x8192x8 32 := Host.shli v121 v123
  let c_32 : IVec S_ 32 := constantI S_ 32 16#32
  let v125 : IVec S64x1x8192x8 32 := broadcastInDim S64x1x8192x8 ![] bcast_S_S64x1x8192x8 c_32
  let v126 : IVec S64x1x8192x8 32 := Host.shrui v121 v125
  let v127 : IVec S64x1x8192x8 32 := ori v124 v126
  let v128 : IVec S64x1x8192x8 32 := xori v122 v127
  let v129 : IVec S64x1x8192x8 32 := addi v122 v128
  let c_33 : IVec S_ 32 := constantI S_ 32 24#32
  let v130 : IVec S64x1x8192x8 32 := broadcastInDim S64x1x8192x8 ![] bcast_S_S64x1x8192x8 c_33
  let v131 : IVec S64x1x8192x8 32 := Host.shli v128 v130
  let c_34 : IVec S_ 32 := constantI S_ 32 8#32
  fn_threefry2x32_part7 (F := F) arg0 arg1 v1 v128 v129 v131 c_34

def fn_threefry2x32_part5 {F : FTy → Type} [FloatOps F] (arg0 : IVec S_ 32) (arg1 : IVec S_ 32) (v1 : IVec S_ 32) (v88 : IVec S64x1x8192x8 32) (v94 : IVec S64x1x8192x8 32) : IVec S64x1x8192x8 32 × IVec S64x1x8192x8 32 :=
  let v95 : IVec S64x1x8192x8 32 := addi v88 v94
  let c_24 : IVec S_ 32 := constantI S_ 32 6#32
  let v96 : IVec S64x1x8192x8 32 := broadcastInDim S64x1x8192x8 ![] bcast_S_S64x1x8192x8 c_24
  let v97 : IVec S64x1x8192x8 32 := Host.shli v94 v96
  let c_25 : IVec S_ 32 := constantI S_ 32 26#32
  let v98 : IVec S64x1x8192x8 32 := broadcastInDim S64x1x8192x8 ![] bcast_S_S64x1x8192x8 c_25
  let v99 : IVec S64x1x8192x8 32 := Host.shrui v94 v98
  let v100 : IVec S64x1x8192x8 32 := ori v97 v99
  let v101 : IVec S64x1x8192x8 32 := xori v95 v100
  let v102 : IVec S64x1x8192x8 32 := broadcastInDim S64x1x8192x8 ![] bcast_S_S64x1x8192x8 arg0
  let v103 : IVec S64x1x8192x8 32 := addi v95 v102
  let v104 : IVec S64x1x8192x8 32 := broadcastInDim S64x1x8192x8 ![] bcast_S_S64x1x8192x8 arg1
  let v105 : IVec S64x1x8192x8 32 := addi v101 v104
  let c_26 : IVec S_ 32 := constantI S_ 32 3#32
  let v106 : IVec S64x1x8192x8 32 := broadcastInDim S64x1x8192x8 ![] bcast_S_S64x1x8192x8 c_26
  let v107 : IVec S64x1x8192x8 32 := addi v105 v106
  let v108 : IVec S64x1x8192x8 32 := addi v103 v107
  let c_27 : IVec S_ 32 := constantI S_ 32 17#32
  let v109 : IVec S64x1x8192x8 32 := broadcastInDim S64x1x8192x8 ![] bcast_S_S64x1x8192x8 c_27
  let v110 : IVec S64x1x8192x8 32 := Host.shli v107 v109
  let c_28 : IVec S_ 32 := constantI S_ 32 15#32
  let v111 : IVec S64x1x8192x8 32 := broadcastInDim S64x1x8192x8 ![] bcast_S_S64x1x8192x8 c_28
  let v112 : IVec S64x1x8192x8 32 := Host.shrui v107 v111
  let v113 : IVec S64x1x8192x8 32 := ori v110 v112
  fn_threefry2x32_part6 (F := F) arg0 arg1 v1 v108 v113

def fn_threefry2x32_part4 {F : FTy → Type} [FloatOps F] (arg0 : IVec S_ 32) (arg1 : IVec S_ 32) (v1 : IVec S_ 32) (v73 : IVec S64x1x8192x8 32) (v74 : IVec S64x1x8192x8 32) (v75 : IVec S64x1x8192x8 32) : IVec S64x1x8192x8 32 × IVec S64x1x8192x8 32 :=
  let v76 : IVec S64x1x8192x8 32 := Host.shli v73 v75
  let c_19 : IVec S_ 32 := constantI S_ 32 19#32
  let v77 : IVec S64x1x8192x8 32 := broadcastInDim S64x1x8192x8 ![] bcast_S_S64x1x8192x8 c_19
  let v78 : IVec S64x1x8192x8 32 := Host.shrui v73 v77
  let v79 : IVec S64x1x8192x8 32 := ori v76 v78
  let v80 : IVec S64x1x8192x8 32 := xori v74 v79
  let v81 : IVec S64x1x8192x8 32 := addi v74 v80
  let c_20 : IVec S_ 32 := constantI S_ 32 15#32
  let v82 : IVec S64x1x8192x8 32 := broadcastInDim S64x1x8192x8 ![] bcast_S_S64x1x8192x8 c_20
  let v83 : IVec S64x1x8192x8 32 := Host.shli v80 v82
  let c_21 : IVec S_ 32 := constantI S_ 32 17#32
  let v84 : IVec S64x1x8192x8 32 := broadcastInDim S64x1x8192x8 ![] bcast_S_S64x1x8192x8 c_21
  let v85 : IVec S64x1x8192x8 32 := Host.shrui v80 v84
  let v86 : IVec S64x1x8192x8 32 := ori v83 v85
  let v87 : IVec S64x1x8192x8 32 := xori v81 v86
  let v88 : IVec S64x1x8192x8 32 := addi v81 v87
  let c_22 : IVec S_ 32 := constantI S_ 32 26#32
  let v89 : IVec S64x1x8192x8 32 := broadcastInDim S64x1x8192x8 ![] bcast_S_S64x1x8192x8 c_22
  let v90 : IVec S64x1x8192x8 32 := Host.shli v87 v89
  let c_23 : IVec S_ 32 := constantI S_ 32 6#32
  let v91 : IVec S64x1x8192x8 32 := broadcastInDim S64x1x8192x8 ![] bcast_S_S64x1x8192x8 c_23
  let v92 : IVec S64x1x8192x8 32 := Host.shrui v87 v91
  let v93 : IVec S64x1x8192x8 32 := ori v90 v92
  let v94 : IVec S64x1x8192x8 32 := xori v88 v93
  fn_threefry2x32_part5 (F := F) arg0 arg1 v1 v88 v94

def fn_threefry2x32_part3 {F : FTy → Type} [FloatOps F] (arg0 : IVec S_ 32) (arg1 : IVec S_ 32) (v1 : IVec S_ 32) (v53 : IVec S64x1x8192x8 32) (v54 : IVec S64x1x8192x8 32) (v56 : IVec S64x1x8192x8 32) : IVec S64x1x8192x8 32 × IVec S64x1x8192x8 32 :=
  let c_14 : IVec S_ 32 := constantI S_ 32 16#32
  let v57 : IVec S64x1x8192x8 32 := broadcastInDim S64x1x8192x8 ![] bcast_S_S64x1x8192x8 c_14
  let v58 : IVec S64x1x8192x8 32 := Host.shrui v53 v57
  let v59 : IVec S64x1x8192x8 32 := ori v56 v58
  let v60 : IVec S64x1x8192x8 32 := xori v54 v59
  let v61 : IVec S64x1x8192x8 32 := addi v54 v60
  let c_15 : IVec S_ 32 := constantI S_ 32 24#32
  let v62 : IVec S64x1x8192x8 32 := broadcastInDim S64x1x8192x8 ![] bcast_S_S64x1x8192x8 c_15
  let v63 : IVec S64x1x8192x8 32 := Host.shli v60 v62
  let c_16 : IVec S_ 32 := constantI S_ 32 8#32
  let v64 : IVec S64x1x8192x8 32 := broadcastInDim S64x1x8192x8 ![] bcast_S_S64x1x8192x8 c_16
  let v65 : IVec S64x1x8192x8 32 := Host.shrui v60 v64
  let v66 : IVec S64x1x8192x8 32 := ori v63 v65
  let v67 : IVec S64x1x8192x8 32 := xori v61 v66
  let v68 : IVec S64x1x8192x8 32 := broadcastInDim S64x1x8192x8 ![] bcast_S_S64x1x8192x8 v1
  let v69 : IVec S64x1x8192x8 32 := addi v61 v68
  let v70 : IVec S64x1x8192x8 32 := broadcastInDim S64x1x8192x8 ![] bcast_S_S64x1x8192x8 arg0
  let v71 : IVec S64x1x8192x8 32 := addi v67 v70
  let c_17 : IVec S_ 32 := constantI S_ 32 2#32
  let v72 : IVec S64x1x8192x8 32 := broadcastInDim S64x1x8192x8 ![] bcast_S_S64x1x8192x8 c_17
  let v73 : IVec S64x1x8192x8 32 := addi v71 v72
  let v74 : IVec S64x1x8192x8 32 := addi v69 v73
  let c_18 : IVec S_ 32 := constantI S_ 32 13#32
  let v75 : IVec S64x1x8192x8 32 := broadcastInDim S64x1x8192x8 ![] bcast_S_S64x1x8192x8 c_18
  fn_threefry2x32_part4 (F := F) arg0 arg1 v1 v73 v74 v75

def fn_threefry2x32_part2 {F : FTy → Type} [FloatOps F] (arg0 : IVec S_ 32) (arg1 : IVec S_ 32) (v1 : IVec S_ 32) (v35 : IVec S64x1x8192x8 32) (v37 : IVec S64x1x8192x8 32) (c_8 : IVec S_ 32) : IVec S64x1x8192x8 32 × IVec S64x1x8192x8 32 :=
  let v38 : IVec S64x1x8192x8 32 := broadcastInDim S64x1x8192x8 ![] bcast_S_S64x1x8192x8 c_8
  let v39 : IVec S64x1x8192x8 32 := addi v37 v38
  let v40 : IVec S64x1x8192x8 32 := addi v35 v39
  let c_9 : IVec S_ 32 := constantI S_ 32 17#32
  let v41 : IVec S64x1x8192x8 32 := broadcastInDim S64x1x8192x8 ![] bcast_S_S64x1x8192x8 c_9
  let v42 : IVec S64x1x8192x8 32 := Host.shli v39 v41
  let c_10 : IVec S_ 32 := constantI S_ 32 15#32
  let v43 : IVec S64x1x8192x8 32 := broadcastInDim S64x1x8192x8 ![] bcast_S_S64x1x8192x8 c_10
  let v44 : IVec S64x1x8192x8 32 := Host.shrui v39 v43
  let v45 : IVec S64x1x8192x8 32 := ori v42 v44
  let v46 : IVec S64x1x8192x8 32 := xori v40 v45
  let v47 : IVec S64x1x8192x8 32 := addi v40 v46
  let c_11 : IVec S_ 32 := constantI S_ 32 29#32
  let v48 : IVec S64x1x8192x8 32 := broadcastInDim S64x1x8192x8 ![] bcast_S_S64x1x8192x8 c_11
  let v49 : IVec S64x1x8192x8 32 := Host.shli v46 v48
  let c_12 : IVec S_ 32 := constantI S_ 32 3#32
  let v50 : IVec S64x1x8192x8 32 := broadcastInDim S64x1x8192x8 ![] bcast_S_S64x1x8192x8 c_12
  let v51 : IVec S64x1x8192x8 32 := Host.shrui v46 v50
  let v52 : IVec S64x1x8192x8 32 := ori v49 v51
  let v53 : IVec S64x1x8192x8 32 := xori v47 v52
  let v54 : IVec S64x1x8192x8 32 := addi v47 v53
  let c_13 : IVec S_ 32 := constantI S_ 32 16#32
  let v55 : IVec S64x1x8192x8 32 := broadcastInDim S64x1x8192x8 ![] bcast_S_S64x1x8192x8 c_13
  let v56 : IVec S64x1x8192x8 32 := Host.shli v53 v55
  fn_threefry2x32_part3 (F := F) arg0 arg1 v1 v53 v54 v56

def fn_threefry2x32_part1 {F : FTy → Type} [FloatOps F] (arg0 : IVec S_ 32) (arg1 : IVec S_ 32) (v1 : IVec S_ 32) (v13 : IVec S64x1x8192x8 32) (v18 : IVec S64x1x8192x8 32) : IVec S64x1x8192x8 32 × IVec S64x1x8192x8 32 :=
  let v19 : IVec S64x1x8192x8 32 := xori v13 v18
  let v20 : IVec S64x1x8192x8 32 := addi v13 v19
  let c_4 : IVec S_ 32 := constantI S_ 32 26#32
  let v21 : IVec S64x1x8192x8 32 := broadcastInDim S64x1x8192x8 ![] bcast_S_S64x1x8192x8 c_4
  let v22 : IVec S64x1x8192x8 32 := Host.shli v19 v21
  let c_5 : IVec S_ 32 := constantI S_ 32 6#32
  let v23 : IVec S64x1x8192x8 32 := broadcastInDim S64x1x8192x8 ![] bcast_S_S64x1x8192x8 c_5
  let v24 : IVec S64x1x8192x8 32 := Host.shrui v19 v23
  let v25 : IVec S64x1x8192x8 32 := ori v22 v24
  let v26 : IVec S64x1x8192x8 32 := xori v20 v25
  let v27 : IVec S64x1x8192x8 32 := addi v20 v26
  let c_6 : IVec S_ 32 := constantI S_ 32 6#32
  let v28 : IVec S64x1x8192x8 32 := broadcastInDim S64x1x8192x8 ![] bcast_S_S64x1x8192x8 c_6
  let v29 : IVec S64x1x8192x8 32 := Host.shli v26 v28
  let c_7 : IVec S_ 32 := constantI S_ 32 26#32
  let v30 : IVec S64x1x8192x8 32 := broadcastInDim S64x1x8192x8 ![] bcast_S_S64x1x8192x8 c_7
  let v31 : IVec S64x1x8192x8 32 := Host.shrui v26 v30
  let v32 : IVec S64x1x8192x8 32 := ori v29 v31
  let v33 : IVec S64x1x8192x8 32 := xori v27 v32
  let v34 : IVec S64x1x8192x8 32 := broadcastInDim S64x1x8192x8 ![] bcast_S_S64x1x8192x8 arg1
  let v35 : IVec S64x1x8192x8 32 := addi v27 v34
  let v36 : IVec S64x1x8192x8 32 := broadcastInDim S64x1x8192x8 ![] bcast_S_S64x1x8192x8 v1
  let v37 : IVec S64x1x8192x8 32 := addi v33 v36
  let c_8 : IVec S_ 32 := constantI S_ 32 1#32
  fn_threefry2x32_part2 (F := F) arg0 arg1 v1 v35 v37 c_8

def fn_threefry2x32 {F : FTy → Type} [FloatOps F] (arg0 : IVec S_ 32) (arg1 : IVec S_ 32) (arg2 : IVec S64x1x8192x8 32) (arg3 : IVec S64x1x8192x8 32) : IVec S64x1x8192x8 32 × IVec S64x1x8192x8 32 :=
  let v0 : IVec S_ 32 := xori arg0 arg1
  let c : IVec S_ 32 := constantI S_ 32 466688986#32
  let v1 : IVec S_ 32 := xori v0 c
  let v2 : IVec S64x1x8192x8 32 := broadcastInDim S64x1x8192x8 ![] bcast_S_S64x1x8192x8 arg0
  let v3 : IVec S64x1x8192x8 32 := addi arg2 v2
  let v4 : IVec S64x1x8192x8 32 := broadcastInDim S64x1x8192x8 ![] bcast_S_S64x1x8192x8 arg1
  let v5 : IVec S64x1x8192x8 32 := addi arg3 v4
  let v6 : IVec S64x1x8192x8 32 := addi v3 v5
  let c_0 : IVec S_ 32 := constantI S_ 32 13#32
  let v7 : IVec S64x1x8192x8 32 := broadcastInDim S64x1x8192x8 ![] bcast_S_S64x1x8192x8 c_0
  let v8 : IVec S64x1x8192x8 32 := Host.shli v5 v7
  let c_1 : IVec S_ 32 := constantI S_ 32 19#32
  let v9 : IVec S64x1x8192x8 32 := broadcastInDim S64x1x8192x8 ![] bcast_S_S64x1x8192x8 c_1
  let v10 : IVec S64x1x8192x8 32 := Host.shrui v5 v9
  let v11 : IVec S64x1x8192x8 32 := ori v8 v10
  let v12 : IVec S64x1x8192x8 32 := xori v6 v11
  let v13 : IVec S64x1x8192x8 32 := addi v6 v12
  let c_2 : IVec S_ 32 := constantI S_ 32 15#32
  let v14 : IVec S64x1x8192x8 32 := broadcastInDim S64x1x8192x8 ![] bcast_S_S64x1x8192x8 c_2
  let v15 : IVec S64x1x8192x8 32 := Host.shli v12 v14
  let c_3 : IVec S_ 32 := constantI S_ 32 17#32
  let v16 : IVec S64x1x8192x8 32 := broadcastInDim S64x1x8192x8 ![] bcast_S_S64x1x8192x8 c_3
  let v17 : IVec S64x1x8192x8 32 := Host.shrui v12 v16
  let v18 : IVec S64x1x8192x8 32 := ori v15 v17
  fn_threefry2x32_part1 (F := F) arg0 arg1 v1 v13 v18

def fn_uniform_part2 {F : FTy → Type} [FloatOps F] (v2 : FVec F S1x1x1x1 .f32) (v38 : FVec F S64x1x8192x8 .f32) : FVec F S64x1x8192x8 .f32 :=
  let v39 : FVec F S64x1x8192x8 .f32 := broadcastInDim S64x1x8192x8 ![0, 1, 2, 3] bcast_S1x1x1x1_S64x1x8192x8_0_1_2_3 v2
  let v40 : FVec F S64x1x8192x8 .f32 := addf v38 v39
  let v41 : FVec F S64x1x8192x8 .f32 := broadcastInDim S64x1x8192x8 ![0, 1, 2, 3] bcast_S1x1x1x1_S64x1x8192x8_0_1_2_3 v2
  let v42 : FVec F S64x1x8192x8 .f32 := maximumf v41 v40
  v42

def fn_uniform_part1 {F : FTy → Type} [FloatOps F] (v2 : FVec F S1x1x1x1 .f32) (v3 : FVec F S1x1x1x1 .f32) (v5 : IVec S_ 32) (v7 : IVec S_ 32) (v13 : IVec S64x1x8192x8 64) (v15 : IVec S64x1x8192x8 64) (v17 : IVec S64x1x8192x8 64) (v19 : IVec S64x1x8192x8 64) : FVec F S64x1x8192x8 .f32 :=
  let v20 : IVec S64x1x8192x8 64 := addi v13 v15
  let v21 : IVec S64x1x8192x8 64 := addi v20 v17
  let v22 : IVec S64x1x8192x8 64 := addi v21 v19
  let c_3 : IVec S_ 64 := constantI S_ 64 32#64
  let v23 : IVec S64x1x8192x8 64 := broadcastInDim S64x1x8192x8 ![] bcast_S_S64x1x8192x8 c_3
  let v24 : IVec S64x1x8192x8 64 := Host.shrui v22 v23
  let v25 : IVec S64x1x8192x8 32 := (trunci 32 · natLt_32_64) v22
  let v26 : IVec S64x1x8192x8 32 := (trunci 32 · natLt_32_64) v24
  let v27_0 : IVec S64x1x8192x8 32 := (fn_threefry2x32 (F := F) v5 v7 v26 v25).1
  let v27_1 : IVec S64x1x8192x8 32 := (fn_threefry2x32 (F := F) v5 v7 v26 v25).2
  let v28 : IVec S64x1x8192x8 32 := xori v27_0 v27_1
  let c_4 : IVec S_ 32 := constantI S_ 32 9#32
  let v29 : IVec S64x1x8192x8 32 := broadcastInDim S64x1x8192x8 ![] bcast_S_S64x1x8192x8 c_4
  let v30 : IVec S64x1x8192x8 32 := Host.shrui v28 v29
  let c_5 : IVec S_ 32 := constantI S_ 32 1065353216#32
  let v31 : IVec S64x1x8192x8 32 := broadcastInDim S64x1x8192x8 ![] bcast_S_S64x1x8192x8 c_5
  let v32 : IVec S64x1x8192x8 32 := ori v30 v31
  let v33 : FVec F S64x1x8192x8 .f32 := bitcastToFloat .f32 v32
  let cst : FVec F S_ .f32 := constant S_ .f32 0x3F800000#32
  let v34 : FVec F S64x1x8192x8 .f32 := broadcastInDim S64x1x8192x8 ![] bcast_S_S64x1x8192x8 cst
  let v35 : FVec F S64x1x8192x8 .f32 := subf v33 v34
  let v36 : FVec F S1x1x1x1 .f32 := subf v3 v2
  let v37 : FVec F S64x1x8192x8 .f32 := broadcastInDim S64x1x8192x8 ![0, 1, 2, 3] bcast_S1x1x1x1_S64x1x8192x8_0_1_2_3 v36
  let v38 : FVec F S64x1x8192x8 .f32 := mulf v35 v37
  fn_uniform_part2 (F := F) v2 v38

def fn_uniform {F : FTy → Type} [FloatOps F] (arg0 : IVec S2 32) (arg1 : FVec F S_ .f32) (arg2 : FVec F S_ .f32) : FVec F S64x1x8192x8 .f32 :=
  let v0 : FVec F S_ .f32 := id arg1
  let v1 : FVec F S_ .f32 := id arg2
  let v2 : FVec F S1x1x1x1 .f32 := broadcastInDim S1x1x1x1 ![] bcast_S_S1x1x1x1 v0
  let v3 : FVec F S1x1x1x1 .f32 := broadcastInDim S1x1x1x1 ![] bcast_S_S1x1x1x1 v1
  let v4 : IVec S1 32 := (extractStridedSlice S1 ![0] · slices_S2_S1_0) arg0
  let v5 : IVec S_ 32 := shapeCast S_ v4 shapeCasts_S1_S_
  let v6 : IVec S1 32 := (extractStridedSlice S1 ![1] · slices_S2_S1_1) arg0
  let v7 : IVec S_ 32 := shapeCast S_ v6 shapeCasts_S1_S_
  let v8 : IVec S64x1x8192x8 64 := iotaInDim S64x1x8192x8 64 0
  let v9 : IVec S64x1x8192x8 64 := iotaInDim S64x1x8192x8 64 1
  let v10 : IVec S64x1x8192x8 64 := iotaInDim S64x1x8192x8 64 2
  let v11 : IVec S64x1x8192x8 64 := iotaInDim S64x1x8192x8 64 3
  let c : IVec S_ 64 := constantI S_ 64 65536#64
  let v12 : IVec S64x1x8192x8 64 := broadcastInDim S64x1x8192x8 ![] bcast_S_S64x1x8192x8 c
  let v13 : IVec S64x1x8192x8 64 := muli v12 v8
  let c_0 : IVec S_ 64 := constantI S_ 64 65536#64
  let v14 : IVec S64x1x8192x8 64 := broadcastInDim S64x1x8192x8 ![] bcast_S_S64x1x8192x8 c_0
  let v15 : IVec S64x1x8192x8 64 := muli v14 v9
  let c_1 : IVec S_ 64 := constantI S_ 64 8#64
  let v16 : IVec S64x1x8192x8 64 := broadcastInDim S64x1x8192x8 ![] bcast_S_S64x1x8192x8 c_1
  let v17 : IVec S64x1x8192x8 64 := muli v16 v10
  let c_2 : IVec S_ 64 := constantI S_ 64 1#64
  let v18 : IVec S64x1x8192x8 64 := broadcastInDim S64x1x8192x8 ![] bcast_S_S64x1x8192x8 c_2
  let v19 : IVec S64x1x8192x8 64 := muli v18 v11
  fn_uniform_part1 (F := F) v2 v3 v5 v7 v13 v15 v17 v19

def fn_part2 {F : FTy → Type} [FloatOps F] (main_v6 : IVec S_ 1) (main_v33 : FVec F S64x1x8192x8 .f32) (main_cst_11 : FVec F S_ .f32) : IVec S_ 1 :=
  let main_v34 : FVec F S64x1x8192 .f32 := (fun x v => Host.reduce FloatOps.maximumf x v reducesTo_S64x1x8192x8_S64x1x8192_d3 h_S_) main_v33 main_cst_11
  let main_v35 : FVec F S64x1x8192x1 .f32 := broadcastInDim S64x1x8192x1 ![0, 1, 2] bcast_S64x1x8192_S64x1x8192x1_0_1_2 main_v34
  let main_v36 : FVec F S64x1x8192x8 .f32 := broadcastInDim S64x1x8192x8 ![0, 1, 2, 3] bcast_S64x1x8192x1_S64x1x8192x8_0_1_2_3 main_v35
  let main_v37 : IVec S64x1x8192x8 1 := cmpf .oeq main_v33 main_v36
  let main_v38 : IVec S64x1x8192x8 32 := (extui 32 · natLt_1_32) main_v37
  let main_c_12 : IVec S_ 32 := constantI S_ 32 0#32
  let main_v39 : IVec S64x1x8192 32 := (fun x v => Host.reduce IntOp.addi x v reducesTo_S64x1x8192x8_S64x1x8192_d3 h_S_) main_v38 main_c_12
  let main_c_13 : IVec S_ 32 := constantI S_ 32 1#32
  let main_v40 : IVec S64x1x8192 32 := broadcastInDim S64x1x8192 ![] bcast_S_S64x1x8192 main_c_13
  let main_v41 : IVec S64x1x8192 1 := cmpi .eq main_v39 main_v40
  let main_c_14 : IVec S_ 1 := constantI S_ 1 1#1
  let main_v42 : IVec S_ 1 := (fun x v => Host.reduce IntOp.andi x v reducesTo_S64x1x8192_S_d0_1_2 h_S_) main_v41 main_c_14
  let main_v43 : IVec S_ 1 := andi main_v6 main_v42
  main_v43

def fn_part1 {F : FTy → Type} [FloatOps F] (main_v6 : IVec S_ 1) (main_v12 : FVec F S1x8192x8 .f32) (main_c_3 : IVec S_ 32) (main_v15 : IVec S1 32) (main_c_5 : IVec S_ 32) : IVec S_ 1 :=
  let main_v16 : IVec S_ 32 := andi main_c_3 main_c_5
  let main_v17 : IVec S_ 32 := id main_v16
  let main_v18 : IVec S1 32 := broadcastInDim S1 ![] bcast_S_S1 main_v17
  let main_v19 : IVec S2 32 := (fun a b => concatenate S2 0 [⟨S1, a⟩, ⟨S1, b⟩] concatenates_S1_S1_S2_d0) main_v15 main_v18
  let main_cst_6 : FVec F S_ .f32 := constant S_ .f32 0x00000000#32
  let main_cst_7 : FVec F S_ .f32 := constant S_ .f32 0x3F800000#32
  let main_v20 : FVec F S64x1x8192x8 .f32 := fn_uniform (F := F) main_v19 main_cst_6 main_cst_7
  let main_cst_8 : FVec F S_ .f32 := constant S_ .f32 0x3F800000#32
  let main_v21 : FVec F S64x1x8192x8 .f32 := broadcastInDim S64x1x8192x8 ![] bcast_S_S64x1x8192x8 main_cst_8
  let main_v22 : FVec F S64x1x8192x8 .f32 := mulf main_v20 main_v21
  let main_cst_9 : FVec F S_ .f32 := constant S_ .f32 0x00800000#32
  let main_v23 : FVec F S64x1x8192x8 .f32 := broadcastInDim S64x1x8192x8 ![] bcast_S_S64x1x8192x8 main_cst_9
  let main_v24 : FVec F S64x1x8192x8 .f32 := addf main_v22 main_v23
  let main_cst_10 : FVec F S_ .f32 := constant S_ .f32 0x00800000#32
  let main_v25 : FVec F S64x1x8192x8 .f32 := broadcastInDim S64x1x8192x8 ![] bcast_S_S64x1x8192x8 main_cst_10
  let main_v26 : FVec F S64x1x8192x8 .f32 := maximumf main_v25 main_v24
  let main_v27 : FVec F S64x1x8192x8 .f32 := Host.log main_v26
  let main_v28 : FVec F S64x1x8192x8 .f32 := Host.negf main_v27
  let main_v29 : FVec F S64x1x8192x8 .f32 := Host.log main_v28
  let main_v30 : FVec F S64x1x8192x8 .f32 := Host.negf main_v29
  let main_v31 : FVec F S1x1x8192x8 .f32 := broadcastInDim S1x1x8192x8 ![1, 2, 3] bcast_S1x8192x8_S1x1x8192x8_1_2_3 main_v12
  let main_v32 : FVec F S64x1x8192x8 .f32 := broadcastInDim S64x1x8192x8 ![0, 1, 2, 3] bcast_S1x1x8192x8_S64x1x8192x8_0_1_2_3 main_v31
  let main_v33 : FVec F S64x1x8192x8 .f32 := addf main_v30 main_v32
  let main_cst_11 : FVec F S_ .f32 := constant S_ .f32 0xFF800000#32
  fn_part2 (F := F) main_v6 main_v33 main_cst_11

def fn {F : FTy → Type} [FloatOps F] (main_arg0 : FVec F S1x8192x8 .f32) : IVec S_ 1 :=
  let main_cst : FVec F S8 .f32 := fun i => FloatOps.ofBits .f32 (lit0 (S8.rowMajor i))
  let main_cst_0 : FVec F S8 .f32 := fun i => FloatOps.ofBits .f32 (lit1 (S8.rowMajor i))
  let main_v0 : FVec F S1x8192x4 .f32 := (extractStridedSlice S1x8192x4 ![0, 0, 2] · slices_S1x8192x8_S1x8192x4_0_0_2) main_arg0
  let main_cst_1 : FVec F S_ .f32 := constant S_ .f32 0xC60CA000#32
  let main_v1 : FVec F S1x8192x4 .f32 := broadcastInDim S1x8192x4 ![] bcast_S_S1x8192x4 main_cst_1
  let main_v2 : IVec S1x8192x4 1 := cmpf .oge main_v0 main_v1
  let main_cst_2 : FVec F S_ .f32 := constant S_ .f32 0x7F800000#32
  let main_v3 : FVec F S1x8192x4 .f32 := broadcastInDim S1x8192x4 ![] bcast_S_S1x8192x4 main_cst_2
  let main_v4 : IVec S1x8192x4 1 := cmpf .olt main_v0 main_v3
  let main_v5 : IVec S1x8192x4 1 := andi main_v2 main_v4
  let main_c : IVec S_ 1 := constantI S_ 1 1#1
  let main_v6 : IVec S_ 1 := (fun x v => Host.reduce IntOp.andi x v reducesTo_S1x8192x4_S_d0_1_2 h_S_) main_v5 main_c
  let main_v7 : FVec F S1x1x8 .f32 := broadcastInDim S1x1x8 ![2] bcast_S8_S1x1x8_2 main_cst
  let main_v8 : FVec F S1x8192x8 .f32 := broadcastInDim S1x8192x8 ![0, 1, 2] bcast_S1x1x8_S1x8192x8_0_1_2 main_v7
  let main_v9 : FVec F S1x8192x8 .f32 := mulf main_arg0 main_v8
  let main_v10 : FVec F S1x1x8 .f32 := broadcastInDim S1x1x8 ![2] bcast_S8_S1x1x8_2 main_cst_0
  let main_v11 : FVec F S1x8192x8 .f32 := broadcastInDim S1x8192x8 ![0, 1, 2] bcast_S1x1x8_S1x8192x8_0_1_2 main_v10
  let main_v12 : FVec F S1x8192x8 .f32 := addf main_v9 main_v11
  let main_c_3 : IVec S_ 32 := constantI S_ 32 1234#32
  let main_c_4 : IVec S_ 32 := constantI S_ 32 32#32
  let main_v13 : IVec S_ 32 := Host.shrui main_c_3 main_c_4
  let main_v14 : IVec S_ 32 := id main_v13
  let main_v15 : IVec S1 32 := broadcastInDim S1 ![] bcast_S_S1 main_v14
  let main_c_5 : IVec S_ 32 := constantI S_ 32 4294967295#32
  fn_part1 (F := F) main_v6 main_v12 main_c_3 main_v15 main_c_5
-- ==== Kernel.lean ====
abbrev S1x8192x8 : Shape := ⟨3, ![1, 8192, 8]⟩
abbrev S8x8192 : Shape := ⟨2, ![8, 8192]⟩
abbrev S8192x8 : Shape := ⟨2, ![8192, 8]⟩
abbrev S64x8x8192 : Shape := ⟨3, ![64, 8, 8192]⟩
abbrev S8x8x8192 : Shape := ⟨3, ![8, 8, 8192]⟩
abbrev S4x8192 : Shape := ⟨2, ![4, 8192]⟩
abbrev S7x8192 : Shape := ⟨2, ![7, 8192]⟩
abbrev S1x8192 : Shape := ⟨2, ![1, 8192]⟩
abbrev S6x8192 : Shape := ⟨2, ![6, 8192]⟩
abbrev S2x8192 : Shape := ⟨2, ![2, 8192]⟩
abbrev S1x8x8192 : Shape := ⟨3, ![1, 8, 8192]⟩
abbrev S64x8192x8 : Shape := ⟨3, ![64, 8192, 8]⟩
abbrev S1x64x8192x8 : Shape := ⟨4, ![1, 64, 8192, 8]⟩

abbrev nBuf : Space → Nat
  | .hbm => 7
  | .vmem => 4
  | .smem => 0
  | _ => 0

abbrev bufTy : (tb : Table) → Fin (tcTables nBuf tb) → BufTy
  | .hbm, ⟨0, _⟩ => ⟨S1x8192x8, .f32⟩
  | .hbm, ⟨1, _⟩ => ⟨S8x8192, .i32⟩
  | .hbm, ⟨2, _⟩ => ⟨S8192x8, .f32⟩
  | .hbm, ⟨3, _⟩ => ⟨S8x8192, .f32⟩
  | .hbm, ⟨4, _⟩ => ⟨S64x8x8192, .f32⟩
  | .hbm, ⟨5, _⟩ => ⟨S64x8192x8, .f32⟩
  | .hbm, ⟨6, _⟩ => ⟨S1x64x8192x8, .f32⟩
  | .local _ .vmem, ⟨0, _⟩ => ⟨S8x8192, .f32⟩
  | .local _ .vmem, ⟨1, _⟩ => ⟨S8x8192, .i32⟩
  | .local _ .vmem, ⟨2, _⟩ => ⟨S8x8x8192, .f32⟩
  | .local _ .vmem, ⟨3, _⟩ => ⟨S8x8x8192, .f32⟩
  | _, _ => ⟨S1x8192x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x8192 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x8x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S1x8192x8 : Shape := ⟨3, ![1, 8192, 8]⟩
abbrev S8 : Shape := ⟨1, ![8]⟩
abbrev S1x1x8 : Shape := ⟨3, ![1, 1, 8]⟩
abbrev S_ : Shape := ⟨0, ![]⟩
abbrev S1 : Shape := ⟨1, ![1]⟩
abbrev S2 : Shape := ⟨1, ![2]⟩
abbrev S1x1x1x1 : Shape := ⟨4, ![1, 1, 1, 1]⟩
abbrev S64x1x8192x8 : Shape := ⟨4, ![64, 1, 8192, 8]⟩
abbrev S1x1x8192x8 : Shape := ⟨4, ![1, 1, 8192, 8]⟩
abbrev S64x1x8192 : Shape := ⟨3, ![64, 1, 8192]⟩
abbrev S1x64x8192 : Shape := ⟨3, ![1, 64, 8192]⟩
abbrev S1x64x8192x1 : Shape := ⟨4, ![1, 64, 8192, 1]⟩
abbrev S1x1x1x8 : Shape := ⟨4, ![1, 1, 1, 8]⟩
abbrev S1x64x8192x8 : Shape := ⟨4, ![1, 64, 8192, 8]⟩
abbrev S1x8192 : Shape := ⟨2, ![1, 8192]⟩
abbrev S1x8192x1 : Shape := ⟨3, ![1, 8192, 1]⟩

abbrev nBuf : Space → Nat
  | .hbm => 342
  | .vmem => 0
  | .smem => 0
  | _ => 0

abbrev hbmTy0_0 (i : Nat) : BufTy := match i % 128 with
  | 0 => ⟨S1x8192x8, .f32⟩
  | 1 => ⟨S8, .f32⟩
  | 2 => ⟨S8, .f32⟩
  | 3 => ⟨S1x1x8, .f32⟩
  | 4 => ⟨S1x8192x8, .f32⟩
  | 5 => ⟨S1x8192x8, .f32⟩
  | 6 => ⟨S1x1x8, .f32⟩
  | 7 => ⟨S1x8192x8, .f32⟩
  | 8 => ⟨S1x8192x8, .f32⟩
  | 9 => ⟨S_, .i32⟩
  | 10 => ⟨S_, .i32⟩
  | 11 => ⟨S_, .i32⟩
  | 12 => ⟨S_, .i32⟩
  | 13 => ⟨S1, .i32⟩
  | 14 => ⟨S_, .i32⟩
  | 15 => ⟨S_, .i32⟩
  | 16 => ⟨S_, .i32⟩
  | 17 => ⟨S1, .i32⟩
  | 18 => ⟨S2, .i32⟩
  | 19 => ⟨S_, .f32⟩
  | 20 => ⟨S_, .f32⟩
  | 21 => ⟨S_, .f32⟩
  | 22 => ⟨S_, .f32⟩
  | 23 => ⟨S1x1x1x1, .f32⟩
  | 24 => ⟨S1x1x1x1, .f32⟩
  | 25 => ⟨S1, .i32⟩
  | 26 => ⟨S_, .i32⟩
  | 27 => ⟨S1, .i32⟩
  | 28 => ⟨S_, .i32⟩
  | 29 => ⟨S64x1x8192x8, .i64⟩
  | 30 => ⟨S64x1x8192x8, .i64⟩
  | 31 => ⟨S64x1x8192x8, .i64⟩
  | 32 => ⟨S64x1x8192x8, .i64⟩
  | 33 => ⟨S_, .i64⟩
  | 34 => ⟨S64x1x8192x8, .i64⟩
  | 35 => ⟨S64x1x8192x8, .i64⟩
  | 36 => ⟨S_, .i64⟩
  | 37 => ⟨S64x1x8192x8, .i64⟩
  | 38 => ⟨S64x1x8192x8, .i64⟩
  | 39 => ⟨S_, .i64⟩
  | 40 => ⟨S64x1x8192x8, .i64⟩
  | 41 => ⟨S64x1x8192x8, .i64⟩
  | 42 => ⟨S_, .i64⟩
  | 43 => ⟨S64x1x8192x8, .i64⟩
  | 44 => ⟨S64x1x8192x8, .i64⟩
  | 45 => ⟨S64x1x8192x8, .i64⟩
  | 46 => ⟨S64x1x8192x8, .i64⟩
  | 47 => ⟨S64x1x8192x8, .i64⟩
  | 48 => ⟨S_, .i64⟩
  | 49 => ⟨S64x1x8192x8, .i64⟩
  | 50 => ⟨S64x1x8192x8, .i64⟩
  | 51 => ⟨S64x1x8192x8, .i32⟩
  | 52 => ⟨S64x1x8192x8, .i32⟩
  | 53 => ⟨S_, .i32⟩
  | 54 => ⟨S_, .i32⟩
  | 55 => ⟨S_, .i32⟩
  | 56 => ⟨S64x1x8192x8, .i32⟩
  | 57 => ⟨S64x1x8192x8, .i32⟩
  | 58 => ⟨S64x1x8192x8, .i32⟩
  | 59 => ⟨S64x1x8192x8, .i32⟩
  | 60 => ⟨S64x1x8192x8, .i32⟩
  | 61 => ⟨S_, .i32⟩
  | 62 => ⟨S64x1x8192x8, .i32⟩
  | 63 => ⟨S64x1x8192x8, .i32⟩
  | 64 => ⟨S_, .i32⟩
  | 65 => ⟨S64x1x8192x8, .i32⟩
  | 66 => ⟨S64x1x8192x8, .i32⟩
  | 67 => ⟨S64x1x8192x8, .i32⟩
  | 68 => ⟨S64x1x8192x8, .i32⟩
  | 69 => ⟨S64x1x8192x8, .i32⟩
  | 70 => ⟨S_, .i32⟩
  | 71 => ⟨S64x1x8192x8, .i32⟩
  | 72 => ⟨S64x1x8192x8, .i32⟩
  | 73 => ⟨S_, .i32⟩
  | 74 => ⟨S64x1x8192x8, .i32⟩
  | 75 => ⟨S64x1x8192x8, .i32⟩
  | 76 => ⟨S64x1x8192x8, .i32⟩
  | 77 => ⟨S64x1x8192x8, .i32⟩
  | 78 => ⟨S64x1x8192x8, .i32⟩
  | 79 => ⟨S_, .i32⟩
  | 80 => ⟨S64x1x8192x8, .i32⟩
  | 81 => ⟨S64x1x8192x8, .i32⟩
  | 82 => ⟨S_, .i32⟩
  | 83 => ⟨S64x1x8192x8, .i32⟩
  | 84 => ⟨S64x1x8192x8, .i32⟩
  | 85 => ⟨S64x1x8192x8, .i32⟩
  | 86 => ⟨S64x1x8192x8, .i32⟩
  | 87 => ⟨S64x1x8192x8, .i32⟩
  | 88 => ⟨S_, .i32⟩
  | 89 => ⟨S64x1x8192x8, .i32⟩
  | 90 => ⟨S64x1x8192x8, .i32⟩
  | 91 => ⟨S_, .i32⟩
  | 92 => ⟨S64x1x8192x8, .i32⟩
  | 93 => ⟨S64x1x8192x8, .i32⟩
  | 94 => ⟨S64x1x8192x8, .i32⟩
  | 95 => ⟨S64x1x8192x8, .i32⟩
  | 96 => ⟨S64x1x8192x8, .i32⟩
  | 97 => ⟨S64x1x8192x8, .i32⟩
  | 98 => ⟨S64x1x8192x8, .i32⟩
  | 99 => ⟨S64x1x8192x8, .i32⟩
  | 100 => ⟨S_, .i32⟩
  | 101 => ⟨S64x1x8192x8, .i32⟩
  | 102 => ⟨S64x1x8192x8, .i32⟩
  | 103 => ⟨S64x1x8192x8, .i32⟩
  | 104 => ⟨S_, .i32⟩
  | 105 => ⟨S64x1x8192x8, .i32⟩
  | 106 => ⟨S64x1x8192x8, .i32⟩
  | 107 => ⟨S_, .i32⟩
  | 108 => ⟨S64x1x8192x8, .i32⟩
  | 109 => ⟨S64x1x8192x8, .i32⟩
  | 110 => ⟨S64x1x8192x8, .i32⟩
  | 111 => ⟨S64x1x8192x8, .i32⟩
  | 112 => ⟨S64x1x8192x8, .i32⟩
  | 113 => ⟨S_, .i32⟩
  | 114 => ⟨S64x1x8192x8, .i32⟩
  | 115 => ⟨S64x1x8192x8, .i32⟩
  | 116 => ⟨S_, .i32⟩
  | 117 => ⟨S64x1x8192x8, .i32⟩
  | 118 => ⟨S64x1x8192x8, .i32⟩
  | 119 => ⟨S64x1x8192x8, .i32⟩
  | 120 => ⟨S64x1x8192x8, .i32⟩
  | 121 => ⟨S64x1x8192x8, .i32⟩
  | 122 => ⟨S_, .i32⟩
  | 123 => ⟨S64x1x8192x8, .i32⟩
  | 124 => ⟨S64x1x8192x8, .i32⟩
  | 125 => ⟨S_, .i32⟩
  | 126 => ⟨S64x1x8192x8, .i32⟩
  | 127 => ⟨S64x1x8192x8, .i32⟩
  | _ => ⟨S1x8192x8, .f32⟩

abbrev hbmTy0_1 (i : Nat) : BufTy := match i % 128 with
  | 0 => ⟨S64x1x8192x8, .i32⟩
  | 1 => ⟨S64x1x8192x8, .i32⟩
  | 2 => ⟨S64x1x8192x8, .i32⟩
  | 3 => ⟨S_, .i32⟩
  | 4 => ⟨S64x1x8192x8, .i32⟩
  | 5 => ⟨S64x1x8192x8, .i32⟩
  | 6 => ⟨S_, .i32⟩
  | 7 => ⟨S64x1x8192x8, .i32⟩
  | 8 => ⟨S64x1x8192x8, .i32⟩
  | 9 => ⟨S64x1x8192x8, .i32⟩
  | 10 => ⟨S64x1x8192x8, .i32⟩
  | 11 => ⟨S64x1x8192x8, .i32⟩
  | 12 => ⟨S64x1x8192x8, .i32⟩
  | 13 => ⟨S64x1x8192x8, .i32⟩
  | 14 => ⟨S64x1x8192x8, .i32⟩
  | 15 => ⟨S_, .i32⟩
  | 16 => ⟨S64x1x8192x8, .i32⟩
  | 17 => ⟨S64x1x8192x8, .i32⟩
  | 18 => ⟨S64x1x8192x8, .i32⟩
  | 19 => ⟨S_, .i32⟩
  | 20 => ⟨S64x1x8192x8, .i32⟩
  | 21 => ⟨S64x1x8192x8, .i32⟩
  | 22 => ⟨S_, .i32⟩
  | 23 => ⟨S64x1x8192x8, .i32⟩
  | 24 => ⟨S64x1x8192x8, .i32⟩
  | 25 => ⟨S64x1x8192x8, .i32⟩
  | 26 => ⟨S64x1x8192x8, .i32⟩
  | 27 => ⟨S64x1x8192x8, .i32⟩
  | 28 => ⟨S_, .i32⟩
  | 29 => ⟨S64x1x8192x8, .i32⟩
  | 30 => ⟨S64x1x8192x8, .i32⟩
  | 31 => ⟨S_, .i32⟩
  | 32 => ⟨S64x1x8192x8, .i32⟩
  | 33 => ⟨S64x1x8192x8, .i32⟩
  | 34 => ⟨S64x1x8192x8, .i32⟩
  | 35 => ⟨S64x1x8192x8, .i32⟩
  | 36 => ⟨S64x1x8192x8, .i32⟩
  | 37 => ⟨S_, .i32⟩
  | 38 => ⟨S64x1x8192x8, .i32⟩
  | 39 => ⟨S64x1x8192x8, .i32⟩
  | 40 => ⟨S_, .i32⟩
  | 41 => ⟨S64x1x8192x8, .i32⟩
  | 42 => ⟨S64x1x8192x8, .i32⟩
  | 43 => ⟨S64x1x8192x8, .i32⟩
  | 44 => ⟨S64x1x8192x8, .i32⟩
  | 45 => ⟨S64x1x8192x8, .i32⟩
  | 46 => ⟨S_, .i32⟩
  | 47 => ⟨S64x1x8192x8, .i32⟩
  | 48 => ⟨S64x1x8192x8, .i32⟩
  | 49 => ⟨S_, .i32⟩
  | 50 => ⟨S64x1x8192x8, .i32⟩
  | 51 => ⟨S64x1x8192x8, .i32⟩
  | 52 => ⟨S64x1x8192x8, .i32⟩
  | 53 => ⟨S64x1x8192x8, .i32⟩
  | 54 => ⟨S64x1x8192x8, .i32⟩
  | 55 => ⟨S64x1x8192x8, .i32⟩
  | 56 => ⟨S64x1x8192x8, .i32⟩
  | 57 => ⟨S64x1x8192x8, .i32⟩
  | 58 => ⟨S_, .i32⟩
  | 59 => ⟨S64x1x8192x8, .i32⟩
  | 60 => ⟨S64x1x8192x8, .i32⟩
  | 61 => ⟨S64x1x8192x8, .i32⟩
  | 62 => ⟨S_, .i32⟩
  | 63 => ⟨S64x1x8192x8, .i32⟩
  | 64 => ⟨S64x1x8192x8, .i32⟩
  | 65 => ⟨S_, .i32⟩
  | 66 => ⟨S64x1x8192x8, .i32⟩
  | 67 => ⟨S64x1x8192x8, .i32⟩
  | 68 => ⟨S64x1x8192x8, .i32⟩
  | 69 => ⟨S64x1x8192x8, .i32⟩
  | 70 => ⟨S64x1x8192x8, .i32⟩
  | 71 => ⟨S_, .i32⟩
  | 72 => ⟨S64x1x8192x8, .i32⟩
  | 73 => ⟨S64x1x8192x8, .i32⟩
  | 74 => ⟨S_, .i32⟩
  | 75 => ⟨S64x1x8192x8, .i32⟩
  | 76 => ⟨S64x1x8192x8, .i32⟩
  | 77 => ⟨S64x1x8192x8, .i32⟩
  | 78 => ⟨S64x1x8192x8, .i32⟩
  | 79 => ⟨S64x1x8192x8, .i32⟩
  | 80 => ⟨S_, .i32⟩
  | 81 => ⟨S64x1x8192x8, .i32⟩
  | 82 => ⟨S64x1x8192x8, .i32⟩
  | 83 => ⟨S_, .i32⟩
  | 84 => ⟨S64x1x8192x8, .i32⟩
  | 85 => ⟨S64x1x8192x8, .i32⟩
  | 86 => ⟨S64x1x8192x8, .i32⟩
  | 87 => ⟨S64x1x8192x8, .i32⟩
  | 88 => ⟨S64x1x8192x8, .i32⟩
  | 89 => ⟨S_, .i32⟩
  | 90 => ⟨S64x1x8192x8, .i32⟩
  | 91 => ⟨S64x1x8192x8, .i32⟩
  | 92 => ⟨S_, .i32⟩
  | 93 => ⟨S64x1x8192x8, .i32⟩
  | 94 => ⟨S64x1x8192x8, .i32⟩
  | 95 => ⟨S64x1x8192x8, .i32⟩
  | 96 => ⟨S64x1x8192x8, .i32⟩
  | 97 => ⟨S64x1x8192x8, .i32⟩
  | 98 => ⟨S64x1x8192x8, .i32⟩
  | 99 => ⟨S64x1x8192x8, .i32⟩
  | 100 => ⟨S64x1x8192x8, .i32⟩
  | 101 => ⟨S_, .i32⟩
  | 102 => ⟨S64x1x8192x8, .i32⟩
  | 103 => ⟨S64x1x8192x8, .i32⟩
  | 104 => ⟨S64x1x8192x8, .i32⟩
  | 105 => ⟨S_, .i32⟩
  | 106 => ⟨S64x1x8192x8, .i32⟩
  | 107 => ⟨S64x1x8192x8, .i32⟩
  | 108 => ⟨S_, .i32⟩
  | 109 => ⟨S64x1x8192x8, .i32⟩
  | 110 => ⟨S64x1x8192x8, .i32⟩
  | 111 => ⟨S64x1x8192x8, .i32⟩
  | 112 => ⟨S64x1x8192x8, .i32⟩
  | 113 => ⟨S64x1x8192x8, .i32⟩
  | 114 => ⟨S_, .i32⟩
  | 115 => ⟨S64x1x8192x8, .i32⟩
  | 116 => ⟨S64x1x8192x8, .i32⟩
  | 117 => ⟨S_, .i32⟩
  | 118 => ⟨S64x1x8192x8, .i32⟩
  | 119 => ⟨S64x1x8192x8, .i32⟩
  | 120 => ⟨S64x1x8192x8, .i32⟩
  | 121 => ⟨S64x1x8192x8, .i32⟩
  | 122 => ⟨S64x1x8192x8, .i32⟩
  | 123 => ⟨S_, .i32⟩
  | 124 => ⟨S64x1x8192x8, .i32⟩
  | 125 => ⟨S64x1x8192x8, .i32⟩
  | 126 => ⟨S_, .i32⟩
  | 127 => ⟨S64x1x8192x8, .i32⟩
  | _ => ⟨S1x8192x8, .f32⟩

abbrev hbmTy0_2 (i : Nat) : BufTy := match i % 128 with
  | 0 => ⟨S64x1x8192x8, .i32⟩
  | 1 => ⟨S64x1x8192x8, .i32⟩
  | 2 => ⟨S64x1x8192x8, .i32⟩
  | 3 => ⟨S64x1x8192x8, .i32⟩
  | 4 => ⟨S_, .i32⟩
  | 5 => ⟨S64x1x8192x8, .i32⟩
  | 6 => ⟨S64x1x8192x8, .i32⟩
  | 7 => ⟨S_, .i32⟩
  | 8 => ⟨S64x1x8192x8, .i32⟩
  | 9 => ⟨S64x1x8192x8, .i32⟩
  | 10 => ⟨S64x1x8192x8, .i32⟩
  | 11 => ⟨S64x1x8192x8, .i32⟩
  | 12 => ⟨S64x1x8192x8, .i32⟩
  | 13 => ⟨S64x1x8192x8, .i32⟩
  | 14 => ⟨S64x1x8192x8, .i32⟩
  | 15 => ⟨S64x1x8192x8, .i32⟩
  | 16 => ⟨S_, .i32⟩
  | 17 => ⟨S64x1x8192x8, .i32⟩
  | 18 => ⟨S64x1x8192x8, .i32⟩
  | 19 => ⟨S64x1x8192x8, .i32⟩
  | 20 => ⟨S_, .i32⟩
  | 21 => ⟨S64x1x8192x8, .i32⟩
  | 22 => ⟨S64x1x8192x8, .i32⟩
  | 23 => ⟨S_, .i32⟩
  | 24 => ⟨S64x1x8192x8, .i32⟩
  | 25 => ⟨S64x1x8192x8, .i32⟩
  | 26 => ⟨S64x1x8192x8, .f32⟩
  | 27 => ⟨S_, .f32⟩
  | 28 => ⟨S64x1x8192x8, .f32⟩
  | 29 => ⟨S64x1x8192x8, .f32⟩
  | 30 => ⟨S1x1x1x1, .f32⟩
  | 31 => ⟨S64x1x8192x8, .f32⟩
  | 32 => ⟨S64x1x8192x8, .f32⟩
  | 33 => ⟨S64x1x8192x8, .f32⟩
  | 34 => ⟨S64x1x8192x8, .f32⟩
  | 35 => ⟨S64x1x8192x8, .f32⟩
  | 36 => ⟨S64x1x8192x8, .f32⟩
  | 37 => ⟨S_, .f32⟩
  | 38 => ⟨S64x1x8192x8, .f32⟩
  | 39 => ⟨S64x1x8192x8, .f32⟩
  | 40 => ⟨S_, .f32⟩
  | 41 => ⟨S64x1x8192x8, .f32⟩
  | 42 => ⟨S64x1x8192x8, .f32⟩
  | 43 => ⟨S_, .f32⟩
  | 44 => ⟨S64x1x8192x8, .f32⟩
  | 45 => ⟨S64x1x8192x8, .f32⟩
  | 46 => ⟨S64x1x8192x8, .f32⟩
  | 47 => ⟨S64x1x8192x8, .f32⟩
  | 48 => ⟨S64x1x8192x8, .f32⟩
  | 49 => ⟨S64x1x8192x8, .f32⟩
  | 50 => ⟨S1x1x8192x8, .f32⟩
  | 51 => ⟨S64x1x8192x8, .f32⟩
  | 52 => ⟨S64x1x8192x8, .f32⟩
  | 53 => ⟨S64x1x8192x8, .i32⟩
  | 54 => ⟨S_, .f32⟩
  | 55 => ⟨S_, .i32⟩
  | 56 => ⟨S64x1x8192, .f32⟩
  | 57 => ⟨S64x1x8192, .i32⟩
  | 58 => ⟨S1x64x8192, .i32⟩
  | 59 => ⟨S1x64x8192x1, .i32⟩
  | 60 => ⟨S1x1x1x8, .i32⟩
  | 61 => ⟨S1x64x8192x8, .i32⟩
  | 62 => ⟨S1x64x8192x8, .i32⟩
  | 63 => ⟨S1x64x8192x8, .i1⟩
  | 64 => ⟨S1x64x8192x8, .f32⟩
  | 65 => ⟨S_, .f32⟩
  | 66 => ⟨S1x8192x8, .f32⟩
  | 67 => ⟨S1x8192x8, .f32⟩
  | 68 => ⟨S_, .f32⟩
  | 69 => ⟨S1x8192, .f32⟩
  | 70 => ⟨S_, .f32⟩
  | 71 => ⟨S1x8192, .f32⟩
  | 72 => ⟨S1x8192, .f32⟩
  | 73 => ⟨S1x8192x1, .f32⟩
  | 74 => ⟨S1x8192x8, .f32⟩
  | 75 => ⟨S1x8192x8, .f32⟩
  | 76 => ⟨S1x8192x8, .f32⟩
  | 77 => ⟨S_, .f32⟩
  | 78 => ⟨S1x8192, .f32⟩
  | 79 => ⟨S1x8192x1, .f32⟩
  | 80 => ⟨S1x8192x8, .f32⟩
  | 81 => ⟨S1x8192x8, .f32⟩
  | 82 => ⟨S1x1x8192x8, .f32⟩
  | 83 => ⟨S1x64x8192x8, .f32⟩
  | 84 => ⟨S1x64x8192x8, .f32⟩
  | 85 => ⟨S1x64x8192x8, .f32⟩
  | _ => ⟨S1x8192x8, .f32⟩

abbrev hbmTy (i : Nat) : BufTy := match i / 128 with
  | 0 => hbmTy0_0 i
  | 1 => hbmTy0_1 i
  | 2 => hbmTy0_2 i
  | _ => ⟨S1x8192x8, .f32⟩

abbrev bufTy : (tb : Table) → Fin (tcTables nBuf tb) → BufTy
  | .hbm, ⟨i, _⟩ => hbmTy i
  | _, _ => ⟨S1x8192x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_c_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_cst_4 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c : Ref sig .tc := ⟨.hbm, 33, rfl⟩
abbrev main_call0_v12 : Ref sig .tc := ⟨.hbm, 34, rfl⟩
abbrev main_call0_v13 : Ref sig .tc := ⟨.hbm, 35, rfl⟩
abbrev main_call0_c_0 : Ref sig .tc := ⟨.hbm, 36, rfl⟩
abbrev main_call0_v14 : Ref sig .tc := ⟨.hbm, 37, rfl⟩
abbrev main_call0_v15 : Ref sig .tc := ⟨.hbm, 38, rfl⟩
abbrev main_call0_c_1 : Ref sig .tc := ⟨.hbm, 39, rfl⟩
abbrev main_call0_v16 : Ref sig .tc := ⟨.hbm, 40, rfl⟩
abbrev main_call0_v17 : Ref sig .tc := ⟨.hbm, 41, rfl⟩
abbrev main_call0_c_2 : Ref sig .tc := ⟨.hbm, 42, rfl⟩
abbrev main_call0_v18 : Ref sig .tc := ⟨.hbm, 43, rfl⟩
abbrev main_call0_v19 : Ref sig .tc := ⟨.hbm, 44, rfl⟩
abbrev main_call0_v20 : Ref sig .tc := ⟨.hbm, 45, rfl⟩
abbrev main_call0_v21 : Ref sig .tc := ⟨.hbm, 46, rfl⟩
abbrev main_call0_v22 : Ref sig .tc := ⟨.hbm, 47, rfl⟩
abbrev main_call0_c_3 : Ref sig .tc := ⟨.hbm, 48, rfl⟩
abbrev main_call0_v23 : Ref sig .tc := ⟨.hbm, 49, rfl⟩
abbrev main_call0_v24 : Ref sig .tc := ⟨.hbm, 50, rfl⟩
abbrev main_call0_v25 : Ref sig .tc := ⟨.hbm, 51, rfl⟩
abbrev main_call0_v26 : Ref sig .tc := ⟨.hbm, 52, rfl⟩
abbrev main_call0_call0_v0 : Ref sig .tc := ⟨.hbm, 53, rfl⟩
abbrev main_call0_call0_c : Ref sig .tc := ⟨.hbm, 54, rfl⟩
abbrev main_call0_call0_v1 : Ref sig .tc := ⟨.hbm, 55, rfl⟩
abbrev main_call0_call0_v2 : Ref sig .tc := ⟨.hbm, 56, rfl⟩
abbrev main_call0_call0_v3 : Ref sig .tc := ⟨.hbm, 57, rfl⟩
abbrev main_call0_call0_v4 : Ref sig .tc := ⟨.hbm, 58, rfl⟩
abbrev main_call0_call0_v5 : Ref sig .tc := ⟨.hbm, 59, rfl⟩
abbrev main_call0_call0_v6 : Ref sig .tc := ⟨.hbm, 60, rfl⟩
abbrev main_call0_call0_c_0 : Ref sig .tc := ⟨.hbm, 61, rfl⟩
abbrev main_call0_call0_v7 : Ref sig .tc := ⟨.hbm, 62, rfl⟩
abbrev main_call0_call0_v8 : Ref sig .tc := ⟨.hbm, 63, rfl⟩
abbrev main_call0_call0_c_1 : Ref sig .tc := ⟨.hbm, 64, rfl⟩
abbrev main_call0_call0_v9 : Ref sig .tc := ⟨.hbm, 65, rfl⟩
abbrev main_call0_call0_v10 : Ref sig .tc := ⟨.hbm, 66, rfl⟩
abbrev main_call0_call0_v11 : Ref sig .tc := ⟨.hbm, 67, rfl⟩
abbrev main_call0_call0_v12 : Ref sig .tc := ⟨.hbm, 68, rfl⟩
abbrev main_call0_call0_v13 : Ref sig .tc := ⟨.hbm, 69, rfl⟩
abbrev main_call0_call0_c_2 : Ref sig .tc := ⟨.hbm, 70, rfl⟩
abbrev main_call0_call0_v14 : Ref sig .tc := ⟨.hbm, 71, rfl⟩
abbrev main_call0_call0_v15 : Ref sig .tc := ⟨.hbm, 72, rfl⟩
abbrev main_call0_call0_c_3 : Ref sig .tc := ⟨.hbm, 73, rfl⟩
abbrev main_call0_call0_v16 : Ref sig .tc := ⟨.hbm, 74, rfl⟩
abbrev main_call0_call0_v17 : Ref sig .tc := ⟨.hbm, 75, rfl⟩
abbrev main_call0_call0_v18 : Ref sig .tc := ⟨.hbm, 76, rfl⟩
abbrev main_call0_call0_v19 : Ref sig .tc := ⟨.hbm, 77, rfl⟩
abbrev main_call0_call0_v20 : Ref sig .tc := ⟨.hbm, 78, rfl⟩
abbrev main_call0_call0_c_4 : Ref sig .tc := ⟨.hbm, 79, rfl⟩
abbrev main_call0_call0_v21 : Ref sig .tc := ⟨.hbm, 80, rfl⟩
abbrev main_call0_call0_v22 : Ref sig .tc := ⟨.hbm, 81, rfl⟩
abbrev main_call0_call0_c_5 : Ref sig .tc := ⟨.hbm, 82, rfl⟩
abbrev main_call0_call0_v23 : Ref sig .tc := ⟨.hbm, 83, rfl⟩
abbrev main_call0_call0_v24 : Ref sig .tc := ⟨.hbm, 84, rfl⟩
abbrev main_call0_call0_v25 : Ref sig .tc := ⟨.hbm, 85, rfl⟩
abbrev main_call0_call0_v26 : Ref sig .tc := ⟨.hbm, 86, rfl⟩
abbrev main_call0_call0_v27 : Ref sig .tc := ⟨.hbm, 87, rfl⟩
abbrev main_call0_call0_c_6 : Ref sig .tc := ⟨.hbm, 88, rfl⟩
abbrev main_call0_call0_v28 : Ref sig .tc := ⟨.hbm, 89, rfl⟩
abbrev main_call0_call0_v29 : Ref sig .tc := ⟨.hbm, 90, rfl⟩
abbrev main_call0_call0_c_7 : Ref sig .tc := ⟨.hbm, 91, rfl⟩
abbrev main_call0_call0_v30 : Ref sig .tc := ⟨.hbm, 92, rfl⟩
abbrev main_call0_call0_v31 : Ref sig .tc := ⟨.hbm, 93, rfl⟩
abbrev main_call0_call0_v32 : Ref sig .tc := ⟨.hbm, 94, rfl⟩
abbrev main_call0_call0_v33 : Ref sig .tc := ⟨.hbm, 95, rfl⟩
abbrev main_call0_call0_v34 : Ref sig .tc := ⟨.hbm, 96, rfl⟩
abbrev main_call0_call0_v35 : Ref sig .tc := ⟨.hbm, 97, rfl⟩
abbrev main_call0_call0_v36 : Ref sig .tc := ⟨.hbm, 98, rfl⟩
abbrev main_call0_call0_v37 : Ref sig .tc := ⟨.hbm, 99, rfl⟩
abbrev main_call0_call0_c_8 : Ref sig .tc := ⟨.hbm, 100, rfl⟩
abbrev main_call0_call0_v38 : Ref sig .tc := ⟨.hbm, 101, rfl⟩
abbrev main_call0_call0_v39 : Ref sig .tc := ⟨.hbm, 102, rfl⟩
abbrev main_call0_call0_v40 : Ref sig .tc := ⟨.hbm, 103, rfl⟩
abbrev main_call0_call0_c_9 : Ref sig .tc := ⟨.hbm, 104, rfl⟩
abbrev main_call0_call0_v41 : Ref sig .tc := ⟨.hbm, 105, rfl⟩
abbrev main_call0_call0_v42 : Ref sig .tc := ⟨.hbm, 106, rfl⟩
abbrev main_call0_call0_c_10 : Ref sig .tc := ⟨.hbm, 107, rfl⟩
abbrev main_call0_call0_v43 : Ref sig .tc := ⟨.hbm, 108, rfl⟩
abbrev main_call0_call0_v44 : Ref sig .tc := ⟨.hbm, 109, rfl⟩
abbrev main_call0_call0_v45 : Ref sig .tc := ⟨.hbm, 110, rfl⟩
abbrev main_call0_call0_v46 : Ref sig .tc := ⟨.hbm, 111, rfl⟩
abbrev main_call0_call0_v47 : Ref sig .tc := ⟨.hbm, 112, rfl⟩
abbrev main_call0_call0_c_11 : Ref sig .tc := ⟨.hbm, 113, rfl⟩
abbrev main_call0_call0_v48 : Ref sig .tc := ⟨.hbm, 114, rfl⟩
abbrev main_call0_call0_v49 : Ref sig .tc := ⟨.hbm, 115, rfl⟩
abbrev main_call0_call0_c_12 : Ref sig .tc := ⟨.hbm, 116, rfl⟩
abbrev main_call0_call0_v50 : Ref sig .tc := ⟨.hbm, 117, rfl⟩
abbrev main_call0_call0_v51 : Ref sig .tc := ⟨.hbm, 118, rfl⟩
abbrev main_call0_call0_v52 : Ref sig .tc := ⟨.hbm, 119, rfl⟩
abbrev main_call0_call0_v53 : Ref sig .tc := ⟨.hbm, 120, rfl⟩
abbrev main_call0_call0_v54 : Ref sig .tc := ⟨.hbm, 121, rfl⟩
abbrev main_call0_call0_c_13 : Ref sig .tc := ⟨.hbm, 122, rfl⟩
abbrev main_call0_call0_v55 : Ref sig .tc := ⟨.hbm, 123, rfl⟩
abbrev main_call0_call0_v56 : Ref sig .tc := ⟨.hbm, 124, rfl⟩
abbrev main_call0_call0_c_14 : Ref sig .tc := ⟨.hbm, 125, rfl⟩
abbrev main_call0_call0_v57 : Ref sig .tc := ⟨.hbm, 126, rfl⟩
abbrev main_call0_call0_v58 : Ref sig .tc := ⟨.hbm, 127, rfl⟩
abbrev main_call0_call0_v59 : Ref sig .tc := ⟨.hbm, 128, rfl⟩
abbrev main_call0_call0_v60 : Ref sig .tc := ⟨.hbm, 129, rfl⟩
abbrev main_call0_call0_v61 : Ref sig .tc := ⟨.hbm, 130, rfl⟩
abbrev main_call0_call0_c_15 : Ref sig .tc := ⟨.hbm, 131, rfl⟩
abbrev main_call0_call0_v62 : Ref sig .tc := ⟨.hbm, 132, rfl⟩
abbrev main_call0_call0_v63 : Ref sig .tc := ⟨.hbm, 133, rfl⟩
abbrev main_call0_call0_c_16 : Ref sig .tc := ⟨.hbm, 134, rfl⟩
abbrev main_call0_call0_v64 : Ref sig .tc := ⟨.hbm, 135, rfl⟩
abbrev main_call0_call0_v65 : Ref sig .tc := ⟨.hbm, 136, rfl⟩
abbrev main_call0_call0_v66 : Ref sig .tc := ⟨.hbm, 137, rfl⟩
abbrev main_call0_call0_v67 : Ref sig .tc := ⟨.hbm, 138, rfl⟩
abbrev main_call0_call0_v68 : Ref sig .tc := ⟨.hbm, 139, rfl⟩
abbrev main_call0_call0_v69 : Ref sig .tc := ⟨.hbm, 140, rfl⟩
abbrev main_call0_call0_v70 : Ref sig .tc := ⟨.hbm, 141, rfl⟩
abbrev main_call0_call0_v71 : Ref sig .tc := ⟨.hbm, 142, rfl⟩
abbrev main_call0_call0_c_17 : Ref sig .tc := ⟨.hbm, 143, rfl⟩
abbrev main_call0_call0_v72 : Ref sig .tc := ⟨.hbm, 144, rfl⟩
abbrev main_call0_call0_v73 : Ref sig .tc := ⟨.hbm, 145, rfl⟩
abbrev main_call0_call0_v74 : Ref sig .tc := ⟨.hbm, 146, rfl⟩
abbrev main_call0_call0_c_18 : Ref sig .tc := ⟨.hbm, 147, rfl⟩
abbrev main_call0_call0_v75 : Ref sig .tc := ⟨.hbm, 148, rfl⟩
abbrev main_call0_call0_v76 : Ref sig .tc := ⟨.hbm, 149, rfl⟩
abbrev main_call0_call0_c_19 : Ref sig .tc := ⟨.hbm, 150, rfl⟩
abbrev main_call0_call0_v77 : Ref sig .tc := ⟨.hbm, 151, rfl⟩
abbrev main_call0_call0_v78 : Ref sig .tc := ⟨.hbm, 152, rfl⟩
abbrev main_call0_call0_v79 : Ref sig .tc := ⟨.hbm, 153, rfl⟩
abbrev main_call0_call0_v80 : Ref sig .tc := ⟨.hbm, 154, rfl⟩
abbrev main_call0_call0_v81 : Ref sig .tc := ⟨.hbm, 155, rfl⟩
abbrev main_call0_call0_c_20 : Ref sig .tc := ⟨.hbm, 156, rfl⟩
abbrev main_call0_call0_v82 : Ref sig .tc := ⟨.hbm, 157, rfl⟩
abbrev main_call0_call0_v83 : Ref sig .tc := ⟨.hbm, 158, rfl⟩
abbrev main_call0_call0_c_21 : Ref sig .tc := ⟨.hbm, 159, rfl⟩
abbrev main_call0_call0_v84 : Ref sig .tc := ⟨.hbm, 160, rfl⟩
abbrev main_call0_call0_v85 : Ref sig .tc := ⟨.hbm, 161, rfl⟩
abbrev main_call0_call0_v86 : Ref sig .tc := ⟨.hbm, 162, rfl⟩
abbrev main_call0_call0_v87 : Ref sig .tc := ⟨.hbm, 163, rfl⟩
abbrev main_call0_call0_v88 : Ref sig .tc := ⟨.hbm, 164, rfl⟩
abbrev main_call0_call0_c_22 : Ref sig .tc := ⟨.hbm, 165, rfl⟩
abbrev main_call0_call0_v89 : Ref sig .tc := ⟨.hbm, 166, rfl⟩
abbrev main_call0_call0_v90 : Ref sig .tc := ⟨.hbm, 167, rfl⟩
abbrev main_call0_call0_c_23 : Ref sig .tc := ⟨.hbm, 168, rfl⟩
abbrev main_call0_call0_v91 : Ref sig .tc := ⟨.hbm, 169, rfl⟩
abbrev main_call0_call0_v92 : Ref sig .tc := ⟨.hbm, 170, rfl⟩
abbrev main_call0_call0_v93 : Ref sig .tc := ⟨.hbm, 171, rfl⟩
abbrev main_call0_call0_v94 : Ref sig .tc := ⟨.hbm, 172, rfl⟩
abbrev main_call0_call0_v95 : Ref sig .tc := ⟨.hbm, 173, rfl⟩
abbrev main_call0_call0_c_24 : Ref sig .tc := ⟨.hbm, 174, rfl⟩
abbrev main_call0_call0_v96 : Ref sig .tc := ⟨.hbm, 175, rfl⟩
abbrev main_call0_call0_v97 : Ref sig .tc := ⟨.hbm, 176, rfl⟩
abbrev main_call0_call0_c_25 : Ref sig .tc := ⟨.hbm, 177, rfl⟩
abbrev main_call0_call0_v98 : Ref sig .tc := ⟨.hbm, 178, rfl⟩
abbrev main_call0_call0_v99 : Ref sig .tc := ⟨.hbm, 179, rfl⟩
abbrev main_call0_call0_v100 : Ref sig .tc := ⟨.hbm, 180, rfl⟩
abbrev main_call0_call0_v101 : Ref sig .tc := ⟨.hbm, 181, rfl⟩
abbrev main_call0_call0_v102 : Ref sig .tc := ⟨.hbm, 182, rfl⟩
abbrev main_call0_call0_v103 : Ref sig .tc := ⟨.hbm, 183, rfl⟩
abbrev main_call0_call0_v104 : Ref sig .tc := ⟨.hbm, 184, rfl⟩
abbrev main_call0_call0_v105 : Ref sig .tc := ⟨.hbm, 185, rfl⟩
abbrev main_call0_call0_c_26 : Ref sig .tc := ⟨.hbm, 186, rfl⟩
abbrev main_call0_call0_v106 : Ref sig .tc := ⟨.hbm, 187, rfl⟩
abbrev main_call0_call0_v107 : Ref sig .tc := ⟨.hbm, 188, rfl⟩
abbrev main_call0_call0_v108 : Ref sig .tc := ⟨.hbm, 189, rfl⟩
abbrev main_call0_call0_c_27 : Ref sig .tc := ⟨.hbm, 190, rfl⟩
abbrev main_call0_call0_v109 : Ref sig .tc := ⟨.hbm, 191, rfl⟩
abbrev main_call0_call0_v110 : Ref sig .tc := ⟨.hbm, 192, rfl⟩
abbrev main_call0_call0_c_28 : Ref sig .tc := ⟨.hbm, 193, rfl⟩
abbrev main_call0_call0_v111 : Ref sig .tc := ⟨.hbm, 194, rfl⟩
abbrev main_call0_call0_v112 : Ref sig .tc := ⟨.hbm, 195, rfl⟩
abbrev main_call0_call0_v113 : Ref sig .tc := ⟨.hbm, 196, rfl⟩
abbrev main_call0_call0_v114 : Ref sig .tc := ⟨.hbm, 197, rfl⟩
abbrev main_call0_call0_v115 : Ref sig .tc := ⟨.hbm, 198, rfl⟩
abbrev main_call0_call0_c_29 : Ref sig .tc := ⟨.hbm, 199, rfl⟩
abbrev main_call0_call0_v116 : Ref sig .tc := ⟨.hbm, 200, rfl⟩
abbrev main_call0_call0_v117 : Ref sig .tc := ⟨.hbm, 201, rfl⟩
abbrev main_call0_call0_c_30 : Ref sig .tc := ⟨.hbm, 202, rfl⟩
abbrev main_call0_call0_v118 : Ref sig .tc := ⟨.hbm, 203, rfl⟩
abbrev main_call0_call0_v119 : Ref sig .tc := ⟨.hbm, 204, rfl⟩
abbrev main_call0_call0_v120 : Ref sig .tc := ⟨.hbm, 205, rfl⟩
abbrev main_call0_call0_v121 : Ref sig .tc := ⟨.hbm, 206, rfl⟩
abbrev main_call0_call0_v122 : Ref sig .tc := ⟨.hbm, 207, rfl⟩
abbrev main_call0_call0_c_31 : Ref sig .tc := ⟨.hbm, 208, rfl⟩
abbrev main_call0_call0_v123 : Ref sig .tc := ⟨.hbm, 209, rfl⟩
abbrev main_call0_call0_v124 : Ref sig .tc := ⟨.hbm, 210, rfl⟩
abbrev main_call0_call0_c_32 : Ref sig .tc := ⟨.hbm, 211, rfl⟩
abbrev main_call0_call0_v125 : Ref sig .tc := ⟨.hbm, 212, rfl⟩
abbrev main_call0_call0_v126 : Ref sig .tc := ⟨.hbm, 213, rfl⟩
abbrev main_call0_call0_v127 : Ref sig .tc := ⟨.hbm, 214, rfl⟩
abbrev main_call0_call0_v128 : Ref sig .tc := ⟨.hbm, 215, rfl⟩
abbrev main_call0_call0_v129 : Ref sig .tc := ⟨.hbm, 216, rfl⟩
abbrev main_call0_call0_c_33 : Ref sig .tc := ⟨.hbm, 217, rfl⟩
abbrev main_call0_call0_v130 : Ref sig .tc := ⟨.hbm, 218, rfl⟩
abbrev main_call0_call0_v131 : Ref sig .tc := ⟨.hbm, 219, rfl⟩
abbrev main_call0_call0_c_34 : Ref sig .tc := ⟨.hbm, 220, rfl⟩
abbrev main_call0_call0_v132 : Ref sig .tc := ⟨.hbm, 221, rfl⟩
abbrev main_call0_call0_v133 : Ref sig .tc := ⟨.hbm, 222, rfl⟩
abbrev main_call0_call0_v134 : Ref sig .tc := ⟨.hbm, 223, rfl⟩
abbrev main_call0_call0_v135 : Ref sig .tc := ⟨.hbm, 224, rfl⟩
abbrev main_call0_call0_v136 : Ref sig .tc := ⟨.hbm, 225, rfl⟩
abbrev main_call0_call0_v137 : Ref sig .tc := ⟨.hbm, 226, rfl⟩
abbrev main_call0_call0_v138 : Ref sig .tc := ⟨.hbm, 227, rfl⟩
abbrev main_call0_call0_v139 : Ref sig .tc := ⟨.hbm, 228, rfl⟩
abbrev main_call0_call0_c_35 : Ref sig .tc := ⟨.hbm, 229, rfl⟩
abbrev main_call0_call0_v140 : Ref sig .tc := ⟨.hbm, 230, rfl⟩
abbrev main_call0_call0_v141 : Ref sig .tc := ⟨.hbm, 231, rfl⟩
abbrev main_call0_call0_v142 : Ref sig .tc := ⟨.hbm, 232, rfl⟩
abbrev main_call0_call0_c_36 : Ref sig .tc := ⟨.hbm, 233, rfl⟩
abbrev main_call0_call0_v143 : Ref sig .tc := ⟨.hbm, 234, rfl⟩
abbrev main_call0_call0_v144 : Ref sig .tc := ⟨.hbm, 235, rfl⟩
abbrev main_call0_call0_c_37 : Ref sig .tc := ⟨.hbm, 236, rfl⟩
abbrev main_call0_call0_v145 : Ref sig .tc := ⟨.hbm, 237, rfl⟩
abbrev main_call0_call0_v146 : Ref sig .tc := ⟨.hbm, 238, rfl⟩
abbrev main_call0_call0_v147 : Ref sig .tc := ⟨.hbm, 239, rfl⟩
abbrev main_call0_call0_v148 : Ref sig .tc := ⟨.hbm, 240, rfl⟩
abbrev main_call0_call0_v149 : Ref sig .tc := ⟨.hbm, 241, rfl⟩
abbrev main_call0_call0_c_38 : Ref sig .tc := ⟨.hbm, 242, rfl⟩
abbrev main_call0_call0_v150 : Ref sig .tc := ⟨.hbm, 243, rfl⟩
abbrev main_call0_call0_v151 : Ref sig .tc := ⟨.hbm, 244, rfl⟩
abbrev main_call0_call0_c_39 : Ref sig .tc := ⟨.hbm, 245, rfl⟩
abbrev main_call0_call0_v152 : Ref sig .tc := ⟨.hbm, 246, rfl⟩
abbrev main_call0_call0_v153 : Ref sig .tc := ⟨.hbm, 247, rfl⟩
abbrev main_call0_call0_v154 : Ref sig .tc := ⟨.hbm, 248, rfl⟩
abbrev main_call0_call0_v155 : Ref sig .tc := ⟨.hbm, 249, rfl⟩
abbrev main_call0_call0_v156 : Ref sig .tc := ⟨.hbm, 250, rfl⟩
abbrev main_call0_call0_c_40 : Ref sig .tc := ⟨.hbm, 251, rfl⟩
abbrev main_call0_call0_v157 : Ref sig .tc := ⟨.hbm, 252, rfl⟩
abbrev main_call0_call0_v158 : Ref sig .tc := ⟨.hbm, 253, rfl⟩
abbrev main_call0_call0_c_41 : Ref sig .tc := ⟨.hbm, 254, rfl⟩
abbrev main_call0_call0_v159 : Ref sig .tc := ⟨.hbm, 255, rfl⟩
abbrev main_call0_call0_v160 : Ref sig .tc := ⟨.hbm, 256, rfl⟩
abbrev main_call0_call0_v161 : Ref sig .tc := ⟨.hbm, 257, rfl⟩
abbrev main_call0_call0_v162 : Ref sig .tc := ⟨.hbm, 258, rfl⟩
abbrev main_call0_call0_v163 : Ref sig .tc := ⟨.hbm, 259, rfl⟩
abbrev main_call0_call0_c_42 : Ref sig .tc := ⟨.hbm, 260, rfl⟩
abbrev main_call0_call0_v164 : Ref sig .tc := ⟨.hbm, 261, rfl⟩
abbrev main_call0_call0_v165 : Ref sig .tc := ⟨.hbm, 262, rfl⟩
abbrev main_call0_call0_c_43 : Ref sig .tc := ⟨.hbm, 263, rfl⟩
abbrev main_call0_call0_v166 : Ref sig .tc := ⟨.hbm, 264, rfl⟩
abbrev main_call0_call0_v167 : Ref sig .tc := ⟨.hbm, 265, rfl⟩
abbrev main_call0_call0_v168 : Ref sig .tc := ⟨.hbm, 266, rfl⟩
abbrev main_call0_call0_v169 : Ref sig .tc := ⟨.hbm, 267, rfl⟩
abbrev main_call0_call0_v170 : Ref sig .tc := ⟨.hbm, 268, rfl⟩
abbrev main_call0_v27_0 : Ref sig .tc := ⟨.hbm, 269, rfl⟩
abbrev main_call0_call0_v172 : Ref sig .tc := ⟨.hbm, 270, rfl⟩
abbrev main_call0_call0_v173 : Ref sig .tc := ⟨.hbm, 271, rfl⟩
abbrev main_call0_call0_c_44 : Ref sig .tc := ⟨.hbm, 272, rfl⟩
abbrev main_call0_call0_v174 : Ref sig .tc := ⟨.hbm, 273, rfl⟩
abbrev main_call0_v27_1 : Ref sig .tc := ⟨.hbm, 274, rfl⟩
abbrev main_call0_v28 : Ref sig .tc := ⟨.hbm, 275, rfl⟩
abbrev main_call0_c_4 : Ref sig .tc := ⟨.hbm, 276, rfl⟩
abbrev main_call0_v29 : Ref sig .tc := ⟨.hbm, 277, rfl⟩
abbrev main_call0_v30 : Ref sig .tc := ⟨.hbm, 278, rfl⟩
abbrev main_call0_c_5 : Ref sig .tc := ⟨.hbm, 279, rfl⟩
abbrev main_call0_v31 : Ref sig .tc := ⟨.hbm, 280, rfl⟩
abbrev main_call0_v32 : Ref sig .tc := ⟨.hbm, 281, rfl⟩
abbrev main_call0_v33 : Ref sig .tc := ⟨.hbm, 282, rfl⟩
abbrev main_call0_cst : Ref sig .tc := ⟨.hbm, 283, rfl⟩
abbrev main_call0_v34 : Ref sig .tc := ⟨.hbm, 284, rfl⟩
abbrev main_call0_v35 : Ref sig .tc := ⟨.hbm, 285, rfl⟩
abbrev main_call0_v36 : Ref sig .tc := ⟨.hbm, 286, rfl⟩
abbrev main_call0_v37 : Ref sig .tc := ⟨.hbm, 287, rfl⟩
abbrev main_call0_v38 : Ref sig .tc := ⟨.hbm, 288, rfl⟩
abbrev main_call0_v39 : Ref sig .tc := ⟨.hbm, 289, rfl⟩
abbrev main_call0_v40 : Ref sig .tc := ⟨.hbm, 290, rfl⟩
abbrev main_call0_v41 : Ref sig .tc := ⟨.hbm, 291, rfl⟩
abbrev main_v13 : Ref sig .tc := ⟨.hbm, 292, rfl⟩
abbrev main_cst_5 : Ref sig .tc := ⟨.hbm, 293, rfl⟩
abbrev main_v14 : Ref sig .tc := ⟨.hbm, 294, rfl⟩
abbrev main_v15 : Ref sig .tc := ⟨.hbm, 295, rfl⟩
abbrev main_cst_6 : Ref sig .tc := ⟨.hbm, 296, rfl⟩
abbrev main_v16 : Ref sig .tc := ⟨.hbm, 297, rfl⟩
abbrev main_v17 : Ref sig .tc := ⟨.hbm, 298, rfl⟩
abbrev main_cst_7 : Ref sig .tc := ⟨.hbm, 299, rfl⟩
abbrev main_v18 : Ref sig .tc := ⟨.hbm, 300, rfl⟩
abbrev main_v19 : Ref sig .tc := ⟨.hbm, 301, rfl⟩
abbrev main_v20 : Ref sig .tc := ⟨.hbm, 302, rfl⟩
abbrev main_v21 : Ref sig .tc := ⟨.hbm, 303, rfl⟩
abbrev main_v22 : Ref sig .tc := ⟨.hbm, 304, rfl⟩
abbrev main_v23 : Ref sig .tc := ⟨.hbm, 305, rfl⟩
abbrev main_v24 : Ref sig .tc := ⟨.hbm, 306, rfl⟩
abbrev main_v25 : Ref sig .tc := ⟨.hbm, 307, rfl⟩
abbrev main_v26 : Ref sig .tc := ⟨.hbm, 308, rfl⟩
abbrev main_call1_v0 : Ref sig .tc := ⟨.hbm, 309, rfl⟩
abbrev main_call1_cst : Ref sig .tc := ⟨.hbm, 310, rfl⟩
abbrev main_call1_c : Ref sig .tc := ⟨.hbm, 311, rfl⟩
abbrev main_call1_v1_0 : Ref sig .tc := ⟨.hbm, 312, rfl⟩
abbrev main_v27 : Ref sig .tc := ⟨.hbm, 313, rfl⟩
abbrev main_v28 : Ref sig .tc := ⟨.hbm, 314, rfl⟩
abbrev main_call2_v0 : Ref sig .tc := ⟨.hbm, 315, rfl⟩
abbrev main_call2_v1 : Ref sig .tc := ⟨.hbm, 316, rfl⟩
abbrev main_call2_v2 : Ref sig .tc := ⟨.hbm, 317, rfl⟩
abbrev main_call2_v3 : Ref sig .tc := ⟨.hbm, 318, rfl⟩
abbrev main_call2_v4 : Ref sig .tc := ⟨.hbm, 319, rfl⟩
abbrev main_v29 : Ref sig .tc := ⟨.hbm, 320, rfl⟩
abbrev main_cst_8 : Ref sig .tc := ⟨.hbm, 321, rfl⟩
abbrev main_v30 : Ref sig .tc := ⟨.hbm, 322, rfl⟩
abbrev main_v31 : Ref sig .tc := ⟨.hbm, 323, rfl⟩
abbrev main_cst_9 : Ref sig .tc := ⟨.hbm, 324, rfl⟩
abbrev main_v32 : Ref sig .tc := ⟨.hbm, 325, rfl⟩
abbrev main_cst_10 : Ref sig .tc := ⟨.hbm, 326, rfl⟩
abbrev main_v33 : Ref sig .tc := ⟨.hbm, 327, rfl⟩
abbrev main_v34 : Ref sig .tc := ⟨.hbm, 328, rfl⟩
abbrev main_v35 : Ref sig .tc := ⟨.hbm, 329, rfl⟩
abbrev main_v36 : Ref sig .tc := ⟨.hbm, 330, rfl⟩
abbrev main_v37 : Ref sig .tc := ⟨.hbm, 331, rfl⟩
abbrev main_v38 : Ref sig .tc := ⟨.hbm, 332, rfl⟩
abbrev main_cst_11 : Ref sig .tc := ⟨.hbm, 333, rfl⟩
abbrev main_v39 : Ref sig .tc := ⟨.hbm, 334, rfl⟩
abbrev main_v40 : Ref sig .tc := ⟨.hbm, 335, rfl⟩
abbrev main_v41 : Ref sig .tc := ⟨.hbm, 336, rfl⟩
abbrev main_v42 : Ref sig .tc := ⟨.hbm, 337, rfl⟩
abbrev main_v43 : Ref sig .tc := ⟨.hbm, 338, rfl⟩
abbrev main_v44 : Ref sig .tc := ⟨.hbm, 339, rfl⟩
abbrev main_v45 : Ref sig .tc := ⟨.hbm, 340, rfl⟩
abbrev main_v46 : Ref sig .tc := ⟨.hbm, 341, rfl⟩

abbrev nD : Nat := 1
abbrev τ : Topo := Topo.v7x

variable {F : FTy → Type} [FloatOps F]
-- ==== Proof.Line.lean ====
/-
  READING A STRAIGHT LINE OF HOST OPERATIONS: in a line that writes each buffer once, in the order of the buffers'
  numbers, and reads only buffers with smaller numbers, every operation's equation holds of the FINAL contents: the
  buffer it writes holds the operation's function of what the buffers it reads hold at the end. So a long line is
  read one operation at a time, with no term composed.
-/
module

public import Idealize.ShloMosaic.Lib.StableHlo.Run

@[expose] public section

noncomputable section

namespace Cert.Line

open Idealize.ShloMosaic Idealize.ShloMosaic.TcCoe Idealize.SL.Sem Idealize.ShloMosaic.StableHlo

variable {τ : Topo} {sig : RefSig} {Val : EltTy → Type}

/-- What a typed reference's buffer holds in a valuation, at the value's type. -/
def val {T : BufTy} (V : Valuation τ sig Val) (t : TRef sig T) : T.Contents Val := t.ofBuf (V (Proc.devRef .tc t.ref))

/-- Two lines, one after the other. -/
theorem after_app (a b : List (HloOp τ sig Val)) (V : Valuation τ sig Val) : after (a ++ b) V = after b (after a V) := by
  induction a generalizing V with
  | nil => rfl
  | cons op a ih => exact ih _

/-- The line `ops` writes the references `W` in order, one per operation, and their numbers are 1, 2, 3, …. -/
structure Ordered (ops : List (HloOp τ sig Val)) (W : List (Ref sig .tc)) : Prop where
  writes : ops.map HloOp.writes = W.map fun r => {Proc.devRef (τ := τ) .tc r}
  order : (W.map fun r => (r.idx : ℕ)) = List.range' 1 W.length

variable {ops : List (HloOp τ sig Val)} {W : List (Ref sig .tc)}

/-- After the first `k` operations a buffer numbered at most `k` has its final contents. -/
theorem Ordered.keep (h : Ordered ops W) (V : Valuation τ sig Val) {k : ℕ} {r : Ref sig .tc} (hr : (r.idx : ℕ) ≤ k) :
    after ops V (Proc.devRef .tc r) = after (ops.take k) V (Proc.devRef .tc r) := by
  conv_lhs => rw [← List.take_append_drop k ops, after_app]
  refine after_of_writes_sub (W := W.drop k) _ _ (forall_writes_sub_of_map ?_) ?_
  · rw [List.map_drop, h.writes, ← List.map_drop]
  · intro hm
    have : (r.idx : ℕ) ∈ (W.map fun r => (r.idx : ℕ)).drop k := by
      rw [← List.map_drop]; exact List.mem_map_of_mem hm
    rw [h.order, List.drop_range'] at this
    have := (List.mem_range'_1.mp this).1
    omega

/-- Operation `k` (counted from 0), writing `y` alone, leaves in `y` what it makes of the contents before it. -/
theorem Ordered.at (h : Ordered ops W) (V : Valuation τ sig Val) (k : ℕ) {op : HloOp τ sig Val} {y : Ref sig .tc}
    (hk : ops[k]? = some op) (hw : op.writes = {Proc.devRef (τ := τ) .tc y}) :
    after ops V (Proc.devRef .tc y) = op.result (after (ops.take k) V) (Proc.devRef .tc y) := by
  have e1 : (W.map fun r => ({Proc.devRef (τ := τ) .tc r} : Finset _))[k]? = some {Proc.devRef (τ := τ) .tc y} := by
    rw [← h.writes, List.getElem?_map, hk, Option.map_some, hw]
  rw [List.getElem?_map] at e1
  obtain ⟨r, hr, e⟩ := Option.map_eq_some_iff.mp e1
  have hry : r = y := Proc.devRef_injective _ (Finset.singleton_injective e)
  subst hry
  have e2 : (W.map fun r => (r.idx : ℕ))[k]? = some (r.idx : ℕ) := by rw [List.getElem?_map, hr]; rfl
  rw [h.order] at e2
  have hlt : k < W.length := (List.getElem?_eq_some_iff.mp hr).1
  rw [List.getElem?_range' hlt] at e2
  have e3 : (r.idx : ℕ) ≤ k + 1 := by
    have := Option.some.inj e2; omega
  rw [h.keep V e3, List.take_add_one, hk, after_app]
  rfl

variable {T Ta Tb Tc Te : BufTy}

theorem Ordered.val_of (h : Ordered ops W) (V : Valuation τ sig Val) {k : ℕ} (x : TRef sig T) (hx : (x.ref.idx : ℕ) ≤ k) :
    x.ofBuf (after (ops.take k) V (Proc.devRef .tc x.ref)) = val (after ops V) x := by
  rw [val, h.keep V hx]

/-- The equation of an operation of no operand. -/
theorem Ordered.nullary (h : Ordered ops W) (V : Valuation τ sig Val) (k : ℕ) {y : TRef sig T} {v : T.Contents Val}
    (hk : ops[k]? = some (TRef.nullary y v)) : val (after ops V) y = v := by
  rw [val, h.at V k hk rfl, nullary_result]
  simp only [TRef.toBuf, TRef.ofBuf, cast_cast, cast_eq]

/-- The equation of an operation of one operand. -/
theorem Ordered.unary (h : Ordered ops W) (V : Valuation τ sig Val) (k : ℕ) {x : TRef sig Ta} {y : TRef sig T}
    {f : Ta.Contents Val → T.Contents Val} (hk : ops[k]? = some (TRef.unary x y f)) (hx : (x.ref.idx : ℕ) ≤ k) :
    val (after ops V) y = f (val (after ops V) x) := by
  rw [← h.val_of V x hx, val, h.at V k hk rfl, unary_result]
  simp only [TRef.toBuf, TRef.ofBuf, cast_cast, cast_eq]

/-- The equation of an operation of two operands. -/
theorem Ordered.binary (h : Ordered ops W) (V : Valuation τ sig Val) (k : ℕ) {a : TRef sig Ta} {b : TRef sig Tb} {y : TRef sig T}
    {f : Ta.Contents Val → Tb.Contents Val → T.Contents Val} (hk : ops[k]? = some (TRef.binary a b y f))
    (ha : (a.ref.idx : ℕ) ≤ k) (hb : (b.ref.idx : ℕ) ≤ k) :
    val (after ops V) y = f (val (after ops V) a) (val (after ops V) b) := by
  rw [← h.val_of V a ha, ← h.val_of V b hb, val, h.at V k hk rfl, binary_result]
  simp only [TRef.toBuf, TRef.ofBuf, cast_cast, cast_eq]

/-- The equation of a reshape. -/
theorem Ordered.reshape (h : Ordered ops W) (V : Valuation τ sig Val) (k : ℕ) {x : TRef sig Ta} {y : TRef sig T}
    {he : Ta.elt = T.elt} {hn : Ta.shape.ShapeCasts T.shape} (hk : ops[k]? = some (TRef.reshape x y he hn))
    (hx : (x.ref.idx : ℕ) ≤ k) :
    val (after ops V) y = fun i => he ▸ shapeCast T.shape (val (after ops V) x) hn i := by
  obtain ⟨x, rfl, _, _⟩ := x
  obtain ⟨y, rfl, _, _⟩ := y
  rw [← h.val_of V _ hx, val, h.at V k hk rfl, reshape_result]
  rfl

/-- The equation of an operation of four operands. -/
theorem Ordered.quaternary (h : Ordered ops W) (V : Valuation τ sig Val) (k : ℕ) {a : TRef sig Ta} {b : TRef sig Tb}
    {c : TRef sig Tc} {e : TRef sig Te} {y : TRef sig T}
    {f : Ta.Contents Val → Tb.Contents Val → Tc.Contents Val → Te.Contents Val → T.Contents Val}
    (hk : ops[k]? = some (TRef.quaternary a b c e y f)) (ha : (a.ref.idx : ℕ) ≤ k) (hb : (b.ref.idx : ℕ) ≤ k)
    (hc : (c.ref.idx : ℕ) ≤ k) (he : (e.ref.idx : ℕ) ≤ k) :
    val (after ops V) y = f (val (after ops V) a) (val (after ops V) b) (val (after ops V) c) (val (after ops V) e) := by
  rw [← h.val_of V a ha, ← h.val_of V b hb, ← h.val_of V c hc, ← h.val_of V e he, val, h.at V k hk rfl, quaternary_result]
  simp only [TRef.toBuf, TRef.ofBuf, cast_cast, cast_eq]

/-- A buffer numbered 0 is written by no operation of the line. -/
theorem Ordered.input (h : Ordered ops W) (V : Valuation τ sig Val) (x : TRef sig T) (hx : (x.ref.idx : ℕ) ≤ 0) :
    val (after ops V) x = val V x := by
  rw [← h.val_of V x hx]; rfl

end Cert.Line

end
-- ==== Proof.RefOps.lean ====
/-
  THE REFERENCE AS ONE LINE OF OPERATIONS: @main's 341 host operations in order, the calls spelt out, and the run of
  that line. Each operation's equation between the final contents of the buffers is read in RefEqs.lean.
-/
module

public import proofs.«01_k».proof.Proof.Gen.ReferenceIdeal
public import proofs.«01_k».proof.Proof.Line

@[expose] public section

set_option maxRecDepth 16384

noncomputable section

namespace Cert.ReferenceIdeal.Run

open Cert.ReferenceIdeal Cert.ReferenceIdeal.Gen Cert.Line
open Idealize.ShloMosaic Idealize.ShloMosaic.TcCoe Idealize.SL.Sem Idealize.ShloMosaic.StableHlo

variable {F : FTy → Type} [FloatOps F]

/-! ## The buffers, with their types -/

abbrev r_arg0 : TRef sig ⟨S1x8192x8, .f32⟩ := .of main_arg0
abbrev r_cst : TRef sig ⟨S8, .f32⟩ := .of main_cst
abbrev r_cst_0 : TRef sig ⟨S8, .f32⟩ := .of main_cst_0
abbrev r_v0 : TRef sig ⟨S1x1x8, .f32⟩ := .of main_v0
abbrev r_v1 : TRef sig ⟨S1x8192x8, .f32⟩ := .of main_v1
abbrev r_v2 : TRef sig ⟨S1x8192x8, .f32⟩ := .of main_v2
abbrev r_v3 : TRef sig ⟨S1x1x8, .f32⟩ := .of main_v3
abbrev r_v4 : TRef sig ⟨S1x8192x8, .f32⟩ := .of main_v4
abbrev r_v5 : TRef sig ⟨S1x8192x8, .f32⟩ := .of main_v5
abbrev r_c : TRef sig ⟨S_, .i32⟩ := .of main_c
abbrev r_c_1 : TRef sig ⟨S_, .i32⟩ := .of main_c_1
abbrev r_v6 : TRef sig ⟨S_, .i32⟩ := .of main_v6
abbrev r_v7 : TRef sig ⟨S_, .i32⟩ := .of main_v7
abbrev r_v8 : TRef sig ⟨S1, .i32⟩ := .of main_v8
abbrev r_c_2 : TRef sig ⟨S_, .i32⟩ := .of main_c_2
abbrev r_v9 : TRef sig ⟨S_, .i32⟩ := .of main_v9
abbrev r_v10 : TRef sig ⟨S_, .i32⟩ := .of main_v10
abbrev r_v11 : TRef sig ⟨S1, .i32⟩ := .of main_v11
abbrev r_v12 : TRef sig ⟨S2, .i32⟩ := .of main_v12
abbrev r_cst_3 : TRef sig ⟨S_, .f32⟩ := .of main_cst_3
abbrev r_cst_4 : TRef sig ⟨S_, .f32⟩ := .of main_cst_4
abbrev r_u_v0 : TRef sig ⟨S_, .f32⟩ := .of main_call0_v0
abbrev r_u_v1 : TRef sig ⟨S_, .f32⟩ := .of main_call0_v1
abbrev r_u_v2 : TRef sig ⟨S1x1x1x1, .f32⟩ := .of main_call0_v2
abbrev r_u_v3 : TRef sig ⟨S1x1x1x1, .f32⟩ := .of main_call0_v3
abbrev r_u_v4 : TRef sig ⟨S1, .i32⟩ := .of main_call0_v4
abbrev r_u_v5 : TRef sig ⟨S_, .i32⟩ := .of main_call0_v5
abbrev r_u_v6 : TRef sig ⟨S1, .i32⟩ := .of main_call0_v6
abbrev r_u_v7 : TRef sig ⟨S_, .i32⟩ := .of main_call0_v7
abbrev r_u_v8 : TRef sig ⟨S64x1x8192x8, .i64⟩ := .of main_call0_v8
abbrev r_u_v9 : TRef sig ⟨S64x1x8192x8, .i64⟩ := .of main_call0_v9
abbrev r_u_v10 : TRef sig ⟨S64x1x8192x8, .i64⟩ := .of main_call0_v10
abbrev r_u_v11 : TRef sig ⟨S64x1x8192x8, .i64⟩ := .of main_call0_v11
abbrev r_u_c : TRef sig ⟨S_, .i64⟩ := .of main_call0_c
abbrev r_u_v12 : TRef sig ⟨S64x1x8192x8, .i64⟩ := .of main_call0_v12
abbrev r_u_v13 : TRef sig ⟨S64x1x8192x8, .i64⟩ := .of main_call0_v13
abbrev r_u_c_0 : TRef sig ⟨S_, .i64⟩ := .of main_call0_c_0
abbrev r_u_v14 : TRef sig ⟨S64x1x8192x8, .i64⟩ := .of main_call0_v14
abbrev r_u_v15 : TRef sig ⟨S64x1x8192x8, .i64⟩ := .of main_call0_v15
abbrev r_u_c_1 : TRef sig ⟨S_, .i64⟩ := .of main_call0_c_1
abbrev r_u_v16 : TRef sig ⟨S64x1x8192x8, .i64⟩ := .of main_call0_v16
abbrev r_u_v17 : TRef sig ⟨S64x1x8192x8, .i64⟩ := .of main_call0_v17
abbrev r_u_c_2 : TRef sig ⟨S_, .i64⟩ := .of main_call0_c_2
abbrev r_u_v18 : TRef sig ⟨S64x1x8192x8, .i64⟩ := .of main_call0_v18
abbrev r_u_v19 : TRef sig ⟨S64x1x8192x8, .i64⟩ := .of main_call0_v19
abbrev r_u_v20 : TRef sig ⟨S64x1x8192x8, .i64⟩ := .of main_call0_v20
abbrev r_u_v21 : TRef sig ⟨S64x1x8192x8, .i64⟩ := .of main_call0_v21
abbrev r_u_v22 : TRef sig ⟨S64x1x8192x8, .i64⟩ := .of main_call0_v22
abbrev r_u_c_3 : TRef sig ⟨S_, .i64⟩ := .of main_call0_c_3
abbrev r_u_v23 : TRef sig ⟨S64x1x8192x8, .i64⟩ := .of main_call0_v23
abbrev r_u_v24 : TRef sig ⟨S64x1x8192x8, .i64⟩ := .of main_call0_v24
abbrev r_u_v25 : TRef sig ⟨S64x1x8192x8, .i32⟩ := .of main_call0_v25
abbrev r_u_v26 : TRef sig ⟨S64x1x8192x8, .i32⟩ := .of main_call0_v26
abbrev r_t_v0 : TRef sig ⟨S_, .i32⟩ := .of main_call0_call0_v0
abbrev r_t_c : TRef sig ⟨S_, .i32⟩ := .of main_call0_call0_c
abbrev r_t_v1 : TRef sig ⟨S_, .i32⟩ := .of main_call0_call0_v1
abbrev r_t_v2 : TRef sig ⟨S64x1x8192x8, .i32⟩ := .of main_call0_call0_v2
abbrev r_t_v3 : TRef sig ⟨S64x1x8192x8, .i32⟩ := .of main_call0_call0_v3
abbrev r_t_v4 : TRef sig ⟨S64x1x8192x8, .i32⟩ := .of main_call0_call0_v4
abbrev r_t_v5 : TRef sig ⟨S64x1x8192x8, .i32⟩ := .of main_call0_call0_v5
abbrev r_t_v6 : TRef sig ⟨S64x1x8192x8, .i32⟩ := .of main_call0_call0_v6
abbrev r_t_c_0 : TRef sig ⟨S_, .i32⟩ := .of main_call0_call0_c_0
abbrev r_t_v7 : TRef sig ⟨S64x1x8192x8, .i32⟩ := .of main_call0_call0_v7
abbrev r_t_v8 : TRef sig ⟨S64x1x8192x8, .i32⟩ := .of main_call0_call0_v8
abbrev r_t_c_1 : TRef sig ⟨S_, .i32⟩ := .of main_call0_call0_c_1
abbrev r_t_v9 : TRef sig ⟨S64x1x8192x8, .i32⟩ := .of main_call0_call0_v9
abbrev r_t_v10 : TRef sig ⟨S64x1x8192x8, .i32⟩ := .of main_call0_call0_v10
abbrev r_t_v11 : TRef sig ⟨S64x1x8192x8, .i32⟩ := .of main_call0_call0_v11
abbrev r_t_v12 : TRef sig ⟨S64x1x8192x8, .i32⟩ := .of main_call0_call0_v12
abbrev r_t_v13 : TRef sig ⟨S64x1x8192x8, .i32⟩ := .of main_call0_call0_v13
abbrev r_t_c_2 : TRef sig ⟨S_, .i32⟩ := .of main_call0_call0_c_2
abbrev r_t_v14 : TRef sig ⟨S64x1x8192x8, .i32⟩ := .of main_call0_call0_v14
abbrev r_t_v15 : TRef sig ⟨S64x1x8192x8, .i32⟩ := .of main_call0_call0_v15
abbrev r_t_c_3 : TRef sig ⟨S_, .i32⟩ := .of main_call0_call0_c_3
abbrev r_t_v16 : TRef sig ⟨S64x1x8192x8, .i32⟩ := .of main_call0_call0_v16
abbrev r_t_v17 : TRef sig ⟨S64x1x8192x8, .i32⟩ := .of main_call0_call0_v17
abbrev r_t_v18 : TRef sig ⟨S64x1x8192x8, .i32⟩ := .of main_call0_call0_v18
abbrev r_t_v19 : TRef sig ⟨S64x1x8192x8, .i32⟩ := .of main_call0_call0_v19
abbrev r_t_v20 : TRef sig ⟨S64x1x8192x8, .i32⟩ := .of main_call0_call0_v20
abbrev r_t_c_4 : TRef sig ⟨S_, .i32⟩ := .of main_call0_call0_c_4
abbrev r_t_v21 : TRef sig ⟨S64x1x8192x8, .i32⟩ := .of main_call0_call0_v21
abbrev r_t_v22 : TRef sig ⟨S64x1x8192x8, .i32⟩ := .of main_call0_call0_v22
abbrev r_t_c_5 : TRef sig ⟨S_, .i32⟩ := .of main_call0_call0_c_5
abbrev r_t_v23 : TRef sig ⟨S64x1x8192x8, .i32⟩ := .of main_call0_call0_v23
abbrev r_t_v24 : TRef sig ⟨S64x1x8192x8, .i32⟩ := .of main_call0_call0_v24
abbrev r_t_v25 : TRef sig ⟨S64x1x8192x8, .i32⟩ := .of main_call0_call0_v25
abbrev r_t_v26 : TRef sig ⟨S64x1x8192x8, .i32⟩ := .of main_call0_call0_v26
abbrev r_t_v27 : TRef sig ⟨S64x1x8192x8, .i32⟩ := .of main_call0_call0_v27
abbrev r_t_c_6 : TRef sig ⟨S_, .i32⟩ := .of main_call0_call0_c_6
abbrev r_t_v28 : TRef sig ⟨S64x1x8192x8, .i32⟩ := .of main_call0_call0_v28
abbrev r_t_v29 : TRef sig ⟨S64x1x8192x8, .i32⟩ := .of main_call0_call0_v29
abbrev r_t_c_7 : TRef sig ⟨S_, .i32⟩ := .of main_call0_call0_c_7
abbrev r_t_v30 : TRef sig ⟨S64x1x8192x8, .i32⟩ := .of main_call0_call0_v30
abbrev r_t_v31 : TRef sig ⟨S64x1x8192x8, .i32⟩ := .of main_call0_call0_v31
abbrev r_t_v32 : TRef sig ⟨S64x1x8192x8, .i32⟩ := .of main_call0_call0_v32
abbrev r_t_v33 : TRef sig ⟨S64x1x8192x8, .i32⟩ := .of main_call0_call0_v33
abbrev r_t_v34 : TRef sig ⟨S64x1x8192x8, .i32⟩ := .of main_call0_call0_v34
abbrev r_t_v35 : TRef sig ⟨S64x1x8192x8, .i32⟩ := .of main_call0_call0_v35
abbrev r_t_v36 : TRef sig ⟨S64x1x8192x8, .i32⟩ := .of main_call0_call0_v36
abbrev r_t_v37 : TRef sig ⟨S64x1x8192x8, .i32⟩ := .of main_call0_call0_v37
abbrev r_t_c_8 : TRef sig ⟨S_, .i32⟩ := .of main_call0_call0_c_8
abbrev r_t_v38 : TRef sig ⟨S64x1x8192x8, .i32⟩ := .of main_call0_call0_v38
abbrev r_t_v39 : TRef sig ⟨S64x1x8192x8, .i32⟩ := .of main_call0_call0_v39
abbrev r_t_v40 : TRef sig ⟨S64x1x8192x8, .i32⟩ := .of main_call0_call0_v40
abbrev r_t_c_9 : TRef sig ⟨S_, .i32⟩ := .of main_call0_call0_c_9
abbrev r_t_v41 : TRef sig ⟨S64x1x8192x8, .i32⟩ := .of main_call0_call0_v41
abbrev r_t_v42 : TRef sig ⟨S64x1x8192x8, .i32⟩ := .of main_call0_call0_v42
abbrev r_t_c_10 : TRef sig ⟨S_, .i32⟩ := .of main_call0_call0_c_10
abbrev r_t_v43 : TRef sig ⟨S64x1x8192x8, .i32⟩ := .of main_call0_call0_v43
abbrev r_t_v44 : TRef sig ⟨S64x1x8192x8, .i32⟩ := .of main_call0_call0_v44
abbrev r_t_v45 : TRef sig ⟨S64x1x8192x8, .i32⟩ := .of main_call0_call0_v45
abbrev r_t_v46 : TRef sig ⟨S64x1x8192x8, .i32⟩ := .of main_call0_call0_v46
abbrev r_t_v47 : TRef sig ⟨S64x1x8192x8, .i32⟩ := .of main_call0_call0_v47
abbrev r_t_c_11 : TRef sig ⟨S_, .i32⟩ := .of main_call0_call0_c_11
abbrev r_t_v48 : TRef sig ⟨S64x1x8192x8, .i32⟩ := .of main_call0_call0_v48
abbrev r_t_v49 : TRef sig ⟨S64x1x8192x8, .i32⟩ := .of main_call0_call0_v49
abbrev r_t_c_12 : TRef sig ⟨S_, .i32⟩ := .of main_call0_call0_c_12
abbrev r_t_v50 : TRef sig ⟨S64x1x8192x8, .i32⟩ := .of main_call0_call0_v50
abbrev r_t_v51 : TRef sig ⟨S64x1x8192x8, .i32⟩ := .of main_call0_call0_v51
abbrev r_t_v52 : TRef sig ⟨S64x1x8192x8, .i32⟩ := .of main_call0_call0_v52
abbrev r_t_v53 : TRef sig ⟨S64x1x8192x8, .i32⟩ := .of main_call0_call0_v53
abbrev r_t_v54 : TRef sig ⟨S64x1x8192x8, .i32⟩ := .of main_call0_call0_v54
abbrev r_t_c_13 : TRef sig ⟨S_, .i32⟩ := .of main_call0_call0_c_13
abbrev r_t_v55 : TRef sig ⟨S64x1x8192x8, .i32⟩ := .of main_call0_call0_v55
abbrev r_t_v56 : TRef sig ⟨S64x1x8192x8, .i32⟩ := .of main_call0_call0_v56
abbrev r_t_c_14 : TRef sig ⟨S_, .i32⟩ := .of main_call0_call0_c_14
abbrev r_t_v57 : TRef sig ⟨S64x1x8192x8, .i32⟩ := .of main_call0_call0_v57
abbrev r_t_v58 : TRef sig ⟨S64x1x8192x8, .i32⟩ := .of main_call0_call0_v58
abbrev r_t_v59 : TRef sig ⟨S64x1x8192x8, .i32⟩ := .of main_call0_call0_v59
abbrev r_t_v60 : TRef sig ⟨S64x1x8192x8, .i32⟩ := .of main_call0_call0_v60
abbrev r_t_v61 : TRef sig ⟨S64x1x8192x8, .i32⟩ := .of main_call0_call0_v61
abbrev r_t_c_15 : TRef sig ⟨S_, .i32⟩ := .of main_call0_call0_c_15
abbrev r_t_v62 : TRef sig ⟨S64x1x8192x8, .i32⟩ := .of main_call0_call0_v62
abbrev r_t_v63 : TRef sig ⟨S64x1x8192x8, .i32⟩ := .of main_call0_call0_v63
abbrev r_t_c_16 : TRef sig ⟨S_, .i32⟩ := .of main_call0_call0_c_16
abbrev r_t_v64 : TRef sig ⟨S64x1x8192x8, .i32⟩ := .of main_call0_call0_v64
abbrev r_t_v65 : TRef sig ⟨S64x1x8192x8, .i32⟩ := .of main_call0_call0_v65
abbrev r_t_v66 : TRef sig ⟨S64x1x8192x8, .i32⟩ := .of main_call0_call0_v66
abbrev r_t_v67 : TRef sig ⟨S64x1x8192x8, .i32⟩ := .of main_call0_call0_v67
abbrev r_t_v68 : TRef sig ⟨S64x1x8192x8, .i32⟩ := .of main_call0_call0_v68
abbrev r_t_v69 : TRef sig ⟨S64x1x8192x8, .i32⟩ := .of main_call0_call0_v69
abbrev r_t_v70 : TRef sig ⟨S64x1x8192x8, .i32⟩ := .of main_call0_call0_v70
abbrev r_t_v71 : TRef sig ⟨S64x1x8192x8, .i32⟩ := .of main_call0_call0_v71
abbrev r_t_c_17 : TRef sig ⟨S_, .i32⟩ := .of main_call0_call0_c_17
abbrev r_t_v72 : TRef sig ⟨S64x1x8192x8, .i32⟩ := .of main_call0_call0_v72
abbrev r_t_v73 : TRef sig ⟨S64x1x8192x8, .i32⟩ := .of main_call0_call0_v73
abbrev r_t_v74 : TRef sig ⟨S64x1x8192x8, .i32⟩ := .of main_call0_call0_v74
abbrev r_t_c_18 : TRef sig ⟨S_, .i32⟩ := .of main_call0_call0_c_18
abbrev r_t_v75 : TRef sig ⟨S64x1x8192x8, .i32⟩ := .of main_call0_call0_v75
abbrev r_t_v76 : TRef sig ⟨S64x1x8192x8, .i32⟩ := .of main_call0_call0_v76
abbrev r_t_c_19 : TRef sig ⟨S_, .i32⟩ := .of main_call0_call0_c_19
abbrev r_t_v77 : TRef sig ⟨S64x1x8192x8, .i32⟩ := .of main_call0_call0_v77
abbrev r_t_v78 : TRef sig ⟨S64x1x8192x8, .i32⟩ := .of main_call0_call0_v78
abbrev r_t_v79 : TRef sig ⟨S64x1x8192x8, .i32⟩ := .of main_call0_call0_v79
abbrev r_t_v80 : TRef sig ⟨S64x1x8192x8, .i32⟩ := .of main_call0_call0_v80
abbrev r_t_v81 : TRef sig ⟨S64x1x8192x8, .i32⟩ := .of main_call0_call0_v81
abbrev r_t_c_20 : TRef sig ⟨S_, .i32⟩ := .of main_call0_call0_c_20
abbrev r_t_v82 : TRef sig ⟨S64x1x8192x8, .i32⟩ := .of main_call0_call0_v82
abbrev r_t_v83 : TRef sig ⟨S64x1x8192x8, .i32⟩ := .of main_call0_call0_v83
abbrev r_t_c_21 : TRef sig ⟨S_, .i32⟩ := .of main_call0_call0_c_21
abbrev r_t_v84 : TRef sig ⟨S64x1x8192x8, .i32⟩ := .of main_call0_call0_v84
abbrev r_t_v85 : TRef sig ⟨S64x1x8192x8, .i32⟩ := .of main_call0_call0_v85
abbrev r_t_v86 : TRef sig ⟨S64x1x8192x8, .i32⟩ := .of main_call0_call0_v86
abbrev r_t_v87 : TRef sig ⟨S64x1x8192x8, .i32⟩ := .of main_call0_call0_v87
abbrev r_t_v88 : TRef sig ⟨S64x1x8192x8, .i32⟩ := .of main_call0_call0_v88
abbrev r_t_c_22 : TRef sig ⟨S_, .i32⟩ := .of main_call0_call0_c_22
abbrev r_t_v89 : TRef sig ⟨S64x1x8192x8, .i32⟩ := .of main_call0_call0_v89
abbrev r_t_v90 : TRef sig ⟨S64x1x8192x8, .i32⟩ := .of main_call0_call0_v90
abbrev r_t_c_23 : TRef sig ⟨S_, .i32⟩ := .of main_call0_call0_c_23
abbrev r_t_v91 : TRef sig ⟨S64x1x8192x8, .i32⟩ := .of main_call0_call0_v91
abbrev r_t_v92 : TRef sig ⟨S64x1x8192x8, .i32⟩ := .of main_call0_call0_v92
abbrev r_t_v93 : TRef sig ⟨S64x1x8192x8, .i32⟩ := .of main_call0_call0_v93
abbrev r_t_v94 : TRef sig ⟨S64x1x8192x8, .i32⟩ := .of main_call0_call0_v94
abbrev r_t_v95 : TRef sig ⟨S64x1x8192x8, .i32⟩ := .of main_call0_call0_v95
abbrev r_t_c_24 : TRef sig ⟨S_, .i32⟩ := .of main_call0_call0_c_24
abbrev r_t_v96 : TRef sig ⟨S64x1x8192x8, .i32⟩ := .of main_call0_call0_v96
abbrev r_t_v97 : TRef sig ⟨S64x1x8192x8, .i32⟩ := .of main_call0_call0_v97
abbrev r_t_c_25 : TRef sig ⟨S_, .i32⟩ := .of main_call0_call0_c_25
abbrev r_t_v98 : TRef sig ⟨S64x1x8192x8, .i32⟩ := .of main_call0_call0_v98
abbrev r_t_v99 : TRef sig ⟨S64x1x8192x8, .i32⟩ := .of main_call0_call0_v99
abbrev r_t_v100 : TRef sig ⟨S64x1x8192x8, .i32⟩ := .of main_call0_call0_v100
abbrev r_t_v101 : TRef sig ⟨S64x1x8192x8, .i32⟩ := .of main_call0_call0_v101
abbrev r_t_v102 : TRef sig ⟨S64x1x8192x8, .i32⟩ := .of main_call0_call0_v102
abbrev r_t_v103 : TRef sig ⟨S64x1x8192x8, .i32⟩ := .of main_call0_call0_v103
abbrev r_t_v104 : TRef sig ⟨S64x1x8192x8, .i32⟩ := .of main_call0_call0_v104
abbrev r_t_v105 : TRef sig ⟨S64x1x8192x8, .i32⟩ := .of main_call0_call0_v105
abbrev r_t_c_26 : TRef sig ⟨S_, .i32⟩ := .of main_call0_call0_c_26
abbrev r_t_v106 : TRef sig ⟨S64x1x8192x8, .i32⟩ := .of main_call0_call0_v106
abbrev r_t_v107 : TRef sig ⟨S64x1x8192x8, .i32⟩ := .of main_call0_call0_v107
abbrev r_t_v108 : TRef sig ⟨S64x1x8192x8, .i32⟩ := .of main_call0_call0_v108
abbrev r_t_c_27 : TRef sig ⟨S_, .i32⟩ := .of main_call0_call0_c_27
abbrev r_t_v109 : TRef sig ⟨S64x1x8192x8, .i32⟩ := .of main_call0_call0_v109
abbrev r_t_v110 : TRef sig ⟨S64x1x8192x8, .i32⟩ := .of main_call0_call0_v110
abbrev r_t_c_28 : TRef sig ⟨S_, .i32⟩ := .of main_call0_call0_c_28
abbrev r_t_v111 : TRef sig ⟨S64x1x8192x8, .i32⟩ := .of main_call0_call0_v111
abbrev r_t_v112 : TRef sig ⟨S64x1x8192x8, .i32⟩ := .of main_call0_call0_v112
abbrev r_t_v113 : TRef sig ⟨S64x1x8192x8, .i32⟩ := .of main_call0_call0_v113
abbrev r_t_v114 : TRef sig ⟨S64x1x8192x8, .i32⟩ := .of main_call0_call0_v114
abbrev r_t_v115 : TRef sig ⟨S64x1x8192x8, .i32⟩ := .of main_call0_call0_v115
abbrev r_t_c_29 : TRef sig ⟨S_, .i32⟩ := .of main_call0_call0_c_29
abbrev r_t_v116 : TRef sig ⟨S64x1x8192x8, .i32⟩ := .of main_call0_call0_v116
abbrev r_t_v117 : TRef sig ⟨S64x1x8192x8, .i32⟩ := .of main_call0_call0_v117
abbrev r_t_c_30 : TRef sig ⟨S_, .i32⟩ := .of main_call0_call0_c_30
abbrev r_t_v118 : TRef sig ⟨S64x1x8192x8, .i32⟩ := .of main_call0_call0_v118
abbrev r_t_v119 : TRef sig ⟨S64x1x8192x8, .i32⟩ := .of main_call0_call0_v119
abbrev r_t_v120 : TRef sig ⟨S64x1x8192x8, .i32⟩ := .of main_call0_call0_v120
abbrev r_t_v121 : TRef sig ⟨S64x1x8192x8, .i32⟩ := .of main_call0_call0_v121
abbrev r_t_v122 : TRef sig ⟨S64x1x8192x8, .i32⟩ := .of main_call0_call0_v122
abbrev r_t_c_31 : TRef sig ⟨S_, .i32⟩ := .of main_call0_call0_c_31
abbrev r_t_v123 : TRef sig ⟨S64x1x8192x8, .i32⟩ := .of main_call0_call0_v123
abbrev r_t_v124 : TRef sig ⟨S64x1x8192x8, .i32⟩ := .of main_call0_call0_v124
abbrev r_t_c_32 : TRef sig ⟨S_, .i32⟩ := .of main_call0_call0_c_32
abbrev r_t_v125 : TRef sig ⟨S64x1x8192x8, .i32⟩ := .of main_call0_call0_v125
abbrev r_t_v126 : TRef sig ⟨S64x1x8192x8, .i32⟩ := .of main_call0_call0_v126
abbrev r_t_v127 : TRef sig ⟨S64x1x8192x8, .i32⟩ := .of main_call0_call0_v127
abbrev r_t_v128 : TRef sig ⟨S64x1x8192x8, .i32⟩ := .of main_call0_call0_v128
abbrev r_t_v129 : TRef sig ⟨S64x1x8192x8, .i32⟩ := .of main_call0_call0_v129
abbrev r_t_c_33 : TRef sig ⟨S_, .i32⟩ := .of main_call0_call0_c_33
abbrev r_t_v130 : TRef sig ⟨S64x1x8192x8, .i32⟩ := .of main_call0_call0_v130
abbrev r_t_v131 : TRef sig ⟨S64x1x8192x8, .i32⟩ := .of main_call0_call0_v131
abbrev r_t_c_34 : TRef sig ⟨S_, .i32⟩ := .of main_call0_call0_c_34
abbrev r_t_v132 : TRef sig ⟨S64x1x8192x8, .i32⟩ := .of main_call0_call0_v132
abbrev r_t_v133 : TRef sig ⟨S64x1x8192x8, .i32⟩ := .of main_call0_call0_v133
abbrev r_t_v134 : TRef sig ⟨S64x1x8192x8, .i32⟩ := .of main_call0_call0_v134
abbrev r_t_v135 : TRef sig ⟨S64x1x8192x8, .i32⟩ := .of main_call0_call0_v135
abbrev r_t_v136 : TRef sig ⟨S64x1x8192x8, .i32⟩ := .of main_call0_call0_v136
abbrev r_t_v137 : TRef sig ⟨S64x1x8192x8, .i32⟩ := .of main_call0_call0_v137
abbrev r_t_v138 : TRef sig ⟨S64x1x8192x8, .i32⟩ := .of main_call0_call0_v138
abbrev r_t_v139 : TRef sig ⟨S64x1x8192x8, .i32⟩ := .of main_call0_call0_v139
abbrev r_t_c_35 : TRef sig ⟨S_, .i32⟩ := .of main_call0_call0_c_35
abbrev r_t_v140 : TRef sig ⟨S64x1x8192x8, .i32⟩ := .of main_call0_call0_v140
abbrev r_t_v141 : TRef sig ⟨S64x1x8192x8, .i32⟩ := .of main_call0_call0_v141
abbrev r_t_v142 : TRef sig ⟨S64x1x8192x8, .i32⟩ := .of main_call0_call0_v142
abbrev r_t_c_36 : TRef sig ⟨S_, .i32⟩ := .of main_call0_call0_c_36
abbrev r_t_v143 : TRef sig ⟨S64x1x8192x8, .i32⟩ := .of main_call0_call0_v143
abbrev r_t_v144 : TRef sig ⟨S64x1x8192x8, .i32⟩ := .of main_call0_call0_v144
abbrev r_t_c_37 : TRef sig ⟨S_, .i32⟩ := .of main_call0_call0_c_37
abbrev r_t_v145 : TRef sig ⟨S64x1x8192x8, .i32⟩ := .of main_call0_call0_v145
abbrev r_t_v146 : TRef sig ⟨S64x1x8192x8, .i32⟩ := .of main_call0_call0_v146
abbrev r_t_v147 : TRef sig ⟨S64x1x8192x8, .i32⟩ := .of main_call0_call0_v147
abbrev r_t_v148 : TRef sig ⟨S64x1x8192x8, .i32⟩ := .of main_call0_call0_v148
abbrev r_t_v149 : TRef sig ⟨S64x1x8192x8, .i32⟩ := .of main_call0_call0_v149
abbrev r_t_c_38 : TRef sig ⟨S_, .i32⟩ := .of main_call0_call0_c_38
abbrev r_t_v150 : TRef sig ⟨S64x1x8192x8, .i32⟩ := .of main_call0_call0_v150
abbrev r_t_v151 : TRef sig ⟨S64x1x8192x8, .i32⟩ := .of main_call0_call0_v151
abbrev r_t_c_39 : TRef sig ⟨S_, .i32⟩ := .of main_call0_call0_c_39
abbrev r_t_v152 : TRef sig ⟨S64x1x8192x8, .i32⟩ := .of main_call0_call0_v152
abbrev r_t_v153 : TRef sig ⟨S64x1x8192x8, .i32⟩ := .of main_call0_call0_v153
abbrev r_t_v154 : TRef sig ⟨S64x1x8192x8, .i32⟩ := .of main_call0_call0_v154
abbrev r_t_v155 : TRef sig ⟨S64x1x8192x8, .i32⟩ := .of main_call0_call0_v155
abbrev r_t_v156 : TRef sig ⟨S64x1x8192x8, .i32⟩ := .of main_call0_call0_v156
abbrev r_t_c_40 : TRef sig ⟨S_, .i32⟩ := .of main_call0_call0_c_40
abbrev r_t_v157 : TRef sig ⟨S64x1x8192x8, .i32⟩ := .of main_call0_call0_v157
abbrev r_t_v158 : TRef sig ⟨S64x1x8192x8, .i32⟩ := .of main_call0_call0_v158
abbrev r_t_c_41 : TRef sig ⟨S_, .i32⟩ := .of main_call0_call0_c_41
abbrev r_t_v159 : TRef sig ⟨S64x1x8192x8, .i32⟩ := .of main_call0_call0_v159
abbrev r_t_v160 : TRef sig ⟨S64x1x8192x8, .i32⟩ := .of main_call0_call0_v160
abbrev r_t_v161 : TRef sig ⟨S64x1x8192x8, .i32⟩ := .of main_call0_call0_v161
abbrev r_t_v162 : TRef sig ⟨S64x1x8192x8, .i32⟩ := .of main_call0_call0_v162
abbrev r_t_v163 : TRef sig ⟨S64x1x8192x8, .i32⟩ := .of main_call0_call0_v163
abbrev r_t_c_42 : TRef sig ⟨S_, .i32⟩ := .of main_call0_call0_c_42
abbrev r_t_v164 : TRef sig ⟨S64x1x8192x8, .i32⟩ := .of main_call0_call0_v164
abbrev r_t_v165 : TRef sig ⟨S64x1x8192x8, .i32⟩ := .of main_call0_call0_v165
abbrev r_t_c_43 : TRef sig ⟨S_, .i32⟩ := .of main_call0_call0_c_43
abbrev r_t_v166 : TRef sig ⟨S64x1x8192x8, .i32⟩ := .of main_call0_call0_v166
abbrev r_t_v167 : TRef sig ⟨S64x1x8192x8, .i32⟩ := .of main_call0_call0_v167
abbrev r_t_v168 : TRef sig ⟨S64x1x8192x8, .i32⟩ := .of main_call0_call0_v168
abbrev r_t_v169 : TRef sig ⟨S64x1x8192x8, .i32⟩ := .of main_call0_call0_v169
abbrev r_t_v170 : TRef sig ⟨S64x1x8192x8, .i32⟩ := .of main_call0_call0_v170
abbrev r_u_v27_0 : TRef sig ⟨S64x1x8192x8, .i32⟩ := .of main_call0_v27_0
abbrev r_t_v172 : TRef sig ⟨S64x1x8192x8, .i32⟩ := .of main_call0_call0_v172
abbrev r_t_v173 : TRef sig ⟨S64x1x8192x8, .i32⟩ := .of main_call0_call0_v173
abbrev r_t_c_44 : TRef sig ⟨S_, .i32⟩ := .of main_call0_call0_c_44
abbrev r_t_v174 : TRef sig ⟨S64x1x8192x8, .i32⟩ := .of main_call0_call0_v174
abbrev r_u_v27_1 : TRef sig ⟨S64x1x8192x8, .i32⟩ := .of main_call0_v27_1
abbrev r_u_v28 : TRef sig ⟨S64x1x8192x8, .i32⟩ := .of main_call0_v28
abbrev r_u_c_4 : TRef sig ⟨S_, .i32⟩ := .of main_call0_c_4
abbrev r_u_v29 : TRef sig ⟨S64x1x8192x8, .i32⟩ := .of main_call0_v29
abbrev r_u_v30 : TRef sig ⟨S64x1x8192x8, .i32⟩ := .of main_call0_v30
abbrev r_u_c_5 : TRef sig ⟨S_, .i32⟩ := .of main_call0_c_5
abbrev r_u_v31 : TRef sig ⟨S64x1x8192x8, .i32⟩ := .of main_call0_v31
abbrev r_u_v32 : TRef sig ⟨S64x1x8192x8, .i32⟩ := .of main_call0_v32
abbrev r_u_v33 : TRef sig ⟨S64x1x8192x8, .f32⟩ := .of main_call0_v33
abbrev r_u_cst : TRef sig ⟨S_, .f32⟩ := .of main_call0_cst
abbrev r_u_v34 : TRef sig ⟨S64x1x8192x8, .f32⟩ := .of main_call0_v34
abbrev r_u_v35 : TRef sig ⟨S64x1x8192x8, .f32⟩ := .of main_call0_v35
abbrev r_u_v36 : TRef sig ⟨S1x1x1x1, .f32⟩ := .of main_call0_v36
abbrev r_u_v37 : TRef sig ⟨S64x1x8192x8, .f32⟩ := .of main_call0_v37
abbrev r_u_v38 : TRef sig ⟨S64x1x8192x8, .f32⟩ := .of main_call0_v38
abbrev r_u_v39 : TRef sig ⟨S64x1x8192x8, .f32⟩ := .of main_call0_v39
abbrev r_u_v40 : TRef sig ⟨S64x1x8192x8, .f32⟩ := .of main_call0_v40
abbrev r_u_v41 : TRef sig ⟨S64x1x8192x8, .f32⟩ := .of main_call0_v41
abbrev r_v13 : TRef sig ⟨S64x1x8192x8, .f32⟩ := .of main_v13
abbrev r_cst_5 : TRef sig ⟨S_, .f32⟩ := .of main_cst_5
abbrev r_v14 : TRef sig ⟨S64x1x8192x8, .f32⟩ := .of main_v14
abbrev r_v15 : TRef sig ⟨S64x1x8192x8, .f32⟩ := .of main_v15
abbrev r_cst_6 : TRef sig ⟨S_, .f32⟩ := .of main_cst_6
abbrev r_v16 : TRef sig ⟨S64x1x8192x8, .f32⟩ := .of main_v16
abbrev r_v17 : TRef sig ⟨S64x1x8192x8, .f32⟩ := .of main_v17
abbrev r_cst_7 : TRef sig ⟨S_, .f32⟩ := .of main_cst_7
abbrev r_v18 : TRef sig ⟨S64x1x8192x8, .f32⟩ := .of main_v18
abbrev r_v19 : TRef sig ⟨S64x1x8192x8, .f32⟩ := .of main_v19
abbrev r_v20 : TRef sig ⟨S64x1x8192x8, .f32⟩ := .of main_v20
abbrev r_v21 : TRef sig ⟨S64x1x8192x8, .f32⟩ := .of main_v21
abbrev r_v22 : TRef sig ⟨S64x1x8192x8, .f32⟩ := .of main_v22
abbrev r_v23 : TRef sig ⟨S64x1x8192x8, .f32⟩ := .of main_v23
abbrev r_v24 : TRef sig ⟨S1x1x8192x8, .f32⟩ := .of main_v24
abbrev r_v25 : TRef sig ⟨S64x1x8192x8, .f32⟩ := .of main_v25
abbrev r_v26 : TRef sig ⟨S64x1x8192x8, .f32⟩ := .of main_v26
abbrev r_a_v0 : TRef sig ⟨S64x1x8192x8, .i32⟩ := .of main_call1_v0
abbrev r_a_cst : TRef sig ⟨S_, .f32⟩ := .of main_call1_cst
abbrev r_a_c : TRef sig ⟨S_, .i32⟩ := .of main_call1_c
abbrev r_a_v1_0 : TRef sig ⟨S64x1x8192, .f32⟩ := .of main_call1_v1_0
abbrev r_v27 : TRef sig ⟨S64x1x8192, .i32⟩ := .of main_v27
abbrev r_v28 : TRef sig ⟨S1x64x8192, .i32⟩ := .of main_v28
abbrev r_o_v0 : TRef sig ⟨S1x64x8192x1, .i32⟩ := .of main_call2_v0
abbrev r_o_v1 : TRef sig ⟨S1x1x1x8, .i32⟩ := .of main_call2_v1
abbrev r_o_v2 : TRef sig ⟨S1x64x8192x8, .i32⟩ := .of main_call2_v2
abbrev r_o_v3 : TRef sig ⟨S1x64x8192x8, .i32⟩ := .of main_call2_v3
abbrev r_o_v4 : TRef sig ⟨S1x64x8192x8, .i1⟩ := .of main_call2_v4
abbrev r_v29 : TRef sig ⟨S1x64x8192x8, .f32⟩ := .of main_v29
abbrev r_cst_8 : TRef sig ⟨S_, .f32⟩ := .of main_cst_8
abbrev r_v30 : TRef sig ⟨S1x8192x8, .f32⟩ := .of main_v30
abbrev r_v31 : TRef sig ⟨S1x8192x8, .f32⟩ := .of main_v31
abbrev r_cst_9 : TRef sig ⟨S_, .f32⟩ := .of main_cst_9
abbrev r_v32 : TRef sig ⟨S1x8192, .f32⟩ := .of main_v32
abbrev r_cst_10 : TRef sig ⟨S_, .f32⟩ := .of main_cst_10
abbrev r_v33 : TRef sig ⟨S1x8192, .f32⟩ := .of main_v33
abbrev r_v34 : TRef sig ⟨S1x8192, .f32⟩ := .of main_v34
abbrev r_v35 : TRef sig ⟨S1x8192x1, .f32⟩ := .of main_v35
abbrev r_v36 : TRef sig ⟨S1x8192x8, .f32⟩ := .of main_v36
abbrev r_v37 : TRef sig ⟨S1x8192x8, .f32⟩ := .of main_v37
abbrev r_v38 : TRef sig ⟨S1x8192x8, .f32⟩ := .of main_v38
abbrev r_cst_11 : TRef sig ⟨S_, .f32⟩ := .of main_cst_11
abbrev r_v39 : TRef sig ⟨S1x8192, .f32⟩ := .of main_v39
abbrev r_v40 : TRef sig ⟨S1x8192x1, .f32⟩ := .of main_v40
abbrev r_v41 : TRef sig ⟨S1x8192x8, .f32⟩ := .of main_v41
abbrev r_v42 : TRef sig ⟨S1x8192x8, .f32⟩ := .of main_v42
abbrev r_v43 : TRef sig ⟨S1x1x8192x8, .f32⟩ := .of main_v43
abbrev r_v44 : TRef sig ⟨S1x64x8192x8, .f32⟩ := .of main_v44
abbrev r_v45 : TRef sig ⟨S1x64x8192x8, .f32⟩ := .of main_v45
abbrev r_v46 : TRef sig ⟨S1x64x8192x8, .f32⟩ := .of main_v46

/-! ## The operations -/

/-- Operations 1 to 31. -/
abbrev ops0 : List (HloOp τ sig (Elt F)) :=
  [ nullary main_cst (fun i => FloatOps.ofBits .f32 (lit0 (S8.rowMajor i))),
    nullary main_cst_0 (fun i => FloatOps.ofBits .f32 (lit1 (S8.rowMajor i))),
    unary main_cst main_v0 (broadcastInDim S1x1x8 ![2] bcast_S8_S1x1x8_2 : (⟨S8, .f32⟩ : BufTy).Contents (Elt F) → (⟨S1x1x8, .f32⟩ : BufTy).Contents (Elt F)),
    unary main_v0 main_v1 (broadcastInDim S1x8192x8 ![0, 1, 2] bcast_S1x1x8_S1x8192x8_0_1_2 : (⟨S1x1x8, .f32⟩ : BufTy).Contents (Elt F) → (⟨S1x8192x8, .f32⟩ : BufTy).Contents (Elt F)),
    binary main_arg0 main_v1 main_v2 (mulf : (⟨S1x8192x8, .f32⟩ : BufTy).Contents (Elt F) → (⟨S1x8192x8, .f32⟩ : BufTy).Contents (Elt F) → (⟨S1x8192x8, .f32⟩ : BufTy).Contents (Elt F)),
    unary main_cst_0 main_v3 (broadcastInDim S1x1x8 ![2] bcast_S8_S1x1x8_2 : (⟨S8, .f32⟩ : BufTy).Contents (Elt F) → (⟨S1x1x8, .f32⟩ : BufTy).Contents (Elt F)),
    unary main_v3 main_v4 (broadcastInDim S1x8192x8 ![0, 1, 2] bcast_S1x1x8_S1x8192x8_0_1_2 : (⟨S1x1x8, .f32⟩ : BufTy).Contents (Elt F) → (⟨S1x8192x8, .f32⟩ : BufTy).Contents (Elt F)),
    binary main_v2 main_v4 main_v5 (addf : (⟨S1x8192x8, .f32⟩ : BufTy).Contents (Elt F) → (⟨S1x8192x8, .f32⟩ : BufTy).Contents (Elt F) → (⟨S1x8192x8, .f32⟩ : BufTy).Contents (Elt F)),
    nullary main_c (constantI S_ 32 1234#32),
    nullary main_c_1 (constantI S_ 32 32#32),
    binary main_c main_c_1 main_v6 (Host.shrui : (⟨S_, .i32⟩ : BufTy).Contents (Elt F) → (⟨S_, .i32⟩ : BufTy).Contents (Elt F) → (⟨S_, .i32⟩ : BufTy).Contents (Elt F)),
    unary main_v6 main_v7 (id : (⟨S_, .i32⟩ : BufTy).Contents (Elt F) → (⟨S_, .i32⟩ : BufTy).Contents (Elt F)),
    unary main_v7 main_v8 (broadcastInDim S1 ![] bcast_S_S1 : (⟨S_, .i32⟩ : BufTy).Contents (Elt F) → (⟨S1, .i32⟩ : BufTy).Contents (Elt F)),
    nullary main_c_2 (constantI S_ 32 4294967295#32),
    binary main_c main_c_2 main_v9 (andi : (⟨S_, .i32⟩ : BufTy).Contents (Elt F) → (⟨S_, .i32⟩ : BufTy).Contents (Elt F) → (⟨S_, .i32⟩ : BufTy).Contents (Elt F)),
    unary main_v9 main_v10 (id : (⟨S_, .i32⟩ : BufTy).Contents (Elt F) → (⟨S_, .i32⟩ : BufTy).Contents (Elt F)),
    unary main_v10 main_v11 (broadcastInDim S1 ![] bcast_S_S1 : (⟨S_, .i32⟩ : BufTy).Contents (Elt F) → (⟨S1, .i32⟩ : BufTy).Contents (Elt F)),
    binary main_v8 main_v11 main_v12 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    nullary main_cst_3 (constant S_ .f32 0x00000000#32),
    nullary main_cst_4 (constant S_ .f32 0x3F800000#32),
    TRef.unary r_cst_3 r_u_v0 id,
    TRef.unary r_cst_4 r_u_v1 id,
    TRef.unary r_u_v0 r_u_v2 (broadcastInDim S1x1x1x1 ![] bcast_S_S1x1x1x1),
    TRef.unary r_u_v1 r_u_v3 (broadcastInDim S1x1x1x1 ![] bcast_S_S1x1x1x1),
    TRef.unary r_v12 r_u_v4 (extractStridedSlice S1 ![0] · slices_S2_S1_0),
    TRef.reshape r_u_v4 r_u_v5 rfl shapeCasts_S1_S_,
    TRef.unary r_v12 r_u_v6 (extractStridedSlice S1 ![1] · slices_S2_S1_1),
    TRef.reshape r_u_v6 r_u_v7 rfl shapeCasts_S1_S_,
    TRef.nullary r_u_v8 (iotaInDim S64x1x8192x8 64 0),
    TRef.nullary r_u_v9 (iotaInDim S64x1x8192x8 64 1),
    TRef.nullary r_u_v10 (iotaInDim S64x1x8192x8 64 2) ]

/-- Operations 32 to 62. -/
abbrev ops1 : List (HloOp τ sig (Elt F)) :=
  [ TRef.nullary r_u_v11 (iotaInDim S64x1x8192x8 64 3),
    TRef.nullary r_u_c (constantI S_ 64 65536#64),
    TRef.unary r_u_c r_u_v12 (broadcastInDim S64x1x8192x8 ![] bcast_S_S64x1x8192x8),
    TRef.binary r_u_v12 r_u_v8 r_u_v13 muli,
    TRef.nullary r_u_c_0 (constantI S_ 64 65536#64),
    TRef.unary r_u_c_0 r_u_v14 (broadcastInDim S64x1x8192x8 ![] bcast_S_S64x1x8192x8),
    TRef.binary r_u_v14 r_u_v9 r_u_v15 muli,
    TRef.nullary r_u_c_1 (constantI S_ 64 8#64),
    TRef.unary r_u_c_1 r_u_v16 (broadcastInDim S64x1x8192x8 ![] bcast_S_S64x1x8192x8),
    TRef.binary r_u_v16 r_u_v10 r_u_v17 muli,
    TRef.nullary r_u_c_2 (constantI S_ 64 1#64),
    TRef.unary r_u_c_2 r_u_v18 (broadcastInDim S64x1x8192x8 ![] bcast_S_S64x1x8192x8),
    TRef.binary r_u_v18 r_u_v11 r_u_v19 muli,
    TRef.binary r_u_v13 r_u_v15 r_u_v20 addi,
    TRef.binary r_u_v20 r_u_v17 r_u_v21 addi,
    TRef.binary r_u_v21 r_u_v19 r_u_v22 addi,
    TRef.nullary r_u_c_3 (constantI S_ 64 32#64),
    TRef.unary r_u_c_3 r_u_v23 (broadcastInDim S64x1x8192x8 ![] bcast_S_S64x1x8192x8),
    TRef.binary r_u_v22 r_u_v23 r_u_v24 Host.shrui,
    TRef.unary r_u_v22 r_u_v25 (trunci 32 · natLt_32_64),
    TRef.unary r_u_v24 r_u_v26 (trunci 32 · natLt_32_64),
    TRef.binary r_u_v5 r_u_v7 r_t_v0 xori,
    TRef.nullary r_t_c (constantI S_ 32 466688986#32),
    TRef.binary r_t_v0 r_t_c r_t_v1 xori,
    TRef.unary r_u_v5 r_t_v2 (broadcastInDim S64x1x8192x8 ![] bcast_S_S64x1x8192x8),
    TRef.binary r_u_v26 r_t_v2 r_t_v3 addi,
    TRef.unary r_u_v7 r_t_v4 (broadcastInDim S64x1x8192x8 ![] bcast_S_S64x1x8192x8),
    TRef.binary r_u_v25 r_t_v4 r_t_v5 addi,
    TRef.binary r_t_v3 r_t_v5 r_t_v6 addi,
    TRef.nullary r_t_c_0 (constantI S_ 32 13#32),
    TRef.unary r_t_c_0 r_t_v7 (broadcastInDim S64x1x8192x8 ![] bcast_S_S64x1x8192x8) ]

/-- Operations 63 to 93. -/
abbrev ops2 : List (HloOp τ sig (Elt F)) :=
  [ TRef.binary r_t_v5 r_t_v7 r_t_v8 Host.shli,
    TRef.nullary r_t_c_1 (constantI S_ 32 19#32),
    TRef.unary r_t_c_1 r_t_v9 (broadcastInDim S64x1x8192x8 ![] bcast_S_S64x1x8192x8),
    TRef.binary r_t_v5 r_t_v9 r_t_v10 Host.shrui,
    TRef.binary r_t_v8 r_t_v10 r_t_v11 ori,
    TRef.binary r_t_v6 r_t_v11 r_t_v12 xori,
    TRef.binary r_t_v6 r_t_v12 r_t_v13 addi,
    TRef.nullary r_t_c_2 (constantI S_ 32 15#32),
    TRef.unary r_t_c_2 r_t_v14 (broadcastInDim S64x1x8192x8 ![] bcast_S_S64x1x8192x8),
    TRef.binary r_t_v12 r_t_v14 r_t_v15 Host.shli,
    TRef.nullary r_t_c_3 (constantI S_ 32 17#32),
    TRef.unary r_t_c_3 r_t_v16 (broadcastInDim S64x1x8192x8 ![] bcast_S_S64x1x8192x8),
    TRef.binary r_t_v12 r_t_v16 r_t_v17 Host.shrui,
    TRef.binary r_t_v15 r_t_v17 r_t_v18 ori,
    TRef.binary r_t_v13 r_t_v18 r_t_v19 xori,
    TRef.binary r_t_v13 r_t_v19 r_t_v20 addi,
    TRef.nullary r_t_c_4 (constantI S_ 32 26#32),
    TRef.unary r_t_c_4 r_t_v21 (broadcastInDim S64x1x8192x8 ![] bcast_S_S64x1x8192x8),
    TRef.binary r_t_v19 r_t_v21 r_t_v22 Host.shli,
    TRef.nullary r_t_c_5 (constantI S_ 32 6#32),
    TRef.unary r_t_c_5 r_t_v23 (broadcastInDim S64x1x8192x8 ![] bcast_S_S64x1x8192x8),
    TRef.binary r_t_v19 r_t_v23 r_t_v24 Host.shrui,
    TRef.binary r_t_v22 r_t_v24 r_t_v25 ori,
    TRef.binary r_t_v20 r_t_v25 r_t_v26 xori,
    TRef.binary r_t_v20 r_t_v26 r_t_v27 addi,
    TRef.nullary r_t_c_6 (constantI S_ 32 6#32),
    TRef.unary r_t_c_6 r_t_v28 (broadcastInDim S64x1x8192x8 ![] bcast_S_S64x1x8192x8),
    TRef.binary r_t_v26 r_t_v28 r_t_v29 Host.shli,
    TRef.nullary r_t_c_7 (constantI S_ 32 26#32),
    TRef.unary r_t_c_7 r_t_v30 (broadcastInDim S64x1x8192x8 ![] bcast_S_S64x1x8192x8),
    TRef.binary r_t_v26 r_t_v30 r_t_v31 Host.shrui ]

/-- Operations 94 to 124. -/
abbrev ops3 : List (HloOp τ sig (Elt F)) :=
  [ TRef.binary r_t_v29 r_t_v31 r_t_v32 ori,
    TRef.binary r_t_v27 r_t_v32 r_t_v33 xori,
    TRef.unary r_u_v7 r_t_v34 (broadcastInDim S64x1x8192x8 ![] bcast_S_S64x1x8192x8),
    TRef.binary r_t_v27 r_t_v34 r_t_v35 addi,
    TRef.unary r_t_v1 r_t_v36 (broadcastInDim S64x1x8192x8 ![] bcast_S_S64x1x8192x8),
    TRef.binary r_t_v33 r_t_v36 r_t_v37 addi,
    TRef.nullary r_t_c_8 (constantI S_ 32 1#32),
    TRef.unary r_t_c_8 r_t_v38 (broadcastInDim S64x1x8192x8 ![] bcast_S_S64x1x8192x8),
    TRef.binary r_t_v37 r_t_v38 r_t_v39 addi,
    TRef.binary r_t_v35 r_t_v39 r_t_v40 addi,
    TRef.nullary r_t_c_9 (constantI S_ 32 17#32),
    TRef.unary r_t_c_9 r_t_v41 (broadcastInDim S64x1x8192x8 ![] bcast_S_S64x1x8192x8),
    TRef.binary r_t_v39 r_t_v41 r_t_v42 Host.shli,
    TRef.nullary r_t_c_10 (constantI S_ 32 15#32),
    TRef.unary r_t_c_10 r_t_v43 (broadcastInDim S64x1x8192x8 ![] bcast_S_S64x1x8192x8),
    TRef.binary r_t_v39 r_t_v43 r_t_v44 Host.shrui,
    TRef.binary r_t_v42 r_t_v44 r_t_v45 ori,
    TRef.binary r_t_v40 r_t_v45 r_t_v46 xori,
    TRef.binary r_t_v40 r_t_v46 r_t_v47 addi,
    TRef.nullary r_t_c_11 (constantI S_ 32 29#32),
    TRef.unary r_t_c_11 r_t_v48 (broadcastInDim S64x1x8192x8 ![] bcast_S_S64x1x8192x8),
    TRef.binary r_t_v46 r_t_v48 r_t_v49 Host.shli,
    TRef.nullary r_t_c_12 (constantI S_ 32 3#32),
    TRef.unary r_t_c_12 r_t_v50 (broadcastInDim S64x1x8192x8 ![] bcast_S_S64x1x8192x8),
    TRef.binary r_t_v46 r_t_v50 r_t_v51 Host.shrui,
    TRef.binary r_t_v49 r_t_v51 r_t_v52 ori,
    TRef.binary r_t_v47 r_t_v52 r_t_v53 xori,
    TRef.binary r_t_v47 r_t_v53 r_t_v54 addi,
    TRef.nullary r_t_c_13 (constantI S_ 32 16#32),
    TRef.unary r_t_c_13 r_t_v55 (broadcastInDim S64x1x8192x8 ![] bcast_S_S64x1x8192x8),
    TRef.binary r_t_v53 r_t_v55 r_t_v56 Host.shli ]

/-- Operations 125 to 155. -/
abbrev ops4 : List (HloOp τ sig (Elt F)) :=
  [ TRef.nullary r_t_c_14 (constantI S_ 32 16#32),
    TRef.unary r_t_c_14 r_t_v57 (broadcastInDim S64x1x8192x8 ![] bcast_S_S64x1x8192x8),
    TRef.binary r_t_v53 r_t_v57 r_t_v58 Host.shrui,
    TRef.binary r_t_v56 r_t_v58 r_t_v59 ori,
    TRef.binary r_t_v54 r_t_v59 r_t_v60 xori,
    TRef.binary r_t_v54 r_t_v60 r_t_v61 addi,
    TRef.nullary r_t_c_15 (constantI S_ 32 24#32),
    TRef.unary r_t_c_15 r_t_v62 (broadcastInDim S64x1x8192x8 ![] bcast_S_S64x1x8192x8),
    TRef.binary r_t_v60 r_t_v62 r_t_v63 Host.shli,
    TRef.nullary r_t_c_16 (constantI S_ 32 8#32),
    TRef.unary r_t_c_16 r_t_v64 (broadcastInDim S64x1x8192x8 ![] bcast_S_S64x1x8192x8),
    TRef.binary r_t_v60 r_t_v64 r_t_v65 Host.shrui,
    TRef.binary r_t_v63 r_t_v65 r_t_v66 ori,
    TRef.binary r_t_v61 r_t_v66 r_t_v67 xori,
    TRef.unary r_t_v1 r_t_v68 (broadcastInDim S64x1x8192x8 ![] bcast_S_S64x1x8192x8),
    TRef.binary r_t_v61 r_t_v68 r_t_v69 addi,
    TRef.unary r_u_v5 r_t_v70 (broadcastInDim S64x1x8192x8 ![] bcast_S_S64x1x8192x8),
    TRef.binary r_t_v67 r_t_v70 r_t_v71 addi,
    TRef.nullary r_t_c_17 (constantI S_ 32 2#32),
    TRef.unary r_t_c_17 r_t_v72 (broadcastInDim S64x1x8192x8 ![] bcast_S_S64x1x8192x8),
    TRef.binary r_t_v71 r_t_v72 r_t_v73 addi,
    TRef.binary r_t_v69 r_t_v73 r_t_v74 addi,
    TRef.nullary r_t_c_18 (constantI S_ 32 13#32),
    TRef.unary r_t_c_18 r_t_v75 (broadcastInDim S64x1x8192x8 ![] bcast_S_S64x1x8192x8),
    TRef.binary r_t_v73 r_t_v75 r_t_v76 Host.shli,
    TRef.nullary r_t_c_19 (constantI S_ 32 19#32),
    TRef.unary r_t_c_19 r_t_v77 (broadcastInDim S64x1x8192x8 ![] bcast_S_S64x1x8192x8),
    TRef.binary r_t_v73 r_t_v77 r_t_v78 Host.shrui,
    TRef.binary r_t_v76 r_t_v78 r_t_v79 ori,
    TRef.binary r_t_v74 r_t_v79 r_t_v80 xori,
    TRef.binary r_t_v74 r_t_v80 r_t_v81 addi ]

/-- Operations 156 to 186. -/
abbrev ops5 : List (HloOp τ sig (Elt F)) :=
  [ TRef.nullary r_t_c_20 (constantI S_ 32 15#32),
    TRef.unary r_t_c_20 r_t_v82 (broadcastInDim S64x1x8192x8 ![] bcast_S_S64x1x8192x8),
    TRef.binary r_t_v80 r_t_v82 r_t_v83 Host.shli,
    TRef.nullary r_t_c_21 (constantI S_ 32 17#32),
    TRef.unary r_t_c_21 r_t_v84 (broadcastInDim S64x1x8192x8 ![] bcast_S_S64x1x8192x8),
    TRef.binary r_t_v80 r_t_v84 r_t_v85 Host.shrui,
    TRef.binary r_t_v83 r_t_v85 r_t_v86 ori,
    TRef.binary r_t_v81 r_t_v86 r_t_v87 xori,
    TRef.binary r_t_v81 r_t_v87 r_t_v88 addi,
    TRef.nullary r_t_c_22 (constantI S_ 32 26#32),
    TRef.unary r_t_c_22 r_t_v89 (broadcastInDim S64x1x8192x8 ![] bcast_S_S64x1x8192x8),
    TRef.binary r_t_v87 r_t_v89 r_t_v90 Host.shli,
    TRef.nullary r_t_c_23 (constantI S_ 32 6#32),
    TRef.unary r_t_c_23 r_t_v91 (broadcastInDim S64x1x8192x8 ![] bcast_S_S64x1x8192x8),
    TRef.binary r_t_v87 r_t_v91 r_t_v92 Host.shrui,
    TRef.binary r_t_v90 r_t_v92 r_t_v93 ori,
    TRef.binary r_t_v88 r_t_v93 r_t_v94 xori,
    TRef.binary r_t_v88 r_t_v94 r_t_v95 addi,
    TRef.nullary r_t_c_24 (constantI S_ 32 6#32),
    TRef.unary r_t_c_24 r_t_v96 (broadcastInDim S64x1x8192x8 ![] bcast_S_S64x1x8192x8),
    TRef.binary r_t_v94 r_t_v96 r_t_v97 Host.shli,
    TRef.nullary r_t_c_25 (constantI S_ 32 26#32),
    TRef.unary r_t_c_25 r_t_v98 (broadcastInDim S64x1x8192x8 ![] bcast_S_S64x1x8192x8),
    TRef.binary r_t_v94 r_t_v98 r_t_v99 Host.shrui,
    TRef.binary r_t_v97 r_t_v99 r_t_v100 ori,
    TRef.binary r_t_v95 r_t_v100 r_t_v101 xori,
    TRef.unary r_u_v5 r_t_v102 (broadcastInDim S64x1x8192x8 ![] bcast_S_S64x1x8192x8),
    TRef.binary r_t_v95 r_t_v102 r_t_v103 addi,
    TRef.unary r_u_v7 r_t_v104 (broadcastInDim S64x1x8192x8 ![] bcast_S_S64x1x8192x8),
    TRef.binary r_t_v101 r_t_v104 r_t_v105 addi,
    TRef.nullary r_t_c_26 (constantI S_ 32 3#32) ]

/-- Operations 187 to 217. -/
abbrev ops6 : List (HloOp τ sig (Elt F)) :=
  [ TRef.unary r_t_c_26 r_t_v106 (broadcastInDim S64x1x8192x8 ![] bcast_S_S64x1x8192x8),
    TRef.binary r_t_v105 r_t_v106 r_t_v107 addi,
    TRef.binary r_t_v103 r_t_v107 r_t_v108 addi,
    TRef.nullary r_t_c_27 (constantI S_ 32 17#32),
    TRef.unary r_t_c_27 r_t_v109 (broadcastInDim S64x1x8192x8 ![] bcast_S_S64x1x8192x8),
    TRef.binary r_t_v107 r_t_v109 r_t_v110 Host.shli,
    TRef.nullary r_t_c_28 (constantI S_ 32 15#32),
    TRef.unary r_t_c_28 r_t_v111 (broadcastInDim S64x1x8192x8 ![] bcast_S_S64x1x8192x8),
    TRef.binary r_t_v107 r_t_v111 r_t_v112 Host.shrui,
    TRef.binary r_t_v110 r_t_v112 r_t_v113 ori,
    TRef.binary r_t_v108 r_t_v113 r_t_v114 xori,
    TRef.binary r_t_v108 r_t_v114 r_t_v115 addi,
    TRef.nullary r_t_c_29 (constantI S_ 32 29#32),
    TRef.unary r_t_c_29 r_t_v116 (broadcastInDim S64x1x8192x8 ![] bcast_S_S64x1x8192x8),
    TRef.binary r_t_v114 r_t_v116 r_t_v117 Host.shli,
    TRef.nullary r_t_c_30 (constantI S_ 32 3#32),
    TRef.unary r_t_c_30 r_t_v118 (broadcastInDim S64x1x8192x8 ![] bcast_S_S64x1x8192x8),
    TRef.binary r_t_v114 r_t_v118 r_t_v119 Host.shrui,
    TRef.binary r_t_v117 r_t_v119 r_t_v120 ori,
    TRef.binary r_t_v115 r_t_v120 r_t_v121 xori,
    TRef.binary r_t_v115 r_t_v121 r_t_v122 addi,
    TRef.nullary r_t_c_31 (constantI S_ 32 16#32),
    TRef.unary r_t_c_31 r_t_v123 (broadcastInDim S64x1x8192x8 ![] bcast_S_S64x1x8192x8),
    TRef.binary r_t_v121 r_t_v123 r_t_v124 Host.shli,
    TRef.nullary r_t_c_32 (constantI S_ 32 16#32),
    TRef.unary r_t_c_32 r_t_v125 (broadcastInDim S64x1x8192x8 ![] bcast_S_S64x1x8192x8),
    TRef.binary r_t_v121 r_t_v125 r_t_v126 Host.shrui,
    TRef.binary r_t_v124 r_t_v126 r_t_v127 ori,
    TRef.binary r_t_v122 r_t_v127 r_t_v128 xori,
    TRef.binary r_t_v122 r_t_v128 r_t_v129 addi,
    TRef.nullary r_t_c_33 (constantI S_ 32 24#32) ]

/-- Operations 218 to 248. -/
abbrev ops7 : List (HloOp τ sig (Elt F)) :=
  [ TRef.unary r_t_c_33 r_t_v130 (broadcastInDim S64x1x8192x8 ![] bcast_S_S64x1x8192x8),
    TRef.binary r_t_v128 r_t_v130 r_t_v131 Host.shli,
    TRef.nullary r_t_c_34 (constantI S_ 32 8#32),
    TRef.unary r_t_c_34 r_t_v132 (broadcastInDim S64x1x8192x8 ![] bcast_S_S64x1x8192x8),
    TRef.binary r_t_v128 r_t_v132 r_t_v133 Host.shrui,
    TRef.binary r_t_v131 r_t_v133 r_t_v134 ori,
    TRef.binary r_t_v129 r_t_v134 r_t_v135 xori,
    TRef.unary r_u_v7 r_t_v136 (broadcastInDim S64x1x8192x8 ![] bcast_S_S64x1x8192x8),
    TRef.binary r_t_v129 r_t_v136 r_t_v137 addi,
    TRef.unary r_t_v1 r_t_v138 (broadcastInDim S64x1x8192x8 ![] bcast_S_S64x1x8192x8),
    TRef.binary r_t_v135 r_t_v138 r_t_v139 addi,
    TRef.nullary r_t_c_35 (constantI S_ 32 4#32),
    TRef.unary r_t_c_35 r_t_v140 (broadcastInDim S64x1x8192x8 ![] bcast_S_S64x1x8192x8),
    TRef.binary r_t_v139 r_t_v140 r_t_v141 addi,
    TRef.binary r_t_v137 r_t_v141 r_t_v142 addi,
    TRef.nullary r_t_c_36 (constantI S_ 32 13#32),
    TRef.unary r_t_c_36 r_t_v143 (broadcastInDim S64x1x8192x8 ![] bcast_S_S64x1x8192x8),
    TRef.binary r_t_v141 r_t_v143 r_t_v144 Host.shli,
    TRef.nullary r_t_c_37 (constantI S_ 32 19#32),
    TRef.unary r_t_c_37 r_t_v145 (broadcastInDim S64x1x8192x8 ![] bcast_S_S64x1x8192x8),
    TRef.binary r_t_v141 r_t_v145 r_t_v146 Host.shrui,
    TRef.binary r_t_v144 r_t_v146 r_t_v147 ori,
    TRef.binary r_t_v142 r_t_v147 r_t_v148 xori,
    TRef.binary r_t_v142 r_t_v148 r_t_v149 addi,
    TRef.nullary r_t_c_38 (constantI S_ 32 15#32),
    TRef.unary r_t_c_38 r_t_v150 (broadcastInDim S64x1x8192x8 ![] bcast_S_S64x1x8192x8),
    TRef.binary r_t_v148 r_t_v150 r_t_v151 Host.shli,
    TRef.nullary r_t_c_39 (constantI S_ 32 17#32),
    TRef.unary r_t_c_39 r_t_v152 (broadcastInDim S64x1x8192x8 ![] bcast_S_S64x1x8192x8),
    TRef.binary r_t_v148 r_t_v152 r_t_v153 Host.shrui,
    TRef.binary r_t_v151 r_t_v153 r_t_v154 ori ]

/-- Operations 249 to 279. -/
abbrev ops8 : List (HloOp τ sig (Elt F)) :=
  [ TRef.binary r_t_v149 r_t_v154 r_t_v155 xori,
    TRef.binary r_t_v149 r_t_v155 r_t_v156 addi,
    TRef.nullary r_t_c_40 (constantI S_ 32 26#32),
    TRef.unary r_t_c_40 r_t_v157 (broadcastInDim S64x1x8192x8 ![] bcast_S_S64x1x8192x8),
    TRef.binary r_t_v155 r_t_v157 r_t_v158 Host.shli,
    TRef.nullary r_t_c_41 (constantI S_ 32 6#32),
    TRef.unary r_t_c_41 r_t_v159 (broadcastInDim S64x1x8192x8 ![] bcast_S_S64x1x8192x8),
    TRef.binary r_t_v155 r_t_v159 r_t_v160 Host.shrui,
    TRef.binary r_t_v158 r_t_v160 r_t_v161 ori,
    TRef.binary r_t_v156 r_t_v161 r_t_v162 xori,
    TRef.binary r_t_v156 r_t_v162 r_t_v163 addi,
    TRef.nullary r_t_c_42 (constantI S_ 32 6#32),
    TRef.unary r_t_c_42 r_t_v164 (broadcastInDim S64x1x8192x8 ![] bcast_S_S64x1x8192x8),
    TRef.binary r_t_v162 r_t_v164 r_t_v165 Host.shli,
    TRef.nullary r_t_c_43 (constantI S_ 32 26#32),
    TRef.unary r_t_c_43 r_t_v166 (broadcastInDim S64x1x8192x8 ![] bcast_S_S64x1x8192x8),
    TRef.binary r_t_v162 r_t_v166 r_t_v167 Host.shrui,
    TRef.binary r_t_v165 r_t_v167 r_t_v168 ori,
    TRef.binary r_t_v163 r_t_v168 r_t_v169 xori,
    TRef.unary r_t_v1 r_t_v170 (broadcastInDim S64x1x8192x8 ![] bcast_S_S64x1x8192x8),
    TRef.binary r_t_v163 r_t_v170 r_u_v27_0 addi,
    TRef.unary r_u_v5 r_t_v172 (broadcastInDim S64x1x8192x8 ![] bcast_S_S64x1x8192x8),
    TRef.binary r_t_v169 r_t_v172 r_t_v173 addi,
    TRef.nullary r_t_c_44 (constantI S_ 32 5#32),
    TRef.unary r_t_c_44 r_t_v174 (broadcastInDim S64x1x8192x8 ![] bcast_S_S64x1x8192x8),
    TRef.binary r_t_v173 r_t_v174 r_u_v27_1 addi,
    TRef.binary r_u_v27_0 r_u_v27_1 r_u_v28 xori,
    TRef.nullary r_u_c_4 (constantI S_ 32 9#32),
    TRef.unary r_u_c_4 r_u_v29 (broadcastInDim S64x1x8192x8 ![] bcast_S_S64x1x8192x8),
    TRef.binary r_u_v28 r_u_v29 r_u_v30 Host.shrui,
    TRef.nullary r_u_c_5 (constantI S_ 32 1065353216#32) ]

/-- Operations 280 to 310. -/
abbrev ops9 : List (HloOp τ sig (Elt F)) :=
  [ TRef.unary r_u_c_5 r_u_v31 (broadcastInDim S64x1x8192x8 ![] bcast_S_S64x1x8192x8),
    TRef.binary r_u_v30 r_u_v31 r_u_v32 ori,
    TRef.unary r_u_v32 r_u_v33 (bitcastToFloat (F := F) .f32),
    TRef.nullary r_u_cst (constant S_ .f32 0x3F800000#32),
    TRef.unary r_u_cst r_u_v34 (broadcastInDim S64x1x8192x8 ![] bcast_S_S64x1x8192x8),
    TRef.binary r_u_v33 r_u_v34 r_u_v35 subf,
    TRef.binary r_u_v3 r_u_v2 r_u_v36 subf,
    TRef.unary r_u_v36 r_u_v37 (broadcastInDim S64x1x8192x8 ![0, 1, 2, 3] bcast_S1x1x1x1_S64x1x8192x8_0_1_2_3),
    TRef.binary r_u_v35 r_u_v37 r_u_v38 mulf,
    TRef.unary r_u_v2 r_u_v39 (broadcastInDim S64x1x8192x8 ![0, 1, 2, 3] bcast_S1x1x1x1_S64x1x8192x8_0_1_2_3),
    TRef.binary r_u_v38 r_u_v39 r_u_v40 addf,
    TRef.unary r_u_v2 r_u_v41 (broadcastInDim S64x1x8192x8 ![0, 1, 2, 3] bcast_S1x1x1x1_S64x1x8192x8_0_1_2_3),
    TRef.binary r_u_v41 r_u_v40 r_v13 maximumf,
    nullary main_cst_5 (constant S_ .f32 0x3F800000#32),
    unary main_cst_5 main_v14 (broadcastInDim S64x1x8192x8 ![] bcast_S_S64x1x8192x8 : (⟨S_, .f32⟩ : BufTy).Contents (Elt F) → (⟨S64x1x8192x8, .f32⟩ : BufTy).Contents (Elt F)),
    binary main_v13 main_v14 main_v15 (mulf : (⟨S64x1x8192x8, .f32⟩ : BufTy).Contents (Elt F) → (⟨S64x1x8192x8, .f32⟩ : BufTy).Contents (Elt F) → (⟨S64x1x8192x8, .f32⟩ : BufTy).Contents (Elt F)),
    nullary main_cst_6 (constant S_ .f32 0x00800000#32),
    unary main_cst_6 main_v16 (broadcastInDim S64x1x8192x8 ![] bcast_S_S64x1x8192x8 : (⟨S_, .f32⟩ : BufTy).Contents (Elt F) → (⟨S64x1x8192x8, .f32⟩ : BufTy).Contents (Elt F)),
    binary main_v15 main_v16 main_v17 (addf : (⟨S64x1x8192x8, .f32⟩ : BufTy).Contents (Elt F) → (⟨S64x1x8192x8, .f32⟩ : BufTy).Contents (Elt F) → (⟨S64x1x8192x8, .f32⟩ : BufTy).Contents (Elt F)),
    nullary main_cst_7 (constant S_ .f32 0x00800000#32),
    unary main_cst_7 main_v18 (broadcastInDim S64x1x8192x8 ![] bcast_S_S64x1x8192x8 : (⟨S_, .f32⟩ : BufTy).Contents (Elt F) → (⟨S64x1x8192x8, .f32⟩ : BufTy).Contents (Elt F)),
    binary main_v18 main_v17 main_v19 (maximumf : (⟨S64x1x8192x8, .f32⟩ : BufTy).Contents (Elt F) → (⟨S64x1x8192x8, .f32⟩ : BufTy).Contents (Elt F) → (⟨S64x1x8192x8, .f32⟩ : BufTy).Contents (Elt F)),
    unary main_v19 main_v20 (Host.log : (⟨S64x1x8192x8, .f32⟩ : BufTy).Contents (Elt F) → (⟨S64x1x8192x8, .f32⟩ : BufTy).Contents (Elt F)),
    unary main_v20 main_v21 (Host.negf : (⟨S64x1x8192x8, .f32⟩ : BufTy).Contents (Elt F) → (⟨S64x1x8192x8, .f32⟩ : BufTy).Contents (Elt F)),
    unary main_v21 main_v22 (Host.log : (⟨S64x1x8192x8, .f32⟩ : BufTy).Contents (Elt F) → (⟨S64x1x8192x8, .f32⟩ : BufTy).Contents (Elt F)),
    unary main_v22 main_v23 (Host.negf : (⟨S64x1x8192x8, .f32⟩ : BufTy).Contents (Elt F) → (⟨S64x1x8192x8, .f32⟩ : BufTy).Contents (Elt F)),
    unary main_v5 main_v24 (broadcastInDim S1x1x8192x8 ![1, 2, 3] bcast_S1x8192x8_S1x1x8192x8_1_2_3 : (⟨S1x8192x8, .f32⟩ : BufTy).Contents (Elt F) → (⟨S1x1x8192x8, .f32⟩ : BufTy).Contents (Elt F)),
    unary main_v24 main_v25 (broadcastInDim S64x1x8192x8 ![0, 1, 2, 3] bcast_S1x1x8192x8_S64x1x8192x8_0_1_2_3 : (⟨S1x1x8192x8, .f32⟩ : BufTy).Contents (Elt F) → (⟨S64x1x8192x8, .f32⟩ : BufTy).Contents (Elt F)),
    binary main_v23 main_v25 main_v26 (addf : (⟨S64x1x8192x8, .f32⟩ : BufTy).Contents (Elt F) → (⟨S64x1x8192x8, .f32⟩ : BufTy).Contents (Elt F) → (⟨S64x1x8192x8, .f32⟩ : BufTy).Contents (Elt F)),
    TRef.nullary r_a_v0 (iotaInDim S64x1x8192x8 32 3),
    TRef.nullary r_a_cst (constant S_ .f32 0xFF800000#32) ]

/-- Operations 311 to 340. -/
abbrev ops10 : List (HloOp τ sig (Elt F)) :=
  [ TRef.nullary r_a_c (constantI S_ 32 0#32),
    TRef.quaternary r_v26 r_a_v0 r_a_cst r_a_c r_a_v1_0 (fun x y u v j => (Host.argReduce reducer_argmax_f32_i32 x y u v reducesTo_S64x1x8192x8_S64x1x8192_d3 h_S_ j).1),
    TRef.quaternary r_v26 r_a_v0 r_a_cst r_a_c r_v27 (fun x y u v j => (Host.argReduce reducer_argmax_f32_i32 x y u v reducesTo_S64x1x8192x8_S64x1x8192_d3 h_S_ j).2),
    unary main_v27 main_v28 ((transpose S1x64x8192 [1, 0, 2] · transposes_S64x1x8192_S1x64x8192_1_0_2) : (⟨S64x1x8192, .i32⟩ : BufTy).Contents (Elt F) → (⟨S1x64x8192, .i32⟩ : BufTy).Contents (Elt F)),
    TRef.unary r_v28 r_o_v0 (broadcastInDim S1x64x8192x1 ![0, 1, 2] bcast_S1x64x8192_S1x64x8192x1_0_1_2),
    TRef.nullary r_o_v1 (iotaInDim S1x1x1x8 32 3),
    TRef.unary r_o_v0 r_o_v2 (broadcastInDim S1x64x8192x8 ![0, 1, 2, 3] bcast_S1x64x8192x1_S1x64x8192x8_0_1_2_3),
    TRef.unary r_o_v1 r_o_v3 (broadcastInDim S1x64x8192x8 ![0, 1, 2, 3] bcast_S1x1x1x8_S1x64x8192x8_0_1_2_3),
    TRef.binary r_o_v2 r_o_v3 r_o_v4 (cmpi .eq),
    TRef.unary r_o_v4 r_v29 (uitofp .f32),
    nullary main_cst_8 (constant S_ .f32 0x3F800000#32),
    unary main_cst_8 main_v30 (broadcastInDim S1x8192x8 ![] bcast_S_S1x8192x8 : (⟨S_, .f32⟩ : BufTy).Contents (Elt F) → (⟨S1x8192x8, .f32⟩ : BufTy).Contents (Elt F)),
    binary main_v5 main_v30 main_v31 (Host.divf : (⟨S1x8192x8, .f32⟩ : BufTy).Contents (Elt F) → (⟨S1x8192x8, .f32⟩ : BufTy).Contents (Elt F) → (⟨S1x8192x8, .f32⟩ : BufTy).Contents (Elt F)),
    nullary main_cst_9 (constant S_ .f32 0xFF800000#32),
    binary main_v31 main_cst_9 main_v32 ((fun x v => Host.reduce FloatOps.maximumf x v reducesTo_S1x8192x8_S1x8192_d2 h_S_) : (⟨S1x8192x8, .f32⟩ : BufTy).Contents (Elt F) → (⟨S_, .f32⟩ : BufTy).Contents (Elt F) → (⟨S1x8192, .f32⟩ : BufTy).Contents (Elt F)),
    nullary main_cst_10 (constant S_ .f32 0xFF800000#32),
    unary main_cst_10 main_v33 (broadcastInDim S1x8192 ![] bcast_S_S1x8192 : (⟨S_, .f32⟩ : BufTy).Contents (Elt F) → (⟨S1x8192, .f32⟩ : BufTy).Contents (Elt F)),
    binary main_v33 main_v32 main_v34 (maximumf : (⟨S1x8192, .f32⟩ : BufTy).Contents (Elt F) → (⟨S1x8192, .f32⟩ : BufTy).Contents (Elt F) → (⟨S1x8192, .f32⟩ : BufTy).Contents (Elt F)),
    unary main_v34 main_v35 (broadcastInDim S1x8192x1 ![0, 1] bcast_S1x8192_S1x8192x1_0_1 : (⟨S1x8192, .f32⟩ : BufTy).Contents (Elt F) → (⟨S1x8192x1, .f32⟩ : BufTy).Contents (Elt F)),
    unary main_v35 main_v36 (broadcastInDim S1x8192x8 ![0, 1, 2] bcast_S1x8192x1_S1x8192x8_0_1_2 : (⟨S1x8192x1, .f32⟩ : BufTy).Contents (Elt F) → (⟨S1x8192x8, .f32⟩ : BufTy).Contents (Elt F)),
    binary main_v31 main_v36 main_v37 (subf : (⟨S1x8192x8, .f32⟩ : BufTy).Contents (Elt F) → (⟨S1x8192x8, .f32⟩ : BufTy).Contents (Elt F) → (⟨S1x8192x8, .f32⟩ : BufTy).Contents (Elt F)),
    unary main_v37 main_v38 (Host.exp : (⟨S1x8192x8, .f32⟩ : BufTy).Contents (Elt F) → (⟨S1x8192x8, .f32⟩ : BufTy).Contents (Elt F)),
    nullary main_cst_11 (constant S_ .f32 0x00000000#32),
    binary main_v38 main_cst_11 main_v39 ((fun x v => Host.reduceAdd x v reducesTo_S1x8192x8_S1x8192_d2 h_S_) : (⟨S1x8192x8, .f32⟩ : BufTy).Contents (Elt F) → (⟨S_, .f32⟩ : BufTy).Contents (Elt F) → (⟨S1x8192, .f32⟩ : BufTy).Contents (Elt F)),
    unary main_v39 main_v40 (broadcastInDim S1x8192x1 ![0, 1] bcast_S1x8192_S1x8192x1_0_1 : (⟨S1x8192, .f32⟩ : BufTy).Contents (Elt F) → (⟨S1x8192x1, .f32⟩ : BufTy).Contents (Elt F)),
    unary main_v40 main_v41 (broadcastInDim S1x8192x8 ![0, 1, 2] bcast_S1x8192x1_S1x8192x8_0_1_2 : (⟨S1x8192x1, .f32⟩ : BufTy).Contents (Elt F) → (⟨S1x8192x8, .f32⟩ : BufTy).Contents (Elt F)),
    binary main_v38 main_v41 main_v42 (Host.divf : (⟨S1x8192x8, .f32⟩ : BufTy).Contents (Elt F) → (⟨S1x8192x8, .f32⟩ : BufTy).Contents (Elt F) → (⟨S1x8192x8, .f32⟩ : BufTy).Contents (Elt F)),
    unary main_v42 main_v43 (broadcastInDim S1x1x8192x8 ![0, 2, 3] bcast_S1x8192x8_S1x1x8192x8_0_2_3 : (⟨S1x8192x8, .f32⟩ : BufTy).Contents (Elt F) → (⟨S1x1x8192x8, .f32⟩ : BufTy).Contents (Elt F)),
    unary main_v43 main_v44 (broadcastInDim S1x64x8192x8 ![0, 1, 2, 3] bcast_S1x1x8192x8_S1x64x8192x8_0_1_2_3 : (⟨S1x1x8192x8, .f32⟩ : BufTy).Contents (Elt F) → (⟨S1x64x8192x8, .f32⟩ : BufTy).Contents (Elt F)),
    binary main_v29 main_v44 main_v45 (addf : (⟨S1x64x8192x8, .f32⟩ : BufTy).Contents (Elt F) → (⟨S1x64x8192x8, .f32⟩ : BufTy).Contents (Elt F) → (⟨S1x64x8192x8, .f32⟩ : BufTy).Contents (Elt F)) ]

/-- Operations 341 to 341. -/
abbrev ops11 : List (HloOp τ sig (Elt F)) :=
  [ binary main_v45 main_v44 main_v46 (subf : (⟨S1x64x8192x8, .f32⟩ : BufTy).Contents (Elt F) → (⟨S1x64x8192x8, .f32⟩ : BufTy).Contents (Elt F) → (⟨S1x64x8192x8, .f32⟩ : BufTy).Contents (Elt F)) ]

/-- The operations of the first printed part of @main. -/
def first : List (HloOp τ sig (Elt F)) :=
  ops0 ++ (ops1 ++ (ops2 ++ (ops3 ++ (ops4 ++ (ops5 ++ (ops6 ++ (ops7 ++ (ops8 ++ (ops9 ++ (ops10))))))))))

/-- All of @main's operations. -/
abbrev ops : List (HloOp τ sig (Elt F)) := first ++ ops11

set_option maxHeartbeats 4000000 in
/-- The first printed part of @main is its operations, one after another. -/
theorem part0_eq (c : Dev nD) : main_part0 (F := F) c = seq first := rfl

/-- The second printed part of @main is its one operation. -/
theorem part1_eq (c : Dev nD) : main_part1 (F := F) c = seq ops11 := rfl

/-- @main is the whole line. -/
theorem main_eq (c : Dev nD) : main (F := F) c = seq ops := by
  simp only [ops, seq_append, ← part0_eq c, ← part1_eq c]
  rfl

/-- No buffer of the reference is scoped to a region. -/
theorem scopedRefs_eq : (Finset.univ.filter fun b : Ref sig .tc => b.isScoped) = ∅ := by decide

/-- No semaphore of the reference is scoped to a region. -/
theorem scopedSems_eq : (Finset.univ.filter fun sm : SemLoc sig => sm.isScoped .tc) = ∅ := by decide

theorem ops0_sub : (ops0 : List (HloOp τ sig (Elt F))).Forall fun op => op.bufs ⊆ tcRefs τ sig :=
  ⟨nullary_bufs_sub .., nullary_bufs_sub .., unary_bufs_sub .., unary_bufs_sub .., binary_bufs_sub .., unary_bufs_sub .., unary_bufs_sub .., binary_bufs_sub .., nullary_bufs_sub .., nullary_bufs_sub .., binary_bufs_sub .., unary_bufs_sub .., unary_bufs_sub .., nullary_bufs_sub .., binary_bufs_sub .., unary_bufs_sub .., unary_bufs_sub .., binary_bufs_sub .., nullary_bufs_sub .., nullary_bufs_sub .., unary_bufs_sub .., unary_bufs_sub .., unary_bufs_sub .., unary_bufs_sub .., unary_bufs_sub .., reshape_bufs_sub .., unary_bufs_sub .., reshape_bufs_sub .., nullary_bufs_sub .., nullary_bufs_sub .., nullary_bufs_sub ..⟩

theorem ops1_sub : (ops1 : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., unary_bufs_sub .., unary_bufs_sub .., binary_bufs_sub .., nullary_bufs_sub .., binary_bufs_sub .., unary_bufs_sub .., binary_bufs_sub .., unary_bufs_sub .., binary_bufs_sub .., binary_bufs_sub .., nullary_bufs_sub .., unary_bufs_sub ..⟩

theorem ops2_sub : (ops2 : List (HloOp τ sig (Elt F))).Forall fun op => op.bufs ⊆ tcRefs τ sig :=
  ⟨binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub ..⟩

theorem ops3_sub : (ops3 : List (HloOp τ sig (Elt F))).Forall fun op => op.bufs ⊆ tcRefs τ sig :=
  ⟨binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub ..⟩

theorem ops4_sub : (ops4 : List (HloOp τ sig (Elt F))).Forall fun op => op.bufs ⊆ tcRefs τ sig :=
  ⟨nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub ..⟩

theorem ops5_sub : (ops5 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub ..⟩

theorem ops6_sub : (ops6 : List (HloOp τ sig (Elt F))).Forall fun op => op.bufs ⊆ tcRefs τ sig :=
  ⟨unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub ..⟩

theorem ops7_sub : (ops7 : List (HloOp τ sig (Elt F))).Forall fun op => op.bufs ⊆ tcRefs τ sig :=
  ⟨unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub ..⟩

theorem ops8_sub : (ops8 : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub ..⟩

theorem ops9_sub : (ops9 : List (HloOp τ sig (Elt F))).Forall fun op => op.bufs ⊆ tcRefs τ sig :=
  ⟨unary_bufs_sub .., binary_bufs_sub .., unary_bufs_sub .., nullary_bufs_sub .., unary_bufs_sub .., binary_bufs_sub .., binary_bufs_sub .., unary_bufs_sub .., binary_bufs_sub .., unary_bufs_sub .., binary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., unary_bufs_sub .., unary_bufs_sub .., unary_bufs_sub .., unary_bufs_sub .., binary_bufs_sub .., nullary_bufs_sub .., nullary_bufs_sub ..⟩

theorem ops10_sub : (ops10 : List (HloOp τ sig (Elt F))).Forall fun op => op.bufs ⊆ tcRefs τ sig :=
  ⟨nullary_bufs_sub .., quaternary_bufs_sub .., quaternary_bufs_sub .., unary_bufs_sub .., unary_bufs_sub .., nullary_bufs_sub .., unary_bufs_sub .., unary_bufs_sub .., binary_bufs_sub .., unary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., unary_bufs_sub .., binary_bufs_sub ..⟩

theorem ops11_sub : (ops11 : List (HloOp τ sig (Elt F))).Forall fun op => op.bufs ⊆ tcRefs τ sig :=
  binary_bufs_sub ..

/-- Every buffer the line touches is a buffer of the TensorCore. -/
theorem ops_sub : (ops : List (HloOp τ sig (Elt F))).Forall fun op => op.bufs ⊆ tcRefs τ sig := by
  refine List.forall_iff_forall_mem.mpr fun op h => ?_
  simp only [ops, first, List.mem_append, or_assoc] at h
  rcases h with h | h | h | h | h | h | h | h | h | h | h | h
  exacts [List.forall_iff_forall_mem.mp ops0_sub op h, List.forall_iff_forall_mem.mp ops1_sub op h, List.forall_iff_forall_mem.mp ops2_sub op h, List.forall_iff_forall_mem.mp ops3_sub op h, List.forall_iff_forall_mem.mp ops4_sub op h, List.forall_iff_forall_mem.mp ops5_sub op h, List.forall_iff_forall_mem.mp ops6_sub op h, List.forall_iff_forall_mem.mp ops7_sub op h, List.forall_iff_forall_mem.mp ops8_sub op h, List.forall_iff_forall_mem.mp ops9_sub op h, List.forall_iff_forall_mem.mp ops10_sub op h, List.forall_iff_forall_mem.mp ops11_sub op h]

/-- No operation of the line leaves contents it does not determine. -/
theorem ops_fresh : ∀ op ∈ (ops : List (HloOp τ sig (Elt F))), op.fresh = ∅ :=
  List.forall_iff_forall_mem.mp (forall_fresh_of_map rfl)

/-- The references the line writes, in order. -/
def written : List (Ref sig .tc) :=
  [main_cst, main_cst_0, main_v0, main_v1, main_v2, main_v3, main_v4, main_v5, main_c, main_c_1, main_v6, main_v7, main_v8, main_c_2, main_v9, main_v10, main_v11, main_v12, main_cst_3, main_cst_4, main_call0_v0, main_call0_v1, main_call0_v2, main_call0_v3, main_call0_v4, main_call0_v5, main_call0_v6, main_call0_v7, main_call0_v8, main_call0_v9, main_call0_v10, main_call0_v11, main_call0_c, main_call0_v12, main_call0_v13, main_call0_c_0, main_call0_v14, main_call0_v15, main_call0_c_1, main_call0_v16, main_call0_v17, main_call0_c_2, main_call0_v18, main_call0_v19, main_call0_v20, main_call0_v21, main_call0_v22, main_call0_c_3, main_call0_v23, main_call0_v24, main_call0_v25, main_call0_v26, main_call0_call0_v0, main_call0_call0_c, main_call0_call0_v1, main_call0_call0_v2, main_call0_call0_v3, main_call0_call0_v4, main_call0_call0_v5, main_call0_call0_v6, main_call0_call0_c_0, main_call0_call0_v7, main_call0_call0_v8, main_call0_call0_c_1, main_call0_call0_v9, main_call0_call0_v10, main_call0_call0_v11, main_call0_call0_v12, main_call0_call0_v13, main_call0_call0_c_2, main_call0_call0_v14, main_call0_call0_v15, main_call0_call0_c_3, main_call0_call0_v16, main_call0_call0_v17, main_call0_call0_v18, main_call0_call0_v19, main_call0_call0_v20, main_call0_call0_c_4, main_call0_call0_v21, main_call0_call0_v22, main_call0_call0_c_5, main_call0_call0_v23, main_call0_call0_v24, main_call0_call0_v25, main_call0_call0_v26, main_call0_call0_v27, main_call0_call0_c_6, main_call0_call0_v28, main_call0_call0_v29, main_call0_call0_c_7, main_call0_call0_v30, main_call0_call0_v31, main_call0_call0_v32, main_call0_call0_v33, main_call0_call0_v34, main_call0_call0_v35, main_call0_call0_v36, main_call0_call0_v37, main_call0_call0_c_8, main_call0_call0_v38, main_call0_call0_v39, main_call0_call0_v40, main_call0_call0_c_9, main_call0_call0_v41, main_call0_call0_v42, main_call0_call0_c_10, main_call0_call0_v43, main_call0_call0_v44, main_call0_call0_v45, main_call0_call0_v46, main_call0_call0_v47, main_call0_call0_c_11, main_call0_call0_v48, main_call0_call0_v49, main_call0_call0_c_12, main_call0_call0_v50, main_call0_call0_v51, main_call0_call0_v52, main_call0_call0_v53, main_call0_call0_v54, main_call0_call0_c_13, main_call0_call0_v55, main_call0_call0_v56, main_call0_call0_c_14, main_call0_call0_v57, main_call0_call0_v58, main_call0_call0_v59, main_call0_call0_v60, main_call0_call0_v61, main_call0_call0_c_15, main_call0_call0_v62, main_call0_call0_v63, main_call0_call0_c_16, main_call0_call0_v64, main_call0_call0_v65, main_call0_call0_v66, main_call0_call0_v67, main_call0_call0_v68, main_call0_call0_v69, main_call0_call0_v70, main_call0_call0_v71, main_call0_call0_c_17, main_call0_call0_v72, main_call0_call0_v73, main_call0_call0_v74, main_call0_call0_c_18, main_call0_call0_v75, main_call0_call0_v76, main_call0_call0_c_19, main_call0_call0_v77, main_call0_call0_v78, main_call0_call0_v79, main_call0_call0_v80, main_call0_call0_v81, main_call0_call0_c_20, main_call0_call0_v82, main_call0_call0_v83, main_call0_call0_c_21, main_call0_call0_v84, main_call0_call0_v85, main_call0_call0_v86, main_call0_call0_v87, main_call0_call0_v88, main_call0_call0_c_22, main_call0_call0_v89, main_call0_call0_v90, main_call0_call0_c_23, main_call0_call0_v91, main_call0_call0_v92, main_call0_call0_v93, main_call0_call0_v94, main_call0_call0_v95, main_call0_call0_c_24, main_call0_call0_v96, main_call0_call0_v97, main_call0_call0_c_25, main_call0_call0_v98, main_call0_call0_v99, main_call0_call0_v100, main_call0_call0_v101, main_call0_call0_v102, main_call0_call0_v103, main_call0_call0_v104, main_call0_call0_v105, main_call0_call0_c_26, main_call0_call0_v106, main_call0_call0_v107, main_call0_call0_v108, main_call0_call0_c_27, main_call0_call0_v109, main_call0_call0_v110, main_call0_call0_c_28, main_call0_call0_v111, main_call0_call0_v112, main_call0_call0_v113, main_call0_call0_v114, main_call0_call0_v115, main_call0_call0_c_29, main_call0_call0_v116, main_call0_call0_v117, main_call0_call0_c_30, main_call0_call0_v118, main_call0_call0_v119, main_call0_call0_v120, main_call0_call0_v121, main_call0_call0_v122, main_call0_call0_c_31, main_call0_call0_v123, main_call0_call0_v124, main_call0_call0_c_32, main_call0_call0_v125, main_call0_call0_v126, main_call0_call0_v127, main_call0_call0_v128, main_call0_call0_v129, main_call0_call0_c_33, main_call0_call0_v130, main_call0_call0_v131, main_call0_call0_c_34, main_call0_call0_v132, main_call0_call0_v133, main_call0_call0_v134, main_call0_call0_v135, main_call0_call0_v136, main_call0_call0_v137, main_call0_call0_v138, main_call0_call0_v139, main_call0_call0_c_35, main_call0_call0_v140, main_call0_call0_v141, main_call0_call0_v142, main_call0_call0_c_36, main_call0_call0_v143, main_call0_call0_v144, main_call0_call0_c_37, main_call0_call0_v145, main_call0_call0_v146, main_call0_call0_v147, main_call0_call0_v148, main_call0_call0_v149, main_call0_call0_c_38, main_call0_call0_v150, main_call0_call0_v151, main_call0_call0_c_39, main_call0_call0_v152, main_call0_call0_v153, main_call0_call0_v154, main_call0_call0_v155, main_call0_call0_v156, main_call0_call0_c_40, main_call0_call0_v157, main_call0_call0_v158, main_call0_call0_c_41, main_call0_call0_v159, main_call0_call0_v160, main_call0_call0_v161, main_call0_call0_v162, main_call0_call0_v163, main_call0_call0_c_42, main_call0_call0_v164, main_call0_call0_v165, main_call0_call0_c_43, main_call0_call0_v166, main_call0_call0_v167, main_call0_call0_v168, main_call0_call0_v169, main_call0_call0_v170, main_call0_v27_0, main_call0_call0_v172, main_call0_call0_v173, main_call0_call0_c_44, main_call0_call0_v174, main_call0_v27_1, main_call0_v28, main_call0_c_4, main_call0_v29, main_call0_v30, main_call0_c_5, main_call0_v31, main_call0_v32, main_call0_v33, main_call0_cst, main_call0_v34, main_call0_v35, main_call0_v36, main_call0_v37, main_call0_v38, main_call0_v39, main_call0_v40, main_call0_v41, main_v13, main_cst_5, main_v14, main_v15, main_cst_6, main_v16, main_v17, main_cst_7, main_v18, main_v19, main_v20, main_v21, main_v22, main_v23, main_v24, main_v25, main_v26, main_call1_v0, main_call1_cst, main_call1_c, main_call1_v1_0, main_v27, main_v28, main_call2_v0, main_call2_v1, main_call2_v2, main_call2_v3, main_call2_v4, main_v29, main_cst_8, main_v30, main_v31, main_cst_9, main_v32, main_cst_10, main_v33, main_v34, main_v35, main_v36, main_v37, main_v38, main_cst_11, main_v39, main_v40, main_v41, main_v42, main_v43, main_v44, main_v45, main_v46]

/-- The line writes each buffer once, in the order of their numbers. -/
theorem line : Ordered (ops : List (HloOp τ sig (Elt F))) written := ⟨rfl, by decide⟩

/-- On every device, from any memory with zero counters, every weakly fair run of the reference terminates with every
    buffer at the line's final contents. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (launchContents m c) (Proc.devRef .tc b) :=
  run_seq scopedRefs_eq scopedSems_eq defs main (fun _ => ops) main_eq (fun _ => ops_sub) m ρ fun _ => ops_fresh

end Cert.ReferenceIdeal.Run

end
-- ==== Proof.RefEqs.lean ====
/-
  THE REFERENCE'S EQUATIONS: after the whole line, each buffer holds its operation's function of what the operand
  buffers hold. One equation per operation, in the order of the text.
-/
module

public import proofs.«01_k».proof.Proof.RefOps

@[expose] public section

set_option maxRecDepth 16384

noncomputable section

namespace Cert.ReferenceIdeal.Run

open Cert.ReferenceIdeal Cert.ReferenceIdeal.Gen Cert.Line
open Idealize.ShloMosaic Idealize.ShloMosaic.TcCoe Idealize.SL.Sem Idealize.ShloMosaic.StableHlo

variable {F : FTy → Type} [FloatOps F] (V : Valuation τ sig (Elt F))

/-- What a buffer holds after the whole line. -/
def R {T : BufTy} (t : TRef sig T) : T.Contents (Elt F) := val (after ops V) t

/-- The argument's buffer is unchanged. -/
theorem e_arg0 : R V r_arg0 = val V r_arg0 := line.input V _ (by decide)

theorem e_cst : R V r_cst = (fun i => FloatOps.ofBits .f32 (lit0 (S8.rowMajor i))) := line.nullary V 0 rfl
theorem e_cst_0 : R V r_cst_0 = (fun i => FloatOps.ofBits .f32 (lit1 (S8.rowMajor i))) := line.nullary V 1 rfl
theorem e_v0 : R V r_v0 = (broadcastInDim S1x1x8 ![2] bcast_S8_S1x1x8_2) (R V r_cst) :=
  line.unary V 2 (x := r_cst) (y := r_v0) rfl (by decide)
theorem e_v1 : R V r_v1 = (broadcastInDim S1x8192x8 ![0, 1, 2] bcast_S1x1x8_S1x8192x8_0_1_2) (R V r_v0) :=
  line.unary V 3 (x := r_v0) (y := r_v1) rfl (by decide)
theorem e_v2 : R V r_v2 = mulf (R V r_arg0) (R V r_v1) :=
  line.binary V 4 (a := r_arg0) (b := r_v1) (y := r_v2) rfl (by decide) (by decide)
theorem e_v3 : R V r_v3 = (broadcastInDim S1x1x8 ![2] bcast_S8_S1x1x8_2) (R V r_cst_0) :=
  line.unary V 5 (x := r_cst_0) (y := r_v3) rfl (by decide)
theorem e_v4 : R V r_v4 = (broadcastInDim S1x8192x8 ![0, 1, 2] bcast_S1x1x8_S1x8192x8_0_1_2) (R V r_v3) :=
  line.unary V 6 (x := r_v3) (y := r_v4) rfl (by decide)
theorem e_v5 : R V r_v5 = addf (R V r_v2) (R V r_v4) :=
  line.binary V 7 (a := r_v2) (b := r_v4) (y := r_v5) rfl (by decide) (by decide)
theorem e_c : R V r_c = (constantI S_ 32 1234#32) := line.nullary V 8 rfl
theorem e_c_1 : R V r_c_1 = (constantI S_ 32 32#32) := line.nullary V 9 rfl
theorem e_v6 : R V r_v6 = Host.shrui (R V r_c) (R V r_c_1) :=
  line.binary V 10 (a := r_c) (b := r_c_1) (y := r_v6) rfl (by decide) (by decide)
theorem e_v7 : R V r_v7 = id (R V r_v6) :=
  line.unary V 11 (x := r_v6) (y := r_v7) rfl (by decide)
theorem e_v8 : R V r_v8 = (broadcastInDim S1 ![] bcast_S_S1) (R V r_v7) :=
  line.unary V 12 (x := r_v7) (y := r_v8) rfl (by decide)
theorem e_c_2 : R V r_c_2 = (constantI S_ 32 4294967295#32) := line.nullary V 13 rfl
theorem e_v9 : R V r_v9 = andi (R V r_c) (R V r_c_2) :=
  line.binary V 14 (a := r_c) (b := r_c_2) (y := r_v9) rfl (by decide) (by decide)
theorem e_v10 : R V r_v10 = id (R V r_v9) :=
  line.unary V 15 (x := r_v9) (y := r_v10) rfl (by decide)
theorem e_v11 : R V r_v11 = (broadcastInDim S1 ![] bcast_S_S1) (R V r_v10) :=
  line.unary V 16 (x := r_v10) (y := r_v11) rfl (by decide)
theorem e_v12 : R V r_v12 = ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)) (R V r_v8) (R V r_v11) :=
  (line.binary V 17 (a := r_v8) (b := r_v11) (y := r_v12) (f := ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F))) rfl (by decide) (by decide) :)
theorem e_cst_3 : R V r_cst_3 = (constant S_ .f32 0x00000000#32) := line.nullary V 18 rfl
theorem e_cst_4 : R V r_cst_4 = (constant S_ .f32 0x3F800000#32) := line.nullary V 19 rfl
theorem e_u_v0 : R V r_u_v0 = id (R V r_cst_3) :=
  line.unary V 20 (x := r_cst_3) (y := r_u_v0) rfl (by decide)
theorem e_u_v1 : R V r_u_v1 = id (R V r_cst_4) :=
  line.unary V 21 (x := r_cst_4) (y := r_u_v1) rfl (by decide)
theorem e_u_v2 : R V r_u_v2 = (broadcastInDim S1x1x1x1 ![] bcast_S_S1x1x1x1) (R V r_u_v0) :=
  line.unary V 22 (x := r_u_v0) (y := r_u_v2) rfl (by decide)
theorem e_u_v3 : R V r_u_v3 = (broadcastInDim S1x1x1x1 ![] bcast_S_S1x1x1x1) (R V r_u_v1) :=
  line.unary V 23 (x := r_u_v1) (y := r_u_v3) rfl (by decide)
theorem e_u_v4 : R V r_u_v4 = ((fun x => extractStridedSlice S1 ![0] x slices_S2_S1_0) : (⟨S2, .i32⟩ : BufTy).Contents (Elt F) → (⟨S1, .i32⟩ : BufTy).Contents (Elt F)) (R V r_v12) :=
  (line.unary V 24 (x := r_v12) (y := r_u_v4) (f := ((fun x => extractStridedSlice S1 ![0] x slices_S2_S1_0) : (⟨S2, .i32⟩ : BufTy).Contents (Elt F) → (⟨S1, .i32⟩ : BufTy).Contents (Elt F))) rfl (by decide) :)
theorem e_u_v5 : R V r_u_v5 = fun i => shapeCast S_ (R V r_u_v4) shapeCasts_S1_S_ i := line.reshape V 25 (x := r_u_v4) (y := r_u_v5) rfl (by decide)
theorem e_u_v6 : R V r_u_v6 = ((fun x => extractStridedSlice S1 ![1] x slices_S2_S1_1) : (⟨S2, .i32⟩ : BufTy).Contents (Elt F) → (⟨S1, .i32⟩ : BufTy).Contents (Elt F)) (R V r_v12) :=
  (line.unary V 26 (x := r_v12) (y := r_u_v6) (f := ((fun x => extractStridedSlice S1 ![1] x slices_S2_S1_1) : (⟨S2, .i32⟩ : BufTy).Contents (Elt F) → (⟨S1, .i32⟩ : BufTy).Contents (Elt F))) rfl (by decide) :)
theorem e_u_v7 : R V r_u_v7 = fun i => shapeCast S_ (R V r_u_v6) shapeCasts_S1_S_ i := line.reshape V 27 (x := r_u_v6) (y := r_u_v7) rfl (by decide)
theorem e_u_v8 : R V r_u_v8 = (iotaInDim S64x1x8192x8 64 0) := line.nullary V 28 rfl
theorem e_u_v9 : R V r_u_v9 = (iotaInDim S64x1x8192x8 64 1) := line.nullary V 29 rfl
theorem e_u_v10 : R V r_u_v10 = (iotaInDim S64x1x8192x8 64 2) := line.nullary V 30 rfl
theorem e_u_v11 : R V r_u_v11 = (iotaInDim S64x1x8192x8 64 3) := line.nullary V 31 rfl
theorem e_u_c : R V r_u_c = (constantI S_ 64 65536#64) := line.nullary V 32 rfl
theorem e_u_v12 : R V r_u_v12 = (broadcastInDim S64x1x8192x8 ![] bcast_S_S64x1x8192x8) (R V r_u_c) :=
  line.unary V 33 (x := r_u_c) (y := r_u_v12) rfl (by decide)
theorem e_u_v13 : R V r_u_v13 = muli (R V r_u_v12) (R V r_u_v8) :=
  line.binary V 34 (a := r_u_v12) (b := r_u_v8) (y := r_u_v13) rfl (by decide) (by decide)
theorem e_u_c_0 : R V r_u_c_0 = (constantI S_ 64 65536#64) := line.nullary V 35 rfl
theorem e_u_v14 : R V r_u_v14 = (broadcastInDim S64x1x8192x8 ![] bcast_S_S64x1x8192x8) (R V r_u_c_0) :=
  line.unary V 36 (x := r_u_c_0) (y := r_u_v14) rfl (by decide)
theorem e_u_v15 : R V r_u_v15 = muli (R V r_u_v14) (R V r_u_v9) :=
  line.binary V 37 (a := r_u_v14) (b := r_u_v9) (y := r_u_v15) rfl (by decide) (by decide)
theorem e_u_c_1 : R V r_u_c_1 = (constantI S_ 64 8#64) := line.nullary V 38 rfl
theorem e_u_v16 : R V r_u_v16 = (broadcastInDim S64x1x8192x8 ![] bcast_S_S64x1x8192x8) (R V r_u_c_1) :=
  line.unary V 39 (x := r_u_c_1) (y := r_u_v16) rfl (by decide)
theorem e_u_v17 : R V r_u_v17 = muli (R V r_u_v16) (R V r_u_v10) :=
  line.binary V 40 (a := r_u_v16) (b := r_u_v10) (y := r_u_v17) rfl (by decide) (by decide)
theorem e_u_c_2 : R V r_u_c_2 = (constantI S_ 64 1#64) := line.nullary V 41 rfl
theorem e_u_v18 : R V r_u_v18 = (broadcastInDim S64x1x8192x8 ![] bcast_S_S64x1x8192x8) (R V r_u_c_2) :=
  line.unary V 42 (x := r_u_c_2) (y := r_u_v18) rfl (by decide)
theorem e_u_v19 : R V r_u_v19 = muli (R V r_u_v18) (R V r_u_v11) :=
  line.binary V 43 (a := r_u_v18) (b := r_u_v11) (y := r_u_v19) rfl (by decide) (by decide)
theorem e_u_v20 : R V r_u_v20 = addi (R V r_u_v13) (R V r_u_v15) :=
  line.binary V 44 (a := r_u_v13) (b := r_u_v15) (y := r_u_v20) rfl (by decide) (by decide)
theorem e_u_v21 : R V r_u_v21 = addi (R V r_u_v20) (R V r_u_v17) :=
  line.binary V 45 (a := r_u_v20) (b := r_u_v17) (y := r_u_v21) rfl (by decide) (by decide)
theorem e_u_v22 : R V r_u_v22 = addi (R V r_u_v21) (R V r_u_v19) :=
  line.binary V 46 (a := r_u_v21) (b := r_u_v19) (y := r_u_v22) rfl (by decide) (by decide)
theorem e_u_c_3 : R V r_u_c_3 = (constantI S_ 64 32#64) := line.nullary V 47 rfl
theorem e_u_v23 : R V r_u_v23 = (broadcastInDim S64x1x8192x8 ![] bcast_S_S64x1x8192x8) (R V r_u_c_3) :=
  line.unary V 48 (x := r_u_c_3) (y := r_u_v23) rfl (by decide)
theorem e_u_v24 : R V r_u_v24 = Host.shrui (R V r_u_v22) (R V r_u_v23) :=
  line.binary V 49 (a := r_u_v22) (b := r_u_v23) (y := r_u_v24) rfl (by decide) (by decide)
theorem e_u_v25 : R V r_u_v25 = ((fun x => trunci 32 x natLt_32_64) : (⟨S64x1x8192x8, .i64⟩ : BufTy).Contents (Elt F) → (⟨S64x1x8192x8, .i32⟩ : BufTy).Contents (Elt F)) (R V r_u_v22) :=
  (line.unary V 50 (x := r_u_v22) (y := r_u_v25) (f := ((fun x => trunci 32 x natLt_32_64) : (⟨S64x1x8192x8, .i64⟩ : BufTy).Contents (Elt F) → (⟨S64x1x8192x8, .i32⟩ : BufTy).Contents (Elt F))) rfl (by decide) :)
theorem e_u_v26 : R V r_u_v26 = ((fun x => trunci 32 x natLt_32_64) : (⟨S64x1x8192x8, .i64⟩ : BufTy).Contents (Elt F) → (⟨S64x1x8192x8, .i32⟩ : BufTy).Contents (Elt F)) (R V r_u_v24) :=
  (line.unary V 51 (x := r_u_v24) (y := r_u_v26) (f := ((fun x => trunci 32 x natLt_32_64) : (⟨S64x1x8192x8, .i64⟩ : BufTy).Contents (Elt F) → (⟨S64x1x8192x8, .i32⟩ : BufTy).Contents (Elt F))) rfl (by decide) :)
theorem e_t_v0 : R V r_t_v0 = xori (R V r_u_v5) (R V r_u_v7) :=
  line.binary V 52 (a := r_u_v5) (b := r_u_v7) (y := r_t_v0) rfl (by decide) (by decide)
theorem e_t_c : R V r_t_c = (constantI S_ 32 466688986#32) := line.nullary V 53 rfl
theorem e_t_v1 : R V r_t_v1 = xori (R V r_t_v0) (R V r_t_c) :=
  line.binary V 54 (a := r_t_v0) (b := r_t_c) (y := r_t_v1) rfl (by decide) (by decide)
theorem e_t_v2 : R V r_t_v2 = (broadcastInDim S64x1x8192x8 ![] bcast_S_S64x1x8192x8) (R V r_u_v5) :=
  line.unary V 55 (x := r_u_v5) (y := r_t_v2) rfl (by decide)
theorem e_t_v3 : R V r_t_v3 = addi (R V r_u_v26) (R V r_t_v2) :=
  line.binary V 56 (a := r_u_v26) (b := r_t_v2) (y := r_t_v3) rfl (by decide) (by decide)
theorem e_t_v4 : R V r_t_v4 = (broadcastInDim S64x1x8192x8 ![] bcast_S_S64x1x8192x8) (R V r_u_v7) :=
  line.unary V 57 (x := r_u_v7) (y := r_t_v4) rfl (by decide)
theorem e_t_v5 : R V r_t_v5 = addi (R V r_u_v25) (R V r_t_v4) :=
  line.binary V 58 (a := r_u_v25) (b := r_t_v4) (y := r_t_v5) rfl (by decide) (by decide)
theorem e_t_v6 : R V r_t_v6 = addi (R V r_t_v3) (R V r_t_v5) :=
  line.binary V 59 (a := r_t_v3) (b := r_t_v5) (y := r_t_v6) rfl (by decide) (by decide)
theorem e_t_c_0 : R V r_t_c_0 = (constantI S_ 32 13#32) := line.nullary V 60 rfl
theorem e_t_v7 : R V r_t_v7 = (broadcastInDim S64x1x8192x8 ![] bcast_S_S64x1x8192x8) (R V r_t_c_0) :=
  line.unary V 61 (x := r_t_c_0) (y := r_t_v7) rfl (by decide)
theorem e_t_v8 : R V r_t_v8 = Host.shli (R V r_t_v5) (R V r_t_v7) :=
  line.binary V 62 (a := r_t_v5) (b := r_t_v7) (y := r_t_v8) rfl (by decide) (by decide)
theorem e_t_c_1 : R V r_t_c_1 = (constantI S_ 32 19#32) := line.nullary V 63 rfl
theorem e_t_v9 : R V r_t_v9 = (broadcastInDim S64x1x8192x8 ![] bcast_S_S64x1x8192x8) (R V r_t_c_1) :=
  line.unary V 64 (x := r_t_c_1) (y := r_t_v9) rfl (by decide)
theorem e_t_v10 : R V r_t_v10 = Host.shrui (R V r_t_v5) (R V r_t_v9) :=
  line.binary V 65 (a := r_t_v5) (b := r_t_v9) (y := r_t_v10) rfl (by decide) (by decide)
theorem e_t_v11 : R V r_t_v11 = ori (R V r_t_v8) (R V r_t_v10) :=
  line.binary V 66 (a := r_t_v8) (b := r_t_v10) (y := r_t_v11) rfl (by decide) (by decide)
theorem e_t_v12 : R V r_t_v12 = xori (R V r_t_v6) (R V r_t_v11) :=
  line.binary V 67 (a := r_t_v6) (b := r_t_v11) (y := r_t_v12) rfl (by decide) (by decide)
theorem e_t_v13 : R V r_t_v13 = addi (R V r_t_v6) (R V r_t_v12) :=
  line.binary V 68 (a := r_t_v6) (b := r_t_v12) (y := r_t_v13) rfl (by decide) (by decide)
theorem e_t_c_2 : R V r_t_c_2 = (constantI S_ 32 15#32) := line.nullary V 69 rfl
theorem e_t_v14 : R V r_t_v14 = (broadcastInDim S64x1x8192x8 ![] bcast_S_S64x1x8192x8) (R V r_t_c_2) :=
  line.unary V 70 (x := r_t_c_2) (y := r_t_v14) rfl (by decide)
theorem e_t_v15 : R V r_t_v15 = Host.shli (R V r_t_v12) (R V r_t_v14) :=
  line.binary V 71 (a := r_t_v12) (b := r_t_v14) (y := r_t_v15) rfl (by decide) (by decide)
theorem e_t_c_3 : R V r_t_c_3 = (constantI S_ 32 17#32) := line.nullary V 72 rfl
theorem e_t_v16 : R V r_t_v16 = (broadcastInDim S64x1x8192x8 ![] bcast_S_S64x1x8192x8) (R V r_t_c_3) :=
  line.unary V 73 (x := r_t_c_3) (y := r_t_v16) rfl (by decide)
theorem e_t_v17 : R V r_t_v17 = Host.shrui (R V r_t_v12) (R V r_t_v16) :=
  line.binary V 74 (a := r_t_v12) (b := r_t_v16) (y := r_t_v17) rfl (by decide) (by decide)
theorem e_t_v18 : R V r_t_v18 = ori (R V r_t_v15) (R V r_t_v17) :=
  line.binary V 75 (a := r_t_v15) (b := r_t_v17) (y := r_t_v18) rfl (by decide) (by decide)
theorem e_t_v19 : R V r_t_v19 = xori (R V r_t_v13) (R V r_t_v18) :=
  line.binary V 76 (a := r_t_v13) (b := r_t_v18) (y := r_t_v19) rfl (by decide) (by decide)
theorem e_t_v20 : R V r_t_v20 = addi (R V r_t_v13) (R V r_t_v19) :=
  line.binary V 77 (a := r_t_v13) (b := r_t_v19) (y := r_t_v20) rfl (by decide) (by decide)
theorem e_t_c_4 : R V r_t_c_4 = (constantI S_ 32 26#32) := line.nullary V 78 rfl
theorem e_t_v21 : R V r_t_v21 = (broadcastInDim S64x1x8192x8 ![] bcast_S_S64x1x8192x8) (R V r_t_c_4) :=
  line.unary V 79 (x := r_t_c_4) (y := r_t_v21) rfl (by decide)
theorem e_t_v22 : R V r_t_v22 = Host.shli (R V r_t_v19) (R V r_t_v21) :=
  line.binary V 80 (a := r_t_v19) (b := r_t_v21) (y := r_t_v22) rfl (by decide) (by decide)
theorem e_t_c_5 : R V r_t_c_5 = (constantI S_ 32 6#32) := line.nullary V 81 rfl
theorem e_t_v23 : R V r_t_v23 = (broadcastInDim S64x1x8192x8 ![] bcast_S_S64x1x8192x8) (R V r_t_c_5) :=
  line.unary V 82 (x := r_t_c_5) (y := r_t_v23) rfl (by decide)
theorem e_t_v24 : R V r_t_v24 = Host.shrui (R V r_t_v19) (R V r_t_v23) :=
  line.binary V 83 (a := r_t_v19) (b := r_t_v23) (y := r_t_v24) rfl (by decide) (by decide)
theorem e_t_v25 : R V r_t_v25 = ori (R V r_t_v22) (R V r_t_v24) :=
  line.binary V 84 (a := r_t_v22) (b := r_t_v24) (y := r_t_v25) rfl (by decide) (by decide)
theorem e_t_v26 : R V r_t_v26 = xori (R V r_t_v20) (R V r_t_v25) :=
  line.binary V 85 (a := r_t_v20) (b := r_t_v25) (y := r_t_v26) rfl (by decide) (by decide)
theorem e_t_v27 : R V r_t_v27 = addi (R V r_t_v20) (R V r_t_v26) :=
  line.binary V 86 (a := r_t_v20) (b := r_t_v26) (y := r_t_v27) rfl (by decide) (by decide)
theorem e_t_c_6 : R V r_t_c_6 = (constantI S_ 32 6#32) := line.nullary V 87 rfl
theorem e_t_v28 : R V r_t_v28 = (broadcastInDim S64x1x8192x8 ![] bcast_S_S64x1x8192x8) (R V r_t_c_6) :=
  line.unary V 88 (x := r_t_c_6) (y := r_t_v28) rfl (by decide)
theorem e_t_v29 : R V r_t_v29 = Host.shli (R V r_t_v26) (R V r_t_v28) :=
  line.binary V 89 (a := r_t_v26) (b := r_t_v28) (y := r_t_v29) rfl (by decide) (by decide)
theorem e_t_c_7 : R V r_t_c_7 = (constantI S_ 32 26#32) := line.nullary V 90 rfl
theorem e_t_v30 : R V r_t_v30 = (broadcastInDim S64x1x8192x8 ![] bcast_S_S64x1x8192x8) (R V r_t_c_7) :=
  line.unary V 91 (x := r_t_c_7) (y := r_t_v30) rfl (by decide)
theorem e_t_v31 : R V r_t_v31 = Host.shrui (R V r_t_v26) (R V r_t_v30) :=
  line.binary V 92 (a := r_t_v26) (b := r_t_v30) (y := r_t_v31) rfl (by decide) (by decide)
theorem e_t_v32 : R V r_t_v32 = ori (R V r_t_v29) (R V r_t_v31) :=
  line.binary V 93 (a := r_t_v29) (b := r_t_v31) (y := r_t_v32) rfl (by decide) (by decide)
theorem e_t_v33 : R V r_t_v33 = xori (R V r_t_v27) (R V r_t_v32) :=
  line.binary V 94 (a := r_t_v27) (b := r_t_v32) (y := r_t_v33) rfl (by decide) (by decide)
theorem e_t_v34 : R V r_t_v34 = (broadcastInDim S64x1x8192x8 ![] bcast_S_S64x1x8192x8) (R V r_u_v7) :=
  line.unary V 95 (x := r_u_v7) (y := r_t_v34) rfl (by decide)
theorem e_t_v35 : R V r_t_v35 = addi (R V r_t_v27) (R V r_t_v34) :=
  line.binary V 96 (a := r_t_v27) (b := r_t_v34) (y := r_t_v35) rfl (by decide) (by decide)
theorem e_t_v36 : R V r_t_v36 = (broadcastInDim S64x1x8192x8 ![] bcast_S_S64x1x8192x8) (R V r_t_v1) :=
  line.unary V 97 (x := r_t_v1) (y := r_t_v36) rfl (by decide)
theorem e_t_v37 : R V r_t_v37 = addi (R V r_t_v33) (R V r_t_v36) :=
  line.binary V 98 (a := r_t_v33) (b := r_t_v36) (y := r_t_v37) rfl (by decide) (by decide)
theorem e_t_c_8 : R V r_t_c_8 = (constantI S_ 32 1#32) := line.nullary V 99 rfl
theorem e_t_v38 : R V r_t_v38 = (broadcastInDim S64x1x8192x8 ![] bcast_S_S64x1x8192x8) (R V r_t_c_8) :=
  line.unary V 100 (x := r_t_c_8) (y := r_t_v38) rfl (by decide)
theorem e_t_v39 : R V r_t_v39 = addi (R V r_t_v37) (R V r_t_v38) :=
  line.binary V 101 (a := r_t_v37) (b := r_t_v38) (y := r_t_v39) rfl (by decide) (by decide)
theorem e_t_v40 : R V r_t_v40 = addi (R V r_t_v35) (R V r_t_v39) :=
  line.binary V 102 (a := r_t_v35) (b := r_t_v39) (y := r_t_v40) rfl (by decide) (by decide)
theorem e_t_c_9 : R V r_t_c_9 = (constantI S_ 32 17#32) := line.nullary V 103 rfl
theorem e_t_v41 : R V r_t_v41 = (broadcastInDim S64x1x8192x8 ![] bcast_S_S64x1x8192x8) (R V r_t_c_9) :=
  line.unary V 104 (x := r_t_c_9) (y := r_t_v41) rfl (by decide)
theorem e_t_v42 : R V r_t_v42 = Host.shli (R V r_t_v39) (R V r_t_v41) :=
  line.binary V 105 (a := r_t_v39) (b := r_t_v41) (y := r_t_v42) rfl (by decide) (by decide)
theorem e_t_c_10 : R V r_t_c_10 = (constantI S_ 32 15#32) := line.nullary V 106 rfl
theorem e_t_v43 : R V r_t_v43 = (broadcastInDim S64x1x8192x8 ![] bcast_S_S64x1x8192x8) (R V r_t_c_10) :=
  line.unary V 107 (x := r_t_c_10) (y := r_t_v43) rfl (by decide)
theorem e_t_v44 : R V r_t_v44 = Host.shrui (R V r_t_v39) (R V r_t_v43) :=
  line.binary V 108 (a := r_t_v39) (b := r_t_v43) (y := r_t_v44) rfl (by decide) (by decide)
theorem e_t_v45 : R V r_t_v45 = ori (R V r_t_v42) (R V r_t_v44) :=
  line.binary V 109 (a := r_t_v42) (b := r_t_v44) (y := r_t_v45) rfl (by decide) (by decide)
theorem e_t_v46 : R V r_t_v46 = xori (R V r_t_v40) (R V r_t_v45) :=
  line.binary V 110 (a := r_t_v40) (b := r_t_v45) (y := r_t_v46) rfl (by decide) (by decide)
theorem e_t_v47 : R V r_t_v47 = addi (R V r_t_v40) (R V r_t_v46) :=
  line.binary V 111 (a := r_t_v40) (b := r_t_v46) (y := r_t_v47) rfl (by decide) (by decide)
theorem e_t_c_11 : R V r_t_c_11 = (constantI S_ 32 29#32) := line.nullary V 112 rfl
theorem e_t_v48 : R V r_t_v48 = (broadcastInDim S64x1x8192x8 ![] bcast_S_S64x1x8192x8) (R V r_t_c_11) :=
  line.unary V 113 (x := r_t_c_11) (y := r_t_v48) rfl (by decide)
theorem e_t_v49 : R V r_t_v49 = Host.shli (R V r_t_v46) (R V r_t_v48) :=
  line.binary V 114 (a := r_t_v46) (b := r_t_v48) (y := r_t_v49) rfl (by decide) (by decide)
theorem e_t_c_12 : R V r_t_c_12 = (constantI S_ 32 3#32) := line.nullary V 115 rfl
theorem e_t_v50 : R V r_t_v50 = (broadcastInDim S64x1x8192x8 ![] bcast_S_S64x1x8192x8) (R V r_t_c_12) :=
  line.unary V 116 (x := r_t_c_12) (y := r_t_v50) rfl (by decide)
theorem e_t_v51 : R V r_t_v51 = Host.shrui (R V r_t_v46) (R V r_t_v50) :=
  line.binary V 117 (a := r_t_v46) (b := r_t_v50) (y := r_t_v51) rfl (by decide) (by decide)
theorem e_t_v52 : R V r_t_v52 = ori (R V r_t_v49) (R V r_t_v51) :=
  line.binary V 118 (a := r_t_v49) (b := r_t_v51) (y := r_t_v52) rfl (by decide) (by decide)
theorem e_t_v53 : R V r_t_v53 = xori (R V r_t_v47) (R V r_t_v52) :=
  line.binary V 119 (a := r_t_v47) (b := r_t_v52) (y := r_t_v53) rfl (by decide) (by decide)
theorem e_t_v54 : R V r_t_v54 = addi (R V r_t_v47) (R V r_t_v53) :=
  line.binary V 120 (a := r_t_v47) (b := r_t_v53) (y := r_t_v54) rfl (by decide) (by decide)
theorem e_t_c_13 : R V r_t_c_13 = (constantI S_ 32 16#32) := line.nullary V 121 rfl
theorem e_t_v55 : R V r_t_v55 = (broadcastInDim S64x1x8192x8 ![] bcast_S_S64x1x8192x8) (R V r_t_c_13) :=
  line.unary V 122 (x := r_t_c_13) (y := r_t_v55) rfl (by decide)
theorem e_t_v56 : R V r_t_v56 = Host.shli (R V r_t_v53) (R V r_t_v55) :=
  line.binary V 123 (a := r_t_v53) (b := r_t_v55) (y := r_t_v56) rfl (by decide) (by decide)
theorem e_t_c_14 : R V r_t_c_14 = (constantI S_ 32 16#32) := line.nullary V 124 rfl
theorem e_t_v57 : R V r_t_v57 = (broadcastInDim S64x1x8192x8 ![] bcast_S_S64x1x8192x8) (R V r_t_c_14) :=
  line.unary V 125 (x := r_t_c_14) (y := r_t_v57) rfl (by decide)
theorem e_t_v58 : R V r_t_v58 = Host.shrui (R V r_t_v53) (R V r_t_v57) :=
  line.binary V 126 (a := r_t_v53) (b := r_t_v57) (y := r_t_v58) rfl (by decide) (by decide)
theorem e_t_v59 : R V r_t_v59 = ori (R V r_t_v56) (R V r_t_v58) :=
  line.binary V 127 (a := r_t_v56) (b := r_t_v58) (y := r_t_v59) rfl (by decide) (by decide)
theorem e_t_v60 : R V r_t_v60 = xori (R V r_t_v54) (R V r_t_v59) :=
  line.binary V 128 (a := r_t_v54) (b := r_t_v59) (y := r_t_v60) rfl (by decide) (by decide)
theorem e_t_v61 : R V r_t_v61 = addi (R V r_t_v54) (R V r_t_v60) :=
  line.binary V 129 (a := r_t_v54) (b := r_t_v60) (y := r_t_v61) rfl (by decide) (by decide)
theorem e_t_c_15 : R V r_t_c_15 = (constantI S_ 32 24#32) := line.nullary V 130 rfl
theorem e_t_v62 : R V r_t_v62 = (broadcastInDim S64x1x8192x8 ![] bcast_S_S64x1x8192x8) (R V r_t_c_15) :=
  line.unary V 131 (x := r_t_c_15) (y := r_t_v62) rfl (by decide)
theorem e_t_v63 : R V r_t_v63 = Host.shli (R V r_t_v60) (R V r_t_v62) :=
  line.binary V 132 (a := r_t_v60) (b := r_t_v62) (y := r_t_v63) rfl (by decide) (by decide)
theorem e_t_c_16 : R V r_t_c_16 = (constantI S_ 32 8#32) := line.nullary V 133 rfl
theorem e_t_v64 : R V r_t_v64 = (broadcastInDim S64x1x8192x8 ![] bcast_S_S64x1x8192x8) (R V r_t_c_16) :=
  line.unary V 134 (x := r_t_c_16) (y := r_t_v64) rfl (by decide)
theorem e_t_v65 : R V r_t_v65 = Host.shrui (R V r_t_v60) (R V r_t_v64) :=
  line.binary V 135 (a := r_t_v60) (b := r_t_v64) (y := r_t_v65) rfl (by decide) (by decide)
theorem e_t_v66 : R V r_t_v66 = ori (R V r_t_v63) (R V r_t_v65) :=
  line.binary V 136 (a := r_t_v63) (b := r_t_v65) (y := r_t_v66) rfl (by decide) (by decide)
theorem e_t_v67 : R V r_t_v67 = xori (R V r_t_v61) (R V r_t_v66) :=
  line.binary V 137 (a := r_t_v61) (b := r_t_v66) (y := r_t_v67) rfl (by decide) (by decide)
theorem e_t_v68 : R V r_t_v68 = (broadcastInDim S64x1x8192x8 ![] bcast_S_S64x1x8192x8) (R V r_t_v1) :=
  line.unary V 138 (x := r_t_v1) (y := r_t_v68) rfl (by decide)
theorem e_t_v69 : R V r_t_v69 = addi (R V r_t_v61) (R V r_t_v68) :=
  line.binary V 139 (a := r_t_v61) (b := r_t_v68) (y := r_t_v69) rfl (by decide) (by decide)
theorem e_t_v70 : R V r_t_v70 = (broadcastInDim S64x1x8192x8 ![] bcast_S_S64x1x8192x8) (R V r_u_v5) :=
  line.unary V 140 (x := r_u_v5) (y := r_t_v70) rfl (by decide)
theorem e_t_v71 : R V r_t_v71 = addi (R V r_t_v67) (R V r_t_v70) :=
  line.binary V 141 (a := r_t_v67) (b := r_t_v70) (y := r_t_v71) rfl (by decide) (by decide)
theorem e_t_c_17 : R V r_t_c_17 = (constantI S_ 32 2#32) := line.nullary V 142 rfl
theorem e_t_v72 : R V r_t_v72 = (broadcastInDim S64x1x8192x8 ![] bcast_S_S64x1x8192x8) (R V r_t_c_17) :=
  line.unary V 143 (x := r_t_c_17) (y := r_t_v72) rfl (by decide)
theorem e_t_v73 : R V r_t_v73 = addi (R V r_t_v71) (R V r_t_v72) :=
  line.binary V 144 (a := r_t_v71) (b := r_t_v72) (y := r_t_v73) rfl (by decide) (by decide)
theorem e_t_v74 : R V r_t_v74 = addi (R V r_t_v69) (R V r_t_v73) :=
  line.binary V 145 (a := r_t_v69) (b := r_t_v73) (y := r_t_v74) rfl (by decide) (by decide)
theorem e_t_c_18 : R V r_t_c_18 = (constantI S_ 32 13#32) := line.nullary V 146 rfl
theorem e_t_v75 : R V r_t_v75 = (broadcastInDim S64x1x8192x8 ![] bcast_S_S64x1x8192x8) (R V r_t_c_18) :=
  line.unary V 147 (x := r_t_c_18) (y := r_t_v75) rfl (by decide)
theorem e_t_v76 : R V r_t_v76 = Host.shli (R V r_t_v73) (R V r_t_v75) :=
  line.binary V 148 (a := r_t_v73) (b := r_t_v75) (y := r_t_v76) rfl (by decide) (by decide)
theorem e_t_c_19 : R V r_t_c_19 = (constantI S_ 32 19#32) := line.nullary V 149 rfl
theorem e_t_v77 : R V r_t_v77 = (broadcastInDim S64x1x8192x8 ![] bcast_S_S64x1x8192x8) (R V r_t_c_19) :=
  line.unary V 150 (x := r_t_c_19) (y := r_t_v77) rfl (by decide)
theorem e_t_v78 : R V r_t_v78 = Host.shrui (R V r_t_v73) (R V r_t_v77) :=
  line.binary V 151 (a := r_t_v73) (b := r_t_v77) (y := r_t_v78) rfl (by decide) (by decide)
theorem e_t_v79 : R V r_t_v79 = ori (R V r_t_v76) (R V r_t_v78) :=
  line.binary V 152 (a := r_t_v76) (b := r_t_v78) (y := r_t_v79) rfl (by decide) (by decide)
theorem e_t_v80 : R V r_t_v80 = xori (R V r_t_v74) (R V r_t_v79) :=
  line.binary V 153 (a := r_t_v74) (b := r_t_v79) (y := r_t_v80) rfl (by decide) (by decide)
theorem e_t_v81 : R V r_t_v81 = addi (R V r_t_v74) (R V r_t_v80) :=
  line.binary V 154 (a := r_t_v74) (b := r_t_v80) (y := r_t_v81) rfl (by decide) (by decide)
theorem e_t_c_20 : R V r_t_c_20 = (constantI S_ 32 15#32) := line.nullary V 155 rfl
theorem e_t_v82 : R V r_t_v82 = (broadcastInDim S64x1x8192x8 ![] bcast_S_S64x1x8192x8) (R V r_t_c_20) :=
  line.unary V 156 (x := r_t_c_20) (y := r_t_v82) rfl (by decide)
theorem e_t_v83 : R V r_t_v83 = Host.shli (R V r_t_v80) (R V r_t_v82) :=
  line.binary V 157 (a := r_t_v80) (b := r_t_v82) (y := r_t_v83) rfl (by decide) (by decide)
theorem e_t_c_21 : R V r_t_c_21 = (constantI S_ 32 17#32) := line.nullary V 158 rfl
theorem e_t_v84 : R V r_t_v84 = (broadcastInDim S64x1x8192x8 ![] bcast_S_S64x1x8192x8) (R V r_t_c_21) :=
  line.unary V 159 (x := r_t_c_21) (y := r_t_v84) rfl (by decide)
theorem e_t_v85 : R V r_t_v85 = Host.shrui (R V r_t_v80) (R V r_t_v84) :=
  line.binary V 160 (a := r_t_v80) (b := r_t_v84) (y := r_t_v85) rfl (by decide) (by decide)
theorem e_t_v86 : R V r_t_v86 = ori (R V r_t_v83) (R V r_t_v85) :=
  line.binary V 161 (a := r_t_v83) (b := r_t_v85) (y := r_t_v86) rfl (by decide) (by decide)
theorem e_t_v87 : R V r_t_v87 = xori (R V r_t_v81) (R V r_t_v86) :=
  line.binary V 162 (a := r_t_v81) (b := r_t_v86) (y := r_t_v87) rfl (by decide) (by decide)
theorem e_t_v88 : R V r_t_v88 = addi (R V r_t_v81) (R V r_t_v87) :=
  line.binary V 163 (a := r_t_v81) (b := r_t_v87) (y := r_t_v88) rfl (by decide) (by decide)
theorem e_t_c_22 : R V r_t_c_22 = (constantI S_ 32 26#32) := line.nullary V 164 rfl
theorem e_t_v89 : R V r_t_v89 = (broadcastInDim S64x1x8192x8 ![] bcast_S_S64x1x8192x8) (R V r_t_c_22) :=
  line.unary V 165 (x := r_t_c_22) (y := r_t_v89) rfl (by decide)
theorem e_t_v90 : R V r_t_v90 = Host.shli (R V r_t_v87) (R V r_t_v89) :=
  line.binary V 166 (a := r_t_v87) (b := r_t_v89) (y := r_t_v90) rfl (by decide) (by decide)
theorem e_t_c_23 : R V r_t_c_23 = (constantI S_ 32 6#32) := line.nullary V 167 rfl
theorem e_t_v91 : R V r_t_v91 = (broadcastInDim S64x1x8192x8 ![] bcast_S_S64x1x8192x8) (R V r_t_c_23) :=
  line.unary V 168 (x := r_t_c_23) (y := r_t_v91) rfl (by decide)
theorem e_t_v92 : R V r_t_v92 = Host.shrui (R V r_t_v87) (R V r_t_v91) :=
  line.binary V 169 (a := r_t_v87) (b := r_t_v91) (y := r_t_v92) rfl (by decide) (by decide)
theorem e_t_v93 : R V r_t_v93 = ori (R V r_t_v90) (R V r_t_v92) :=
  line.binary V 170 (a := r_t_v90) (b := r_t_v92) (y := r_t_v93) rfl (by decide) (by decide)
theorem e_t_v94 : R V r_t_v94 = xori (R V r_t_v88) (R V r_t_v93) :=
  line.binary V 171 (a := r_t_v88) (b := r_t_v93) (y := r_t_v94) rfl (by decide) (by decide)
theorem e_t_v95 : R V r_t_v95 = addi (R V r_t_v88) (R V r_t_v94) :=
  line.binary V 172 (a := r_t_v88) (b := r_t_v94) (y := r_t_v95) rfl (by decide) (by decide)
theorem e_t_c_24 : R V r_t_c_24 = (constantI S_ 32 6#32) := line.nullary V 173 rfl
theorem e_t_v96 : R V r_t_v96 = (broadcastInDim S64x1x8192x8 ![] bcast_S_S64x1x8192x8) (R V r_t_c_24) :=
  line.unary V 174 (x := r_t_c_24) (y := r_t_v96) rfl (by decide)
theorem e_t_v97 : R V r_t_v97 = Host.shli (R V r_t_v94) (R V r_t_v96) :=
  line.binary V 175 (a := r_t_v94) (b := r_t_v96) (y := r_t_v97) rfl (by decide) (by decide)
theorem e_t_c_25 : R V r_t_c_25 = (constantI S_ 32 26#32) := line.nullary V 176 rfl
theorem e_t_v98 : R V r_t_v98 = (broadcastInDim S64x1x8192x8 ![] bcast_S_S64x1x8192x8) (R V r_t_c_25) :=
  line.unary V 177 (x := r_t_c_25) (y := r_t_v98) rfl (by decide)
theorem e_t_v99 : R V r_t_v99 = Host.shrui (R V r_t_v94) (R V r_t_v98) :=
  line.binary V 178 (a := r_t_v94) (b := r_t_v98) (y := r_t_v99) rfl (by decide) (by decide)
theorem e_t_v100 : R V r_t_v100 = ori (R V r_t_v97) (R V r_t_v99) :=
  line.binary V 179 (a := r_t_v97) (b := r_t_v99) (y := r_t_v100) rfl (by decide) (by decide)
theorem e_t_v101 : R V r_t_v101 = xori (R V r_t_v95) (R V r_t_v100) :=
  line.binary V 180 (a := r_t_v95) (b := r_t_v100) (y := r_t_v101) rfl (by decide) (by decide)
theorem e_t_v102 : R V r_t_v102 = (broadcastInDim S64x1x8192x8 ![] bcast_S_S64x1x8192x8) (R V r_u_v5) :=
  line.unary V 181 (x := r_u_v5) (y := r_t_v102) rfl (by decide)
theorem e_t_v103 : R V r_t_v103 = addi (R V r_t_v95) (R V r_t_v102) :=
  line.binary V 182 (a := r_t_v95) (b := r_t_v102) (y := r_t_v103) rfl (by decide) (by decide)
theorem e_t_v104 : R V r_t_v104 = (broadcastInDim S64x1x8192x8 ![] bcast_S_S64x1x8192x8) (R V r_u_v7) :=
  line.unary V 183 (x := r_u_v7) (y := r_t_v104) rfl (by decide)
theorem e_t_v105 : R V r_t_v105 = addi (R V r_t_v101) (R V r_t_v104) :=
  line.binary V 184 (a := r_t_v101) (b := r_t_v104) (y := r_t_v105) rfl (by decide) (by decide)
theorem e_t_c_26 : R V r_t_c_26 = (constantI S_ 32 3#32) := line.nullary V 185 rfl
theorem e_t_v106 : R V r_t_v106 = (broadcastInDim S64x1x8192x8 ![] bcast_S_S64x1x8192x8) (R V r_t_c_26) :=
  line.unary V 186 (x := r_t_c_26) (y := r_t_v106) rfl (by decide)
theorem e_t_v107 : R V r_t_v107 = addi (R V r_t_v105) (R V r_t_v106) :=
  line.binary V 187 (a := r_t_v105) (b := r_t_v106) (y := r_t_v107) rfl (by decide) (by decide)
theorem e_t_v108 : R V r_t_v108 = addi (R V r_t_v103) (R V r_t_v107) :=
  line.binary V 188 (a := r_t_v103) (b := r_t_v107) (y := r_t_v108) rfl (by decide) (by decide)
theorem e_t_c_27 : R V r_t_c_27 = (constantI S_ 32 17#32) := line.nullary V 189 rfl
theorem e_t_v109 : R V r_t_v109 = (broadcastInDim S64x1x8192x8 ![] bcast_S_S64x1x8192x8) (R V r_t_c_27) :=
  line.unary V 190 (x := r_t_c_27) (y := r_t_v109) rfl (by decide)
theorem e_t_v110 : R V r_t_v110 = Host.shli (R V r_t_v107) (R V r_t_v109) :=
  line.binary V 191 (a := r_t_v107) (b := r_t_v109) (y := r_t_v110) rfl (by decide) (by decide)
theorem e_t_c_28 : R V r_t_c_28 = (constantI S_ 32 15#32) := line.nullary V 192 rfl
theorem e_t_v111 : R V r_t_v111 = (broadcastInDim S64x1x8192x8 ![] bcast_S_S64x1x8192x8) (R V r_t_c_28) :=
  line.unary V 193 (x := r_t_c_28) (y := r_t_v111) rfl (by decide)
theorem e_t_v112 : R V r_t_v112 = Host.shrui (R V r_t_v107) (R V r_t_v111) :=
  line.binary V 194 (a := r_t_v107) (b := r_t_v111) (y := r_t_v112) rfl (by decide) (by decide)
theorem e_t_v113 : R V r_t_v113 = ori (R V r_t_v110) (R V r_t_v112) :=
  line.binary V 195 (a := r_t_v110) (b := r_t_v112) (y := r_t_v113) rfl (by decide) (by decide)
theorem e_t_v114 : R V r_t_v114 = xori (R V r_t_v108) (R V r_t_v113) :=
  line.binary V 196 (a := r_t_v108) (b := r_t_v113) (y := r_t_v114) rfl (by decide) (by decide)
theorem e_t_v115 : R V r_t_v115 = addi (R V r_t_v108) (R V r_t_v114) :=
  line.binary V 197 (a := r_t_v108) (b := r_t_v114) (y := r_t_v115) rfl (by decide) (by decide)
theorem e_t_c_29 : R V r_t_c_29 = (constantI S_ 32 29#32) := line.nullary V 198 rfl
theorem e_t_v116 : R V r_t_v116 = (broadcastInDim S64x1x8192x8 ![] bcast_S_S64x1x8192x8) (R V r_t_c_29) :=
  line.unary V 199 (x := r_t_c_29) (y := r_t_v116) rfl (by decide)
theorem e_t_v117 : R V r_t_v117 = Host.shli (R V r_t_v114) (R V r_t_v116) :=
  line.binary V 200 (a := r_t_v114) (b := r_t_v116) (y := r_t_v117) rfl (by decide) (by decide)
theorem e_t_c_30 : R V r_t_c_30 = (constantI S_ 32 3#32) := line.nullary V 201 rfl
theorem e_t_v118 : R V r_t_v118 = (broadcastInDim S64x1x8192x8 ![] bcast_S_S64x1x8192x8) (R V r_t_c_30) :=
  line.unary V 202 (x := r_t_c_30) (y := r_t_v118) rfl (by decide)
theorem e_t_v119 : R V r_t_v119 = Host.shrui (R V r_t_v114) (R V r_t_v118) :=
  line.binary V 203 (a := r_t_v114) (b := r_t_v118) (y := r_t_v119) rfl (by decide) (by decide)
theorem e_t_v120 : R V r_t_v120 = ori (R V r_t_v117) (R V r_t_v119) :=
  line.binary V 204 (a := r_t_v117) (b := r_t_v119) (y := r_t_v120) rfl (by decide) (by decide)
theorem e_t_v121 : R V r_t_v121 = xori (R V r_t_v115) (R V r_t_v120) :=
  line.binary V 205 (a := r_t_v115) (b := r_t_v120) (y := r_t_v121) rfl (by decide) (by decide)
theorem e_t_v122 : R V r_t_v122 = addi (R V r_t_v115) (R V r_t_v121) :=
  line.binary V 206 (a := r_t_v115) (b := r_t_v121) (y := r_t_v122) rfl (by decide) (by decide)
theorem e_t_c_31 : R V r_t_c_31 = (constantI S_ 32 16#32) := line.nullary V 207 rfl
theorem e_t_v123 : R V r_t_v123 = (broadcastInDim S64x1x8192x8 ![] bcast_S_S64x1x8192x8) (R V r_t_c_31) :=
  line.unary V 208 (x := r_t_c_31) (y := r_t_v123) rfl (by decide)
theorem e_t_v124 : R V r_t_v124 = Host.shli (R V r_t_v121) (R V r_t_v123) :=
  line.binary V 209 (a := r_t_v121) (b := r_t_v123) (y := r_t_v124) rfl (by decide) (by decide)
theorem e_t_c_32 : R V r_t_c_32 = (constantI S_ 32 16#32) := line.nullary V 210 rfl
theorem e_t_v125 : R V r_t_v125 = (broadcastInDim S64x1x8192x8 ![] bcast_S_S64x1x8192x8) (R V r_t_c_32) :=
  line.unary V 211 (x := r_t_c_32) (y := r_t_v125) rfl (by decide)
theorem e_t_v126 : R V r_t_v126 = Host.shrui (R V r_t_v121) (R V r_t_v125) :=
  line.binary V 212 (a := r_t_v121) (b := r_t_v125) (y := r_t_v126) rfl (by decide) (by decide)
theorem e_t_v127 : R V r_t_v127 = ori (R V r_t_v124) (R V r_t_v126) :=
  line.binary V 213 (a := r_t_v124) (b := r_t_v126) (y := r_t_v127) rfl (by decide) (by decide)
theorem e_t_v128 : R V r_t_v128 = xori (R V r_t_v122) (R V r_t_v127) :=
  line.binary V 214 (a := r_t_v122) (b := r_t_v127) (y := r_t_v128) rfl (by decide) (by decide)
theorem e_t_v129 : R V r_t_v129 = addi (R V r_t_v122) (R V r_t_v128) :=
  line.binary V 215 (a := r_t_v122) (b := r_t_v128) (y := r_t_v129) rfl (by decide) (by decide)
theorem e_t_c_33 : R V r_t_c_33 = (constantI S_ 32 24#32) := line.nullary V 216 rfl
theorem e_t_v130 : R V r_t_v130 = (broadcastInDim S64x1x8192x8 ![] bcast_S_S64x1x8192x8) (R V r_t_c_33) :=
  line.unary V 217 (x := r_t_c_33) (y := r_t_v130) rfl (by decide)
theorem e_t_v131 : R V r_t_v131 = Host.shli (R V r_t_v128) (R V r_t_v130) :=
  line.binary V 218 (a := r_t_v128) (b := r_t_v130) (y := r_t_v131) rfl (by decide) (by decide)
theorem e_t_c_34 : R V r_t_c_34 = (constantI S_ 32 8#32) := line.nullary V 219 rfl
theorem e_t_v132 : R V r_t_v132 = (broadcastInDim S64x1x8192x8 ![] bcast_S_S64x1x8192x8) (R V r_t_c_34) :=
  line.unary V 220 (x := r_t_c_34) (y := r_t_v132) rfl (by decide)
theorem e_t_v133 : R V r_t_v133 = Host.shrui (R V r_t_v128) (R V r_t_v132) :=
  line.binary V 221 (a := r_t_v128) (b := r_t_v132) (y := r_t_v133) rfl (by decide) (by decide)
theorem e_t_v134 : R V r_t_v134 = ori (R V r_t_v131) (R V r_t_v133) :=
  line.binary V 222 (a := r_t_v131) (b := r_t_v133) (y := r_t_v134) rfl (by decide) (by decide)
theorem e_t_v135 : R V r_t_v135 = xori (R V r_t_v129) (R V r_t_v134) :=
  line.binary V 223 (a := r_t_v129) (b := r_t_v134) (y := r_t_v135) rfl (by decide) (by decide)
theorem e_t_v136 : R V r_t_v136 = (broadcastInDim S64x1x8192x8 ![] bcast_S_S64x1x8192x8) (R V r_u_v7) :=
  line.unary V 224 (x := r_u_v7) (y := r_t_v136) rfl (by decide)
theorem e_t_v137 : R V r_t_v137 = addi (R V r_t_v129) (R V r_t_v136) :=
  line.binary V 225 (a := r_t_v129) (b := r_t_v136) (y := r_t_v137) rfl (by decide) (by decide)
theorem e_t_v138 : R V r_t_v138 = (broadcastInDim S64x1x8192x8 ![] bcast_S_S64x1x8192x8) (R V r_t_v1) :=
  line.unary V 226 (x := r_t_v1) (y := r_t_v138) rfl (by decide)
theorem e_t_v139 : R V r_t_v139 = addi (R V r_t_v135) (R V r_t_v138) :=
  line.binary V 227 (a := r_t_v135) (b := r_t_v138) (y := r_t_v139) rfl (by decide) (by decide)
theorem e_t_c_35 : R V r_t_c_35 = (constantI S_ 32 4#32) := line.nullary V 228 rfl
theorem e_t_v140 : R V r_t_v140 = (broadcastInDim S64x1x8192x8 ![] bcast_S_S64x1x8192x8) (R V r_t_c_35) :=
  line.unary V 229 (x := r_t_c_35) (y := r_t_v140) rfl (by decide)
theorem e_t_v141 : R V r_t_v141 = addi (R V r_t_v139) (R V r_t_v140) :=
  line.binary V 230 (a := r_t_v139) (b := r_t_v140) (y := r_t_v141) rfl (by decide) (by decide)
theorem e_t_v142 : R V r_t_v142 = addi (R V r_t_v137) (R V r_t_v141) :=
  line.binary V 231 (a := r_t_v137) (b := r_t_v141) (y := r_t_v142) rfl (by decide) (by decide)
theorem e_t_c_36 : R V r_t_c_36 = (constantI S_ 32 13#32) := line.nullary V 232 rfl
theorem e_t_v143 : R V r_t_v143 = (broadcastInDim S64x1x8192x8 ![] bcast_S_S64x1x8192x8) (R V r_t_c_36) :=
  line.unary V 233 (x := r_t_c_36) (y := r_t_v143) rfl (by decide)
theorem e_t_v144 : R V r_t_v144 = Host.shli (R V r_t_v141) (R V r_t_v143) :=
  line.binary V 234 (a := r_t_v141) (b := r_t_v143) (y := r_t_v144) rfl (by decide) (by decide)
theorem e_t_c_37 : R V r_t_c_37 = (constantI S_ 32 19#32) := line.nullary V 235 rfl
theorem e_t_v145 : R V r_t_v145 = (broadcastInDim S64x1x8192x8 ![] bcast_S_S64x1x8192x8) (R V r_t_c_37) :=
  line.unary V 236 (x := r_t_c_37) (y := r_t_v145) rfl (by decide)
theorem e_t_v146 : R V r_t_v146 = Host.shrui (R V r_t_v141) (R V r_t_v145) :=
  line.binary V 237 (a := r_t_v141) (b := r_t_v145) (y := r_t_v146) rfl (by decide) (by decide)
theorem e_t_v147 : R V r_t_v147 = ori (R V r_t_v144) (R V r_t_v146) :=
  line.binary V 238 (a := r_t_v144) (b := r_t_v146) (y := r_t_v147) rfl (by decide) (by decide)
theorem e_t_v148 : R V r_t_v148 = xori (R V r_t_v142) (R V r_t_v147) :=
  line.binary V 239 (a := r_t_v142) (b := r_t_v147) (y := r_t_v148) rfl (by decide) (by decide)
theorem e_t_v149 : R V r_t_v149 = addi (R V r_t_v142) (R V r_t_v148) :=
  line.binary V 240 (a := r_t_v142) (b := r_t_v148) (y := r_t_v149) rfl (by decide) (by decide)
theorem e_t_c_38 : R V r_t_c_38 = (constantI S_ 32 15#32) := line.nullary V 241 rfl
theorem e_t_v150 : R V r_t_v150 = (broadcastInDim S64x1x8192x8 ![] bcast_S_S64x1x8192x8) (R V r_t_c_38) :=
  line.unary V 242 (x := r_t_c_38) (y := r_t_v150) rfl (by decide)
theorem e_t_v151 : R V r_t_v151 = Host.shli (R V r_t_v148) (R V r_t_v150) :=
  line.binary V 243 (a := r_t_v148) (b := r_t_v150) (y := r_t_v151) rfl (by decide) (by decide)
theorem e_t_c_39 : R V r_t_c_39 = (constantI S_ 32 17#32) := line.nullary V 244 rfl
theorem e_t_v152 : R V r_t_v152 = (broadcastInDim S64x1x8192x8 ![] bcast_S_S64x1x8192x8) (R V r_t_c_39) :=
  line.unary V 245 (x := r_t_c_39) (y := r_t_v152) rfl (by decide)
theorem e_t_v153 : R V r_t_v153 = Host.shrui (R V r_t_v148) (R V r_t_v152) :=
  line.binary V 246 (a := r_t_v148) (b := r_t_v152) (y := r_t_v153) rfl (by decide) (by decide)
theorem e_t_v154 : R V r_t_v154 = ori (R V r_t_v151) (R V r_t_v153) :=
  line.binary V 247 (a := r_t_v151) (b := r_t_v153) (y := r_t_v154) rfl (by decide) (by decide)
theorem e_t_v155 : R V r_t_v155 = xori (R V r_t_v149) (R V r_t_v154) :=
  line.binary V 248 (a := r_t_v149) (b := r_t_v154) (y := r_t_v155) rfl (by decide) (by decide)
theorem e_t_v156 : R V r_t_v156 = addi (R V r_t_v149) (R V r_t_v155) :=
  line.binary V 249 (a := r_t_v149) (b := r_t_v155) (y := r_t_v156) rfl (by decide) (by decide)
theorem e_t_c_40 : R V r_t_c_40 = (constantI S_ 32 26#32) := line.nullary V 250 rfl
theorem e_t_v157 : R V r_t_v157 = (broadcastInDim S64x1x8192x8 ![] bcast_S_S64x1x8192x8) (R V r_t_c_40) :=
  line.unary V 251 (x := r_t_c_40) (y := r_t_v157) rfl (by decide)
theorem e_t_v158 : R V r_t_v158 = Host.shli (R V r_t_v155) (R V r_t_v157) :=
  line.binary V 252 (a := r_t_v155) (b := r_t_v157) (y := r_t_v158) rfl (by decide) (by decide)
theorem e_t_c_41 : R V r_t_c_41 = (constantI S_ 32 6#32) := line.nullary V 253 rfl
theorem e_t_v159 : R V r_t_v159 = (broadcastInDim S64x1x8192x8 ![] bcast_S_S64x1x8192x8) (R V r_t_c_41) :=
  line.unary V 254 (x := r_t_c_41) (y := r_t_v159) rfl (by decide)
theorem e_t_v160 : R V r_t_v160 = Host.shrui (R V r_t_v155) (R V r_t_v159) :=
  line.binary V 255 (a := r_t_v155) (b := r_t_v159) (y := r_t_v160) rfl (by decide) (by decide)
theorem e_t_v161 : R V r_t_v161 = ori (R V r_t_v158) (R V r_t_v160) :=
  line.binary V 256 (a := r_t_v158) (b := r_t_v160) (y := r_t_v161) rfl (by decide) (by decide)
theorem e_t_v162 : R V r_t_v162 = xori (R V r_t_v156) (R V r_t_v161) :=
  line.binary V 257 (a := r_t_v156) (b := r_t_v161) (y := r_t_v162) rfl (by decide) (by decide)
theorem e_t_v163 : R V r_t_v163 = addi (R V r_t_v156) (R V r_t_v162) :=
  line.binary V 258 (a := r_t_v156) (b := r_t_v162) (y := r_t_v163) rfl (by decide) (by decide)
theorem e_t_c_42 : R V r_t_c_42 = (constantI S_ 32 6#32) := line.nullary V 259 rfl
theorem e_t_v164 : R V r_t_v164 = (broadcastInDim S64x1x8192x8 ![] bcast_S_S64x1x8192x8) (R V r_t_c_42) :=
  line.unary V 260 (x := r_t_c_42) (y := r_t_v164) rfl (by decide)
theorem e_t_v165 : R V r_t_v165 = Host.shli (R V r_t_v162) (R V r_t_v164) :=
  line.binary V 261 (a := r_t_v162) (b := r_t_v164) (y := r_t_v165) rfl (by decide) (by decide)
theorem e_t_c_43 : R V r_t_c_43 = (constantI S_ 32 26#32) := line.nullary V 262 rfl
theorem e_t_v166 : R V r_t_v166 = (broadcastInDim S64x1x8192x8 ![] bcast_S_S64x1x8192x8) (R V r_t_c_43) :=
  line.unary V 263 (x := r_t_c_43) (y := r_t_v166) rfl (by decide)
theorem e_t_v167 : R V r_t_v167 = Host.shrui (R V r_t_v162) (R V r_t_v166) :=
  line.binary V 264 (a := r_t_v162) (b := r_t_v166) (y := r_t_v167) rfl (by decide) (by decide)
theorem e_t_v168 : R V r_t_v168 = ori (R V r_t_v165) (R V r_t_v167) :=
  line.binary V 265 (a := r_t_v165) (b := r_t_v167) (y := r_t_v168) rfl (by decide) (by decide)
theorem e_t_v169 : R V r_t_v169 = xori (R V r_t_v163) (R V r_t_v168) :=
  line.binary V 266 (a := r_t_v163) (b := r_t_v168) (y := r_t_v169) rfl (by decide) (by decide)
theorem e_t_v170 : R V r_t_v170 = (broadcastInDim S64x1x8192x8 ![] bcast_S_S64x1x8192x8) (R V r_t_v1) :=
  line.unary V 267 (x := r_t_v1) (y := r_t_v170) rfl (by decide)
theorem e_u_v27_0 : R V r_u_v27_0 = addi (R V r_t_v163) (R V r_t_v170) :=
  line.binary V 268 (a := r_t_v163) (b := r_t_v170) (y := r_u_v27_0) rfl (by decide) (by decide)
theorem e_t_v172 : R V r_t_v172 = (broadcastInDim S64x1x8192x8 ![] bcast_S_S64x1x8192x8) (R V r_u_v5) :=
  line.unary V 269 (x := r_u_v5) (y := r_t_v172) rfl (by decide)
theorem e_t_v173 : R V r_t_v173 = addi (R V r_t_v169) (R V r_t_v172) :=
  line.binary V 270 (a := r_t_v169) (b := r_t_v172) (y := r_t_v173) rfl (by decide) (by decide)
theorem e_t_c_44 : R V r_t_c_44 = (constantI S_ 32 5#32) := line.nullary V 271 rfl
theorem e_t_v174 : R V r_t_v174 = (broadcastInDim S64x1x8192x8 ![] bcast_S_S64x1x8192x8) (R V r_t_c_44) :=
  line.unary V 272 (x := r_t_c_44) (y := r_t_v174) rfl (by decide)
theorem e_u_v27_1 : R V r_u_v27_1 = addi (R V r_t_v173) (R V r_t_v174) :=
  line.binary V 273 (a := r_t_v173) (b := r_t_v174) (y := r_u_v27_1) rfl (by decide) (by decide)
theorem e_u_v28 : R V r_u_v28 = xori (R V r_u_v27_0) (R V r_u_v27_1) :=
  line.binary V 274 (a := r_u_v27_0) (b := r_u_v27_1) (y := r_u_v28) rfl (by decide) (by decide)
theorem e_u_c_4 : R V r_u_c_4 = (constantI S_ 32 9#32) := line.nullary V 275 rfl
theorem e_u_v29 : R V r_u_v29 = (broadcastInDim S64x1x8192x8 ![] bcast_S_S64x1x8192x8) (R V r_u_c_4) :=
  line.unary V 276 (x := r_u_c_4) (y := r_u_v29) rfl (by decide)
theorem e_u_v30 : R V r_u_v30 = Host.shrui (R V r_u_v28) (R V r_u_v29) :=
  line.binary V 277 (a := r_u_v28) (b := r_u_v29) (y := r_u_v30) rfl (by decide) (by decide)
theorem e_u_c_5 : R V r_u_c_5 = (constantI S_ 32 1065353216#32) := line.nullary V 278 rfl
theorem e_u_v31 : R V r_u_v31 = (broadcastInDim S64x1x8192x8 ![] bcast_S_S64x1x8192x8) (R V r_u_c_5) :=
  line.unary V 279 (x := r_u_c_5) (y := r_u_v31) rfl (by decide)
theorem e_u_v32 : R V r_u_v32 = ori (R V r_u_v30) (R V r_u_v31) :=
  line.binary V 280 (a := r_u_v30) (b := r_u_v31) (y := r_u_v32) rfl (by decide) (by decide)
theorem e_u_v33 : R V r_u_v33 = (bitcastToFloat (F := F) .f32) (R V r_u_v32) :=
  line.unary V 281 (x := r_u_v32) (y := r_u_v33) rfl (by decide)
theorem e_u_cst : R V r_u_cst = (constant S_ .f32 0x3F800000#32) := line.nullary V 282 rfl
theorem e_u_v34 : R V r_u_v34 = (broadcastInDim S64x1x8192x8 ![] bcast_S_S64x1x8192x8) (R V r_u_cst) :=
  line.unary V 283 (x := r_u_cst) (y := r_u_v34) rfl (by decide)
theorem e_u_v35 : R V r_u_v35 = subf (R V r_u_v33) (R V r_u_v34) :=
  line.binary V 284 (a := r_u_v33) (b := r_u_v34) (y := r_u_v35) rfl (by decide) (by decide)
theorem e_u_v36 : R V r_u_v36 = subf (R V r_u_v3) (R V r_u_v2) :=
  line.binary V 285 (a := r_u_v3) (b := r_u_v2) (y := r_u_v36) rfl (by decide) (by decide)
theorem e_u_v37 : R V r_u_v37 = (broadcastInDim S64x1x8192x8 ![0, 1, 2, 3] bcast_S1x1x1x1_S64x1x8192x8_0_1_2_3) (R V r_u_v36) :=
  line.unary V 286 (x := r_u_v36) (y := r_u_v37) rfl (by decide)
theorem e_u_v38 : R V r_u_v38 = mulf (R V r_u_v35) (R V r_u_v37) :=
  line.binary V 287 (a := r_u_v35) (b := r_u_v37) (y := r_u_v38) rfl (by decide) (by decide)
theorem e_u_v39 : R V r_u_v39 = (broadcastInDim S64x1x8192x8 ![0, 1, 2, 3] bcast_S1x1x1x1_S64x1x8192x8_0_1_2_3) (R V r_u_v2) :=
  line.unary V 288 (x := r_u_v2) (y := r_u_v39) rfl (by decide)
theorem e_u_v40 : R V r_u_v40 = addf (R V r_u_v38) (R V r_u_v39) :=
  line.binary V 289 (a := r_u_v38) (b := r_u_v39) (y := r_u_v40) rfl (by decide) (by decide)
theorem e_u_v41 : R V r_u_v41 = (broadcastInDim S64x1x8192x8 ![0, 1, 2, 3] bcast_S1x1x1x1_S64x1x8192x8_0_1_2_3) (R V r_u_v2) :=
  line.unary V 290 (x := r_u_v2) (y := r_u_v41) rfl (by decide)
theorem e_v13 : R V r_v13 = maximumf (R V r_u_v41) (R V r_u_v40) :=
  line.binary V 291 (a := r_u_v41) (b := r_u_v40) (y := r_v13) rfl (by decide) (by decide)
theorem e_cst_5 : R V r_cst_5 = (constant S_ .f32 0x3F800000#32) := line.nullary V 292 rfl
theorem e_v14 : R V r_v14 = (broadcastInDim S64x1x8192x8 ![] bcast_S_S64x1x8192x8) (R V r_cst_5) :=
  line.unary V 293 (x := r_cst_5) (y := r_v14) rfl (by decide)
theorem e_v15 : R V r_v15 = mulf (R V r_v13) (R V r_v14) :=
  line.binary V 294 (a := r_v13) (b := r_v14) (y := r_v15) rfl (by decide) (by decide)
theorem e_cst_6 : R V r_cst_6 = (constant S_ .f32 0x00800000#32) := line.nullary V 295 rfl
theorem e_v16 : R V r_v16 = (broadcastInDim S64x1x8192x8 ![] bcast_S_S64x1x8192x8) (R V r_cst_6) :=
  line.unary V 296 (x := r_cst_6) (y := r_v16) rfl (by decide)
theorem e_v17 : R V r_v17 = addf (R V r_v15) (R V r_v16) :=
  line.binary V 297 (a := r_v15) (b := r_v16) (y := r_v17) rfl (by decide) (by decide)
theorem e_cst_7 : R V r_cst_7 = (constant S_ .f32 0x00800000#32) := line.nullary V 298 rfl
theorem e_v18 : R V r_v18 = (broadcastInDim S64x1x8192x8 ![] bcast_S_S64x1x8192x8) (R V r_cst_7) :=
  line.unary V 299 (x := r_cst_7) (y := r_v18) rfl (by decide)
theorem e_v19 : R V r_v19 = maximumf (R V r_v18) (R V r_v17) :=
  line.binary V 300 (a := r_v18) (b := r_v17) (y := r_v19) rfl (by decide) (by decide)
theorem e_v20 : R V r_v20 = Host.log (R V r_v19) :=
  line.unary V 301 (x := r_v19) (y := r_v20) rfl (by decide)
theorem e_v21 : R V r_v21 = Host.negf (R V r_v20) :=
  line.unary V 302 (x := r_v20) (y := r_v21) rfl (by decide)
theorem e_v22 : R V r_v22 = Host.log (R V r_v21) :=
  line.unary V 303 (x := r_v21) (y := r_v22) rfl (by decide)
theorem e_v23 : R V r_v23 = Host.negf (R V r_v22) :=
  line.unary V 304 (x := r_v22) (y := r_v23) rfl (by decide)
theorem e_v24 : R V r_v24 = (broadcastInDim S1x1x8192x8 ![1, 2, 3] bcast_S1x8192x8_S1x1x8192x8_1_2_3) (R V r_v5) :=
  line.unary V 305 (x := r_v5) (y := r_v24) rfl (by decide)
theorem e_v25 : R V r_v25 = (broadcastInDim S64x1x8192x8 ![0, 1, 2, 3] bcast_S1x1x8192x8_S64x1x8192x8_0_1_2_3) (R V r_v24) :=
  line.unary V 306 (x := r_v24) (y := r_v25) rfl (by decide)
theorem e_v26 : R V r_v26 = addf (R V r_v23) (R V r_v25) :=
  line.binary V 307 (a := r_v23) (b := r_v25) (y := r_v26) rfl (by decide) (by decide)
theorem e_a_v0 : R V r_a_v0 = (iotaInDim S64x1x8192x8 32 3) := line.nullary V 308 rfl
theorem e_a_cst : R V r_a_cst = (constant S_ .f32 0xFF800000#32) := line.nullary V 309 rfl
theorem e_a_c : R V r_a_c = (constantI S_ 32 0#32) := line.nullary V 310 rfl
theorem e_a_v1_0 : R V r_a_v1_0 = ((fun x y u v j => (Host.argReduce reducer_argmax_f32_i32 x y u v reducesTo_S64x1x8192x8_S64x1x8192_d3 h_S_ j).1) : (⟨S64x1x8192x8, .f32⟩ : BufTy).Contents (Elt F) → (⟨S64x1x8192x8, .i32⟩ : BufTy).Contents (Elt F) → (⟨S_, .f32⟩ : BufTy).Contents (Elt F) → (⟨S_, .i32⟩ : BufTy).Contents (Elt F) → (⟨S64x1x8192, .f32⟩ : BufTy).Contents (Elt F)) (R V r_v26) (R V r_a_v0) (R V r_a_cst) (R V r_a_c) :=
  (line.quaternary V 311 (a := r_v26) (b := r_a_v0) (c := r_a_cst) (e := r_a_c) (y := r_a_v1_0) (f := ((fun x y u v j => (Host.argReduce reducer_argmax_f32_i32 x y u v reducesTo_S64x1x8192x8_S64x1x8192_d3 h_S_ j).1) : (⟨S64x1x8192x8, .f32⟩ : BufTy).Contents (Elt F) → (⟨S64x1x8192x8, .i32⟩ : BufTy).Contents (Elt F) → (⟨S_, .f32⟩ : BufTy).Contents (Elt F) → (⟨S_, .i32⟩ : BufTy).Contents (Elt F) → (⟨S64x1x8192, .f32⟩ : BufTy).Contents (Elt F))) rfl (by decide) (by decide) (by decide) (by decide) :)
theorem e_v27 : R V r_v27 = ((fun x y u v j => (Host.argReduce reducer_argmax_f32_i32 x y u v reducesTo_S64x1x8192x8_S64x1x8192_d3 h_S_ j).2) : (⟨S64x1x8192x8, .f32⟩ : BufTy).Contents (Elt F) → (⟨S64x1x8192x8, .i32⟩ : BufTy).Contents (Elt F) → (⟨S_, .f32⟩ : BufTy).Contents (Elt F) → (⟨S_, .i32⟩ : BufTy).Contents (Elt F) → (⟨S64x1x8192, .i32⟩ : BufTy).Contents (Elt F)) (R V r_v26) (R V r_a_v0) (R V r_a_cst) (R V r_a_c) :=
  (line.quaternary V 312 (a := r_v26) (b := r_a_v0) (c := r_a_cst) (e := r_a_c) (y := r_v27) (f := ((fun x y u v j => (Host.argReduce reducer_argmax_f32_i32 x y u v reducesTo_S64x1x8192x8_S64x1x8192_d3 h_S_ j).2) : (⟨S64x1x8192x8, .f32⟩ : BufTy).Contents (Elt F) → (⟨S64x1x8192x8, .i32⟩ : BufTy).Contents (Elt F) → (⟨S_, .f32⟩ : BufTy).Contents (Elt F) → (⟨S_, .i32⟩ : BufTy).Contents (Elt F) → (⟨S64x1x8192, .i32⟩ : BufTy).Contents (Elt F))) rfl (by decide) (by decide) (by decide) (by decide) :)
theorem e_v28 : R V r_v28 = ((fun x => (transpose S1x64x8192 [1, 0, 2] x transposes_S64x1x8192_S1x64x8192_1_0_2)) : (⟨S64x1x8192, .i32⟩ : BufTy).Contents (Elt F) → (⟨S1x64x8192, .i32⟩ : BufTy).Contents (Elt F)) (R V r_v27) :=
  (line.unary V 313 (x := r_v27) (y := r_v28) (f := ((fun x => (transpose S1x64x8192 [1, 0, 2] x transposes_S64x1x8192_S1x64x8192_1_0_2)) : (⟨S64x1x8192, .i32⟩ : BufTy).Contents (Elt F) → (⟨S1x64x8192, .i32⟩ : BufTy).Contents (Elt F))) rfl (by decide) :)
theorem e_o_v0 : R V r_o_v0 = (broadcastInDim S1x64x8192x1 ![0, 1, 2] bcast_S1x64x8192_S1x64x8192x1_0_1_2) (R V r_v28) :=
  line.unary V 314 (x := r_v28) (y := r_o_v0) rfl (by decide)
theorem e_o_v1 : R V r_o_v1 = (iotaInDim S1x1x1x8 32 3) := line.nullary V 315 rfl
theorem e_o_v2 : R V r_o_v2 = (broadcastInDim S1x64x8192x8 ![0, 1, 2, 3] bcast_S1x64x8192x1_S1x64x8192x8_0_1_2_3) (R V r_o_v0) :=
  line.unary V 316 (x := r_o_v0) (y := r_o_v2) rfl (by decide)
theorem e_o_v3 : R V r_o_v3 = (broadcastInDim S1x64x8192x8 ![0, 1, 2, 3] bcast_S1x1x1x8_S1x64x8192x8_0_1_2_3) (R V r_o_v1) :=
  line.unary V 317 (x := r_o_v1) (y := r_o_v3) rfl (by decide)
theorem e_o_v4 : R V r_o_v4 = (cmpi .eq) (R V r_o_v2) (R V r_o_v3) :=
  line.binary V 318 (a := r_o_v2) (b := r_o_v3) (y := r_o_v4) rfl (by decide) (by decide)
theorem e_v29 : R V r_v29 = (uitofp .f32) (R V r_o_v4) :=
  line.unary V 319 (x := r_o_v4) (y := r_v29) rfl (by decide)
theorem e_cst_8 : R V r_cst_8 = (constant S_ .f32 0x3F800000#32) := line.nullary V 320 rfl
theorem e_v30 : R V r_v30 = (broadcastInDim S1x8192x8 ![] bcast_S_S1x8192x8) (R V r_cst_8) :=
  line.unary V 321 (x := r_cst_8) (y := r_v30) rfl (by decide)
theorem e_v31 : R V r_v31 = Host.divf (R V r_v5) (R V r_v30) :=
  line.binary V 322 (a := r_v5) (b := r_v30) (y := r_v31) rfl (by decide) (by decide)
theorem e_cst_9 : R V r_cst_9 = (constant S_ .f32 0xFF800000#32) := line.nullary V 323 rfl
/-- The maximum along the last axis, from the initial value. -/
def rowMax : (⟨S1x8192x8, .f32⟩ : BufTy).Contents (Elt F) → (⟨S_, .f32⟩ : BufTy).Contents (Elt F) → (⟨S1x8192, .f32⟩ : BufTy).Contents (Elt F) :=
  ((fun x v => Host.reduce FloatOps.maximumf x v reducesTo_S1x8192x8_S1x8192_d2 h_S_))
theorem op_v32 : (ops : List (HloOp τ sig (Elt F)))[324]? = some (binary main_v31 main_cst_9 main_v32 rowMax) := rfl
theorem op_v32' : (binary main_v31 main_cst_9 main_v32 rowMax : HloOp τ sig (Elt F)) = TRef.binary r_v31 r_cst_9 r_v32 rowMax := by
  simp only [TRef.binary, TRef.toBuf, TRef.ofBuf, cast_eq]
theorem e_v32 : R V r_v32 = rowMax (R V r_v31) (R V r_cst_9) :=
  line.binary V 324 (op_v32.trans (congrArg some op_v32')) (by decide) (by decide)
theorem e_cst_10 : R V r_cst_10 = (constant S_ .f32 0xFF800000#32) := line.nullary V 325 rfl
theorem e_v33 : R V r_v33 = (broadcastInDim S1x8192 ![] bcast_S_S1x8192) (R V r_cst_10) :=
  line.unary V 326 (x := r_cst_10) (y := r_v33) rfl (by decide)
theorem e_v34 : R V r_v34 = maximumf (R V r_v33) (R V r_v32) :=
  line.binary V 327 (a := r_v33) (b := r_v32) (y := r_v34) rfl (by decide) (by decide)
theorem e_v35 : R V r_v35 = (broadcastInDim S1x8192x1 ![0, 1] bcast_S1x8192_S1x8192x1_0_1) (R V r_v34) :=
  line.unary V 328 (x := r_v34) (y := r_v35) rfl (by decide)
theorem e_v36 : R V r_v36 = (broadcastInDim S1x8192x8 ![0, 1, 2] bcast_S1x8192x1_S1x8192x8_0_1_2) (R V r_v35) :=
  line.unary V 329 (x := r_v35) (y := r_v36) rfl (by decide)
theorem e_v37 : R V r_v37 = subf (R V r_v31) (R V r_v36) :=
  line.binary V 330 (a := r_v31) (b := r_v36) (y := r_v37) rfl (by decide) (by decide)
theorem e_v38 : R V r_v38 = Host.exp (R V r_v37) :=
  line.unary V 331 (x := r_v37) (y := r_v38) rfl (by decide)
theorem e_cst_11 : R V r_cst_11 = (constant S_ .f32 0x00000000#32) := line.nullary V 332 rfl
theorem e_v39 : R V r_v39 = ((fun x v => Host.reduceAdd x v reducesTo_S1x8192x8_S1x8192_d2 h_S_)) (R V r_v38) (R V r_cst_11) := by
  have h : (ops : List (HloOp τ sig (Elt F)))[333]? = some (TRef.binary r_v38 r_cst_11 r_v39 ((fun x v => Host.reduceAdd x v reducesTo_S1x8192x8_S1x8192_d2 h_S_))) := rfl
  exact line.binary V 333 h (by decide) (by decide)
theorem e_v40 : R V r_v40 = (broadcastInDim S1x8192x1 ![0, 1] bcast_S1x8192_S1x8192x1_0_1) (R V r_v39) :=
  line.unary V 334 (x := r_v39) (y := r_v40) rfl (by decide)
theorem e_v41 : R V r_v41 = (broadcastInDim S1x8192x8 ![0, 1, 2] bcast_S1x8192x1_S1x8192x8_0_1_2) (R V r_v40) :=
  line.unary V 335 (x := r_v40) (y := r_v41) rfl (by decide)
theorem e_v42 : R V r_v42 = Host.divf (R V r_v38) (R V r_v41) :=
  line.binary V 336 (a := r_v38) (b := r_v41) (y := r_v42) rfl (by decide) (by decide)
theorem e_v43 : R V r_v43 = (broadcastInDim S1x1x8192x8 ![0, 2, 3] bcast_S1x8192x8_S1x1x8192x8_0_2_3) (R V r_v42) :=
  line.unary V 337 (x := r_v42) (y := r_v43) rfl (by decide)
theorem e_v44 : R V r_v44 = (broadcastInDim S1x64x8192x8 ![0, 1, 2, 3] bcast_S1x1x8192x8_S1x64x8192x8_0_1_2_3) (R V r_v43) :=
  line.unary V 338 (x := r_v43) (y := r_v44) rfl (by decide)
theorem e_v45 : R V r_v45 = addf (R V r_v29) (R V r_v44) :=
  line.binary V 339 (a := r_v29) (b := r_v44) (y := r_v45) rfl (by decide) (by decide)
theorem e_v46 : R V r_v46 = subf (R V r_v45) (R V r_v44) :=
  line.binary V 340 (a := r_v45) (b := r_v44) (y := r_v46) rfl (by decide) (by decide)

end Cert.ReferenceIdeal.Run

end
-- ==== Proof.PreScores.lean ====
/-
  THE PREDICATE'S SCORES ARE THE REFERENCE'S: the precondition draws its random numbers by the same operations as the
  reference, so each intermediate of its text is a buffer of the reference's run; part by part, last part first.
-/
module

public import proofs.«01_k».proof.Proof.RefEqs
public import proofs.«01_k».proof.Pre_one_winner
public import proofs.«01_k».proof.Proof.Gen.Pre_one_winner

@[expose] public section

set_option maxRecDepth 16384

noncomputable section

namespace Cert.PreScores

section

open Cert.Pre_one_winner Cert.Pre_one_winner.Facts Idealize.ShloMosaic Idealize.ShloMosaic.StableHlo

/-- What the predicate says of the live logits: each at least -9000 and below infinity. -/
def range {F : FTy → Type} [FloatOps F] (arg0 : FVec F S1x8192x8 .f32) : IVec S_ 1 :=
  let v0 : FVec F S1x8192x4 .f32 := (extractStridedSlice S1x8192x4 ![0, 0, 2] · slices_S1x8192x8_S1x8192x4_0_0_2) arg0
  let cst_1 : FVec F S_ .f32 := constant S_ .f32 0xC60CA000#32
  let v1 : FVec F S1x8192x4 .f32 := broadcastInDim S1x8192x4 ![] bcast_S_S1x8192x4 cst_1
  let v2 : IVec S1x8192x4 1 := cmpf .oge v0 v1
  let cst_2 : FVec F S_ .f32 := constant S_ .f32 0x7F800000#32
  let v3 : FVec F S1x8192x4 .f32 := broadcastInDim S1x8192x4 ![] bcast_S_S1x8192x4 cst_2
  let v4 : IVec S1x8192x4 1 := cmpf .olt v0 v3
  let v5 : IVec S1x8192x4 1 := andi v2 v4
  let c : IVec S_ 1 := constantI S_ 1 1#1
  let v6 : IVec S_ 1 := (fun x v => Host.reduce IntOp.andi x v reducesTo_S1x8192x4_S_d0_1_2 h_S_) v5 c
  v6

/-- The two constant rows of the predicate are the reference's. -/
theorem rows_eq : Cert.Pre_one_winner.lit0 = Cert.ReferenceIdeal.lit0 ∧ Cert.Pre_one_winner.lit1 = Cert.ReferenceIdeal.lit1 := ⟨rfl, rfl⟩

end

open Cert.ReferenceIdeal Cert.ReferenceIdeal.Gen Cert.ReferenceIdeal.Run Cert.Line
open Idealize.ShloMosaic Idealize.ShloMosaic.TcCoe Idealize.SL.Sem Idealize.ShloMosaic.StableHlo

variable {F : FTy → Type} [FloatOps F] (V : Valuation τ sig (Elt F))

/-- The predicate's random words, from its part 9 on, are the reference's. -/
theorem random_9 : Cert.Pre_one_winner.fn_threefry2x32_part9 (F := F) (R V r_u_v5) (R V r_t_v163) (R V r_t_v169) (R V r_t_v170) = (R V r_u_v27_0, R V r_u_v27_1) := by
  unfold Cert.Pre_one_winner.fn_threefry2x32_part9
  rw [e_u_v27_1 V, e_t_v174 V, e_t_c_44 V, e_t_v173 V, e_t_v172 V, e_u_v27_0 V]

/-- The predicate's random words, from its part 8 on, are the reference's. -/
theorem random_8 : Cert.Pre_one_winner.fn_threefry2x32_part8 (F := F) (R V r_u_v5) (R V r_t_v1) (R V r_t_v148) (R V r_t_v149) (R V r_t_v151) = (R V r_u_v27_0, R V r_u_v27_1) := by
  unfold Cert.Pre_one_winner.fn_threefry2x32_part8
  rw [← random_9 V]
  rw [e_t_v170 V, e_t_v169 V, e_t_v168 V, e_t_v167 V, e_t_v166 V, e_t_c_43 V, e_t_v165 V, e_t_v164 V, e_t_c_42 V, e_t_v163 V, e_t_v162 V, e_t_v161 V, e_t_v160 V, e_t_v159 V, e_t_c_41 V, e_t_v158 V, e_t_v157 V, e_t_c_40 V, e_t_v156 V, e_t_v155 V, e_t_v154 V, e_t_v153 V, e_t_v152 V, e_t_c_39 V]

/-- The predicate's random words, from its part 7 on, are the reference's. -/
theorem random_7 : Cert.Pre_one_winner.fn_threefry2x32_part7 (F := F) (R V r_u_v5) (R V r_u_v7) (R V r_t_v1) (R V r_t_v128) (R V r_t_v129) (R V r_t_v131) (R V r_t_c_34) = (R V r_u_v27_0, R V r_u_v27_1) := by
  unfold Cert.Pre_one_winner.fn_threefry2x32_part7
  rw [← random_8 V]
  rw [e_t_v151 V, e_t_v150 V, e_t_c_38 V, e_t_v149 V, e_t_v148 V, e_t_v147 V, e_t_v146 V, e_t_v145 V, e_t_c_37 V, e_t_v144 V, e_t_v143 V, e_t_c_36 V, e_t_v142 V, e_t_v141 V, e_t_v140 V, e_t_c_35 V, e_t_v139 V, e_t_v138 V, e_t_v137 V, e_t_v136 V, e_t_v135 V, e_t_v134 V, e_t_v133 V, e_t_v132 V]

/-- The predicate's random words, from its part 6 on, are the reference's. -/
theorem random_6 : Cert.Pre_one_winner.fn_threefry2x32_part6 (F := F) (R V r_u_v5) (R V r_u_v7) (R V r_t_v1) (R V r_t_v108) (R V r_t_v113) = (R V r_u_v27_0, R V r_u_v27_1) := by
  unfold Cert.Pre_one_winner.fn_threefry2x32_part6
  rw [← random_7 V]
  rw [e_t_c_34 V, e_t_v131 V, e_t_v130 V, e_t_c_33 V, e_t_v129 V, e_t_v128 V, e_t_v127 V, e_t_v126 V, e_t_v125 V, e_t_c_32 V, e_t_v124 V, e_t_v123 V, e_t_c_31 V, e_t_v122 V, e_t_v121 V, e_t_v120 V, e_t_v119 V, e_t_v118 V, e_t_c_30 V, e_t_v117 V, e_t_v116 V, e_t_c_29 V, e_t_v115 V, e_t_v114 V]

/-- The predicate's random words, from its part 5 on, are the reference's. -/
theorem random_5 : Cert.Pre_one_winner.fn_threefry2x32_part5 (F := F) (R V r_u_v5) (R V r_u_v7) (R V r_t_v1) (R V r_t_v88) (R V r_t_v94) = (R V r_u_v27_0, R V r_u_v27_1) := by
  unfold Cert.Pre_one_winner.fn_threefry2x32_part5
  rw [← random_6 V]
  rw [e_t_v113 V, e_t_v112 V, e_t_v111 V, e_t_c_28 V, e_t_v110 V, e_t_v109 V, e_t_c_27 V, e_t_v108 V, e_t_v107 V, e_t_v106 V, e_t_c_26 V, e_t_v105 V, e_t_v104 V, e_t_v103 V, e_t_v102 V, e_t_v101 V, e_t_v100 V, e_t_v99 V, e_t_v98 V, e_t_c_25 V, e_t_v97 V, e_t_v96 V, e_t_c_24 V, e_t_v95 V]

/-- The predicate's random words, from its part 4 on, are the reference's. -/
theorem random_4 : Cert.Pre_one_winner.fn_threefry2x32_part4 (F := F) (R V r_u_v5) (R V r_u_v7) (R V r_t_v1) (R V r_t_v73) (R V r_t_v74) (R V r_t_v75) = (R V r_u_v27_0, R V r_u_v27_1) := by
  unfold Cert.Pre_one_winner.fn_threefry2x32_part4
  rw [← random_5 V]
  rw [e_t_v94 V, e_t_v93 V, e_t_v92 V, e_t_v91 V, e_t_c_23 V, e_t_v90 V, e_t_v89 V, e_t_c_22 V, e_t_v88 V, e_t_v87 V, e_t_v86 V, e_t_v85 V, e_t_v84 V, e_t_c_21 V, e_t_v83 V, e_t_v82 V, e_t_c_20 V, e_t_v81 V, e_t_v80 V, e_t_v79 V, e_t_v78 V, e_t_v77 V, e_t_c_19 V, e_t_v76 V]

/-- The predicate's random words, from its part 3 on, are the reference's. -/
theorem random_3 : Cert.Pre_one_winner.fn_threefry2x32_part3 (F := F) (R V r_u_v5) (R V r_u_v7) (R V r_t_v1) (R V r_t_v53) (R V r_t_v54) (R V r_t_v56) = (R V r_u_v27_0, R V r_u_v27_1) := by
  unfold Cert.Pre_one_winner.fn_threefry2x32_part3
  rw [← random_4 V]
  rw [e_t_v75 V, e_t_c_18 V, e_t_v74 V, e_t_v73 V, e_t_v72 V, e_t_c_17 V, e_t_v71 V, e_t_v70 V, e_t_v69 V, e_t_v68 V, e_t_v67 V, e_t_v66 V, e_t_v65 V, e_t_v64 V, e_t_c_16 V, e_t_v63 V, e_t_v62 V, e_t_c_15 V, e_t_v61 V, e_t_v60 V, e_t_v59 V, e_t_v58 V, e_t_v57 V, e_t_c_14 V]

/-- The predicate's random words, from its part 2 on, are the reference's. -/
theorem random_2 : Cert.Pre_one_winner.fn_threefry2x32_part2 (F := F) (R V r_u_v5) (R V r_u_v7) (R V r_t_v1) (R V r_t_v35) (R V r_t_v37) (R V r_t_c_8) = (R V r_u_v27_0, R V r_u_v27_1) := by
  unfold Cert.Pre_one_winner.fn_threefry2x32_part2
  rw [← random_3 V]
  rw [e_t_v56 V, e_t_v55 V, e_t_c_13 V, e_t_v54 V, e_t_v53 V, e_t_v52 V, e_t_v51 V, e_t_v50 V, e_t_c_12 V, e_t_v49 V, e_t_v48 V, e_t_c_11 V, e_t_v47 V, e_t_v46 V, e_t_v45 V, e_t_v44 V, e_t_v43 V, e_t_c_10 V, e_t_v42 V, e_t_v41 V, e_t_c_9 V, e_t_v40 V, e_t_v39 V, e_t_v38 V]

/-- The predicate's random words, from its part 1 on, are the reference's. -/
theorem random_1 : Cert.Pre_one_winner.fn_threefry2x32_part1 (F := F) (R V r_u_v5) (R V r_u_v7) (R V r_t_v1) (R V r_t_v13) (R V r_t_v18) = (R V r_u_v27_0, R V r_u_v27_1) := by
  unfold Cert.Pre_one_winner.fn_threefry2x32_part1
  rw [← random_2 V]
  rw [e_t_c_8 V, e_t_v37 V, e_t_v36 V, e_t_v35 V, e_t_v34 V, e_t_v33 V, e_t_v32 V, e_t_v31 V, e_t_v30 V, e_t_c_7 V, e_t_v29 V, e_t_v28 V, e_t_c_6 V, e_t_v27 V, e_t_v26 V, e_t_v25 V, e_t_v24 V, e_t_v23 V, e_t_c_5 V, e_t_v22 V, e_t_v21 V, e_t_c_4 V, e_t_v20 V, e_t_v19 V]

/-- The predicate's random words are the reference's. -/
theorem random_0 : Cert.Pre_one_winner.fn_threefry2x32 (F := F) (R V r_u_v5) (R V r_u_v7) (R V r_u_v26) (R V r_u_v25) = (R V r_u_v27_0, R V r_u_v27_1) := by
  unfold Cert.Pre_one_winner.fn_threefry2x32
  rw [← random_1 V]
  rw [e_t_v18 V, e_t_v17 V, e_t_v16 V, e_t_c_3 V, e_t_v15 V, e_t_v14 V, e_t_c_2 V, e_t_v13 V, e_t_v12 V, e_t_v11 V, e_t_v10 V, e_t_v9 V, e_t_c_1 V, e_t_v8 V, e_t_v7 V, e_t_c_0 V, e_t_v6 V, e_t_v5 V, e_t_v4 V, e_t_v3 V, e_t_v2 V, e_t_v1 V, e_t_c V, e_t_v0 V]

theorem random_fst : R V r_u_v27_0 = (Cert.Pre_one_winner.fn_threefry2x32 (F := F) (R V r_u_v5) (R V r_u_v7) (R V r_u_v26) (R V r_u_v25)).1 :=
  (congrArg Prod.fst (random_0 V)).symm

theorem random_snd : R V r_u_v27_1 = (Cert.Pre_one_winner.fn_threefry2x32 (F := F) (R V r_u_v5) (R V r_u_v7) (R V r_u_v26) (R V r_u_v25)).2 :=
  (congrArg Prod.snd (random_0 V)).symm

/-- The predicate's uniform numbers, from its part 2 on, are the reference's. -/
theorem uniform_2 : Cert.Pre_one_winner.fn_uniform_part2 (R V r_u_v2) (R V r_u_v38) = (R V r_v13) := by
  unfold Cert.Pre_one_winner.fn_uniform_part2
  rw [e_v13 V, e_u_v41 V, e_u_v40 V, e_u_v39 V]

/-- The predicate's uniform numbers, from its part 1 on, are the reference's. -/
theorem uniform_1 : Cert.Pre_one_winner.fn_uniform_part1 (R V r_u_v2) (R V r_u_v3) (R V r_u_v5) (R V r_u_v7) (R V r_u_v13) (R V r_u_v15) (R V r_u_v17) (R V r_u_v19) = (R V r_v13) := by
  unfold Cert.Pre_one_winner.fn_uniform_part1
  rw [← uniform_2 V]
  rw [e_u_v38 V, e_u_v37 V, e_u_v36 V, e_u_v35 V, e_u_v34 V, e_u_cst V, e_u_v33 V, e_u_v32 V, e_u_v31 V, e_u_c_5 V, e_u_v30 V, e_u_v29 V, e_u_c_4 V, e_u_v28 V, random_snd V, random_fst V, e_u_v26 V, e_u_v25 V, e_u_v24 V, e_u_v23 V, e_u_c_3 V, e_u_v22 V, e_u_v21 V, e_u_v20 V]

/-- The predicate's uniform numbers are the reference's. -/
theorem uniform_0 : Cert.Pre_one_winner.fn_uniform (R V r_v12) (R V r_cst_3) (R V r_cst_4) = (R V r_v13) := by
  unfold Cert.Pre_one_winner.fn_uniform
  rw [← uniform_1 V]
  rw [e_u_v19 V, e_u_v18 V, e_u_c_2 V, e_u_v17 V, e_u_v16 V, e_u_c_1 V, e_u_v15 V, e_u_v14 V, e_u_c_0 V, e_u_v13 V, e_u_v12 V, e_u_c V, e_u_v11 V, e_u_v10 V, e_u_v9 V, e_u_v8 V, e_u_v7 V, e_u_v6 V, e_u_v5 V, e_u_v4 V, e_u_v3 V, e_u_v2 V, e_u_v1 V, e_u_v0 V]

/-- The rest of the predicate's text reads the reference's scores. -/
theorem scores_1 (a : IVec Cert.Pre_one_winner.S_ 1) : Cert.Pre_one_winner.fn_part1 a (R V r_v5) (R V r_c) (R V r_v8) (R V r_c_2)
    = Cert.Pre_one_winner.fn_part2 (F := F) a (R V r_v26) (constant Cert.Pre_one_winner.S_ .f32 0xFF800000#32) := by
  unfold Cert.Pre_one_winner.fn_part1
  rw [e_v26 V, e_v25 V, e_v24 V, e_v23 V, e_v22 V, e_v21 V, e_v20 V, e_v19 V, e_v18 V, e_cst_7 V, e_v17 V, e_v16 V, e_cst_6 V, e_v15 V, e_v14 V, e_cst_5 V, ← uniform_0 V, e_cst_4 V, e_cst_3 V, e_v12 V, e_v11 V, e_v10 V, e_v9 V]

/-- The predicate reads the argument's range and the reference's scores. -/
theorem scores_0 : Cert.Pre_one_winner.fn (F := F) (R V r_arg0)
    = Cert.Pre_one_winner.fn_part2 (F := F) (range (R V r_arg0)) (R V r_v26) (constant Cert.Pre_one_winner.S_ .f32 0xFF800000#32) := by
  rw [← scores_1 V]
  unfold Cert.Pre_one_winner.fn
  simp only [rows_eq.1, rows_eq.2]
  rw [e_c_2 V, e_v8 V, e_v7 V, e_v6 V, e_c_1 V, e_c V, e_v5 V, e_v4 V, e_v3 V, e_v2 V, e_v1 V, e_v0 V, e_cst_0 V, e_cst V]
  rfl

end Cert.PreScores

end
-- ==== Proof.Words.lean ====
/-
  THE NOISE WORDS: the threefry-2x32 hash under the key (0, 1234), as a function of words. Both programs compute
  it lane by lane; the modules that read them say so by equations with `draw` below.
-/
module

public import Idealize.ShloMosaic.PureOps

@[expose] public section

namespace Cert.Words

/-- One round: the first word takes the sum, the second is rotated left by `a` (`b` is 32 - `a`) and takes the
    exclusive or with the sum. -/
def mix (a b : BitVec 32) (p : BitVec 32 × BitVec 32) : BitVec 32 × BitVec 32 :=
  (p.1 + p.2, (p.1 + p.2) ^^^ (p.2 <<< a ||| p.2 >>> b))

/-- The four rounds of the even groups: rotations by 13, 15, 26 and 6. -/
def four (p : BitVec 32 × BitVec 32) : BitVec 32 × BitVec 32 :=
  mix 6#32 26#32 (mix 26#32 6#32 (mix 15#32 17#32 (mix 13#32 19#32 p)))

/-- The four rounds of the odd groups: rotations by 17, 29, 16 and 24. -/
def four' (p : BitVec 32 × BitVec 32) : BitVec 32 × BitVec 32 :=
  mix 24#32 8#32 (mix 16#32 16#32 (mix 29#32 3#32 (mix 17#32 15#32 p)))

/-- A pair of key words added to the state. -/
def key (k l : BitVec 32) (p : BitVec 32 × BitVec 32) : BitVec 32 × BitVec 32 := (p.1 + k, p.2 + l)

/-- The state after all twenty rounds, from the state `p` that already holds the counter plus the key (0, 1234);
    the third key word is 466689800. -/
def rounds (p : BitVec 32 × BitVec 32) : BitVec 32 × BitVec 32 :=
  key 466689800#32 5#32 (four (key 1234#32 466689804#32 (four' (key 0#32 1237#32 (four
    (key 466689800#32 2#32 (four' (key 1234#32 466689801#32 (four p)))))))))

/-- The random word of the counter `x - 1234`: the two words of the final state, combined by exclusive or. -/
def draw (x : BitVec 32) : BitVec 32 := (rounds (0#32, x)).1 ^^^ (rounds (0#32, x)).2

/-- The counter of sample `n`, row `l`, class `c`, plus the key word 1234. -/
def counter (n l c : Nat) : BitVec 32 := BitVec.ofNat 32 (n * 65536 + l * 8 + c + 1234)

/-- The random word of sample `n`, row `l`, class `c`. -/
def word (n l c : Nat) : BitVec 32 := draw (counter n l c)

end Cert.Words
-- ==== Proof.RefWords.lean ====
/-
  THE REFERENCE'S RANDOM WORDS: its threefry hash read lane by lane, one round at a time, from the equations of its
  line; at sample `n`, row `l`, class `c` it is `Cert.Words.word n l c`.
-/
module

public import proofs.«01_k».proof.Proof.RefEqs
public import proofs.«01_k».proof.Proof.Words
public import Idealize.ShloMosaic.Lib.Pointwise

@[expose] public section

set_option maxRecDepth 16384

noncomputable section

namespace Cert.ReferenceIdeal.Run

open Cert.ReferenceIdeal Cert.ReferenceIdeal.Gen Cert.Line Cert.Words
open Idealize.ShloMosaic Idealize.ShloMosaic.TcCoe Idealize.SL.Sem Idealize.ShloMosaic.StableHlo

variable {F : FTy → Type} [FloatOps F] (V : Valuation τ sig (Elt F))

/-- The first key word is 0: the seed 1234 has nothing above its low 32 bits. -/
theorem k0 : R V r_u_v5 = fun _ => 0#32 := by
  rw [e_u_v5, e_u_v4, e_v12, e_v8, e_v7, e_v6, e_c, e_c_1]
  funext i
  simp only [shapeCast]
  pointwise
  rfl

/-- The second key word is the seed, 1234. -/
theorem k1 : R V r_u_v7 = fun _ => 1234#32 := by
  rw [e_u_v7, e_u_v6, e_v12, e_v11, e_v10, e_v9, e_c, e_c_2]
  funext i
  simp only [shapeCast]
  pointwise
  rfl

/-- The third key word, the exclusive or of the other two with threefry's constant. -/
theorem k2 : R V r_t_v1 = fun _ => 466689800#32 := by
  rw [e_t_v1, e_t_c, e_t_v0, k0, k1]
  funext i
  show 0#32 ^^^ 1234#32 ^^^ 466688986#32 = 466689800#32
  decide

theorem step_1 (j : S64x1x8192x8.Idx) : (R V r_t_v6 j, R V r_t_v12 j) = mix 13#32 19#32 (R V r_t_v3 j, R V r_t_v5 j) := by
  rw [e_t_v12, e_t_v11, e_t_v8, e_t_v7, e_t_c_0, e_t_v10, e_t_v9, e_t_c_1, e_t_v6]; rfl

theorem step_2 (j : S64x1x8192x8.Idx) : (R V r_t_v13 j, R V r_t_v19 j) = mix 15#32 17#32 (R V r_t_v6 j, R V r_t_v12 j) := by
  rw [e_t_v19, e_t_v18, e_t_v15, e_t_v14, e_t_c_2, e_t_v17, e_t_v16, e_t_c_3, e_t_v13]; rfl

theorem step_3 (j : S64x1x8192x8.Idx) : (R V r_t_v20 j, R V r_t_v26 j) = mix 26#32 6#32 (R V r_t_v13 j, R V r_t_v19 j) := by
  rw [e_t_v26, e_t_v25, e_t_v22, e_t_v21, e_t_c_4, e_t_v24, e_t_v23, e_t_c_5, e_t_v20]; rfl

theorem step_4 (j : S64x1x8192x8.Idx) : (R V r_t_v27 j, R V r_t_v33 j) = mix 6#32 26#32 (R V r_t_v20 j, R V r_t_v26 j) := by
  rw [e_t_v33, e_t_v32, e_t_v29, e_t_v28, e_t_c_6, e_t_v31, e_t_v30, e_t_c_7, e_t_v27]; rfl

theorem step_5 (j : S64x1x8192x8.Idx) : (R V r_t_v35 j, R V r_t_v39 j) = key 1234#32 466689801#32 (R V r_t_v27 j, R V r_t_v33 j) := by
  rw [e_t_v39, e_t_v38, e_t_c_8, e_t_v37, e_t_v36, k2, e_t_v35, e_t_v34, k1]
  show (_ + 1234#32, _ + 466689800#32 + 1#32) = _
  rw [BitVec.add_assoc]; rfl

theorem step_6 (j : S64x1x8192x8.Idx) : (R V r_t_v40 j, R V r_t_v46 j) = mix 17#32 15#32 (R V r_t_v35 j, R V r_t_v39 j) := by
  rw [e_t_v46, e_t_v45, e_t_v42, e_t_v41, e_t_c_9, e_t_v44, e_t_v43, e_t_c_10, e_t_v40]; rfl

theorem step_7 (j : S64x1x8192x8.Idx) : (R V r_t_v47 j, R V r_t_v53 j) = mix 29#32 3#32 (R V r_t_v40 j, R V r_t_v46 j) := by
  rw [e_t_v53, e_t_v52, e_t_v49, e_t_v48, e_t_c_11, e_t_v51, e_t_v50, e_t_c_12, e_t_v47]; rfl

theorem step_8 (j : S64x1x8192x8.Idx) : (R V r_t_v54 j, R V r_t_v60 j) = mix 16#32 16#32 (R V r_t_v47 j, R V r_t_v53 j) := by
  rw [e_t_v60, e_t_v59, e_t_v56, e_t_v55, e_t_c_13, e_t_v58, e_t_v57, e_t_c_14, e_t_v54]; rfl

theorem step_9 (j : S64x1x8192x8.Idx) : (R V r_t_v61 j, R V r_t_v67 j) = mix 24#32 8#32 (R V r_t_v54 j, R V r_t_v60 j) := by
  rw [e_t_v67, e_t_v66, e_t_v63, e_t_v62, e_t_c_15, e_t_v65, e_t_v64, e_t_c_16, e_t_v61]; rfl

theorem step_10 (j : S64x1x8192x8.Idx) : (R V r_t_v69 j, R V r_t_v73 j) = key 466689800#32 2#32 (R V r_t_v61 j, R V r_t_v67 j) := by
  rw [e_t_v73, e_t_v72, e_t_c_17, e_t_v71, e_t_v70, k0, e_t_v69, e_t_v68, k2]
  show (_ + 466689800#32, _ + 0#32 + 2#32) = _
  rw [BitVec.add_assoc]; rfl

theorem step_11 (j : S64x1x8192x8.Idx) : (R V r_t_v74 j, R V r_t_v80 j) = mix 13#32 19#32 (R V r_t_v69 j, R V r_t_v73 j) := by
  rw [e_t_v80, e_t_v79, e_t_v76, e_t_v75, e_t_c_18, e_t_v78, e_t_v77, e_t_c_19, e_t_v74]; rfl

theorem step_12 (j : S64x1x8192x8.Idx) : (R V r_t_v81 j, R V r_t_v87 j) = mix 15#32 17#32 (R V r_t_v74 j, R V r_t_v80 j) := by
  rw [e_t_v87, e_t_v86, e_t_v83, e_t_v82, e_t_c_20, e_t_v85, e_t_v84, e_t_c_21, e_t_v81]; rfl

theorem step_13 (j : S64x1x8192x8.Idx) : (R V r_t_v88 j, R V r_t_v94 j) = mix 26#32 6#32 (R V r_t_v81 j, R V r_t_v87 j) := by
  rw [e_t_v94, e_t_v93, e_t_v90, e_t_v89, e_t_c_22, e_t_v92, e_t_v91, e_t_c_23, e_t_v88]; rfl

theorem step_14 (j : S64x1x8192x8.Idx) : (R V r_t_v95 j, R V r_t_v101 j) = mix 6#32 26#32 (R V r_t_v88 j, R V r_t_v94 j) := by
  rw [e_t_v101, e_t_v100, e_t_v97, e_t_v96, e_t_c_24, e_t_v99, e_t_v98, e_t_c_25, e_t_v95]; rfl

theorem step_15 (j : S64x1x8192x8.Idx) : (R V r_t_v103 j, R V r_t_v107 j) = key 0#32 1237#32 (R V r_t_v95 j, R V r_t_v101 j) := by
  rw [e_t_v107, e_t_v106, e_t_c_26, e_t_v105, e_t_v104, k1, e_t_v103, e_t_v102, k0]
  show (_ + 0#32, _ + 1234#32 + 3#32) = _
  rw [BitVec.add_assoc]; rfl

theorem step_16 (j : S64x1x8192x8.Idx) : (R V r_t_v108 j, R V r_t_v114 j) = mix 17#32 15#32 (R V r_t_v103 j, R V r_t_v107 j) := by
  rw [e_t_v114, e_t_v113, e_t_v110, e_t_v109, e_t_c_27, e_t_v112, e_t_v111, e_t_c_28, e_t_v108]; rfl

theorem step_17 (j : S64x1x8192x8.Idx) : (R V r_t_v115 j, R V r_t_v121 j) = mix 29#32 3#32 (R V r_t_v108 j, R V r_t_v114 j) := by
  rw [e_t_v121, e_t_v120, e_t_v117, e_t_v116, e_t_c_29, e_t_v119, e_t_v118, e_t_c_30, e_t_v115]; rfl

theorem step_18 (j : S64x1x8192x8.Idx) : (R V r_t_v122 j, R V r_t_v128 j) = mix 16#32 16#32 (R V r_t_v115 j, R V r_t_v121 j) := by
  rw [e_t_v128, e_t_v127, e_t_v124, e_t_v123, e_t_c_31, e_t_v126, e_t_v125, e_t_c_32, e_t_v122]; rfl

theorem step_19 (j : S64x1x8192x8.Idx) : (R V r_t_v129 j, R V r_t_v135 j) = mix 24#32 8#32 (R V r_t_v122 j, R V r_t_v128 j) := by
  rw [e_t_v135, e_t_v134, e_t_v131, e_t_v130, e_t_c_33, e_t_v133, e_t_v132, e_t_c_34, e_t_v129]; rfl

theorem step_20 (j : S64x1x8192x8.Idx) : (R V r_t_v137 j, R V r_t_v141 j) = key 1234#32 466689804#32 (R V r_t_v129 j, R V r_t_v135 j) := by
  rw [e_t_v141, e_t_v140, e_t_c_35, e_t_v139, e_t_v138, k2, e_t_v137, e_t_v136, k1]
  show (_ + 1234#32, _ + 466689800#32 + 4#32) = _
  rw [BitVec.add_assoc]; rfl

theorem step_21 (j : S64x1x8192x8.Idx) : (R V r_t_v142 j, R V r_t_v148 j) = mix 13#32 19#32 (R V r_t_v137 j, R V r_t_v141 j) := by
  rw [e_t_v148, e_t_v147, e_t_v144, e_t_v143, e_t_c_36, e_t_v146, e_t_v145, e_t_c_37, e_t_v142]; rfl

theorem step_22 (j : S64x1x8192x8.Idx) : (R V r_t_v149 j, R V r_t_v155 j) = mix 15#32 17#32 (R V r_t_v142 j, R V r_t_v148 j) := by
  rw [e_t_v155, e_t_v154, e_t_v151, e_t_v150, e_t_c_38, e_t_v153, e_t_v152, e_t_c_39, e_t_v149]; rfl

theorem step_23 (j : S64x1x8192x8.Idx) : (R V r_t_v156 j, R V r_t_v162 j) = mix 26#32 6#32 (R V r_t_v149 j, R V r_t_v155 j) := by
  rw [e_t_v162, e_t_v161, e_t_v158, e_t_v157, e_t_c_40, e_t_v160, e_t_v159, e_t_c_41, e_t_v156]; rfl

theorem step_24 (j : S64x1x8192x8.Idx) : (R V r_t_v163 j, R V r_t_v169 j) = mix 6#32 26#32 (R V r_t_v156 j, R V r_t_v162 j) := by
  rw [e_t_v169, e_t_v168, e_t_v165, e_t_v164, e_t_c_42, e_t_v167, e_t_v166, e_t_c_43, e_t_v163]; rfl

theorem step_25 (j : S64x1x8192x8.Idx) : (R V r_u_v27_0 j, R V r_u_v27_1 j) = key 466689800#32 5#32 (R V r_t_v163 j, R V r_t_v169 j) := by
  rw [e_u_v27_1, e_t_v174, e_t_c_44, e_t_v173, e_t_v172, k0, e_u_v27_0, e_t_v170, k2]
  show (_ + 466689800#32, _ + 0#32 + 5#32) = _
  rw [BitVec.add_assoc]; rfl

/-- All twenty rounds. -/
theorem rounds_eq (j : S64x1x8192x8.Idx) : (R V r_u_v27_0 j, R V r_u_v27_1 j) = rounds (R V r_t_v3 j, R V r_t_v5 j) := by
  rw [step_25 V j, step_24 V j, step_23 V j, step_22 V j, step_21 V j, step_20 V j, step_19 V j, step_18 V j, step_17 V j, step_16 V j, step_15 V j, step_14 V j, step_13 V j, step_12 V j, step_11 V j, step_10 V j, step_9 V j, step_8 V j, step_7 V j, step_6 V j, step_5 V j, step_4 V j, step_3 V j, step_2 V j, step_1 V j]; rfl

/-- The 64-bit counter of an element: its row-major position. -/
theorem count_eq (j : S64x1x8192x8.Idx) :
    R V r_u_v22 j = BitVec.ofNat 64 ((j 0).val * 65536 + (j 2).val * 8 + (j 3).val) := by
  have h1 : (j 1).val = 0 := by have : (j 1).val < 1 := (j 1).isLt; omega
  rw [e_u_v22, e_u_v21, e_u_v20, e_u_v13, e_u_v12, e_u_c, e_u_v8, e_u_v15, e_u_v14, e_u_c_0, e_u_v9, e_u_v17, e_u_v16,
    e_u_c_1, e_u_v10, e_u_v19, e_u_v18, e_u_c_2, e_u_v11]
  show 65536#64 * BitVec.ofNat 64 (j 0).val + 65536#64 * BitVec.ofNat 64 (j 1).val + 8#64 * BitVec.ofNat 64 (j 2).val
    + 1#64 * BitVec.ofNat 64 (j 3).val = _
  rw [h1]
  simp only [← BitVec.ofNat_mul, ← BitVec.ofNat_add]
  congr 1; omega

/-- The element's number fits in 22 bits. -/
theorem count_lt (j : S64x1x8192x8.Idx) : (j 0).val * 65536 + (j 2).val * 8 + (j 3).val < 2 ^ 22 := by
  have h0 : (j 0).val < 64 := (j 0).isLt
  have h2 : (j 2).val < 8192 := (j 2).isLt
  have h3 : (j 3).val < 8 := (j 3).isLt
  omega

/-- The high half of the counter is 0. -/
theorem hi_eq (j : S64x1x8192x8.Idx) : R V r_u_v26 j = 0#32 := by
  rw [e_u_v26, e_u_v24, e_u_v23, e_u_c_3]
  show BitVec.setWidth 32 (R V r_u_v22 j >>> 32#64) = 0#32
  rw [count_eq]
  have := count_lt j
  generalize (j 0).val * 65536 + (j 2).val * 8 + (j 3).val = m at this
  apply BitVec.eq_of_toNat_eq
  have hs : (BitVec.ofNat 64 m >>> 32#64).toNat = 0 := by
    rw [BitVec.ushiftRight_eq', BitVec.toNat_ushiftRight, Nat.shiftRight_eq_div_pow, BitVec.toNat_ofNat]
    exact Nat.div_eq_of_lt (lt_of_le_of_lt (Nat.mod_le _ _) (lt_trans this (by decide)))
  rw [BitVec.toNat_setWidth, hs]; rfl

/-- The low half of the counter is the element's number. -/
theorem lo_eq (j : S64x1x8192x8.Idx) :
    R V r_u_v25 j = BitVec.ofNat 32 ((j 0).val * 65536 + (j 2).val * 8 + (j 3).val) := by
  rw [e_u_v25]
  show BitVec.setWidth 32 (R V r_u_v22 j) = _
  rw [count_eq]
  apply BitVec.eq_of_toNat_eq
  have := count_lt j
  simp only [BitVec.toNat_setWidth, BitVec.toNat_ofNat]
  omega

/-- The random word of an element. -/
theorem word_eq (j : S64x1x8192x8.Idx) : R V r_u_v28 j = word (j 0).val (j 2).val (j 3).val := by
  have hx : R V r_t_v3 j = 0#32 := by
    rw [e_t_v3, e_t_v2, k0]
    show R V r_u_v26 j + 0#32 = 0#32
    rw [hi_eq]; rfl
  have hy : R V r_t_v5 j = counter (j 0).val (j 2).val (j 3).val := by
    rw [e_t_v5, e_t_v4, k1]
    show R V r_u_v25 j + 1234#32 = _
    rw [lo_eq]
    exact (BitVec.ofNat_add _ _).symm
  have h := rounds_eq V j
  rw [hx, hy] at h
  rw [e_u_v28]
  show R V r_u_v27_0 j ^^^ R V r_u_v27_1 j = _
  rw [word, draw, ← h]

end Cert.ReferenceIdeal.Run

end
-- ==== Proof.Real.lean ====
/-
  THE REAL NUMBERS BEHIND A DRAWN WORD. A 32-bit word gives a fraction of [0, 1), a step of 2⁻¹²⁶ keeps it off zero,
  and its Gumbel noise is `-log (-log u)`. The noise is between -125 and 24, which is what keeps a masked class (score at
  most 24 - 10000) below every live one. The kernel works with `log u * exp (-x)`, an increasing function of the score.
-/
module

public import Idealize.ShloMosaic.Lib.Pointwise
public import Idealize.ShloMosaic.PureOps.Ideal.Laws

@[expose] public section

set_option maxRecDepth 16384

noncomputable section

namespace Cert.Noise

open Idealize.ShloMosaic

/-- A word's upper 23 bits, as a number. -/
def step (w : BitVec 32) : ℕ := w.toNat / 512

/-- The fraction a word stands for: its upper 23 bits over 2²³. -/
def frac (w : BitVec 32) : ℝ := (step w : ℝ) * (2 : ℝ) ^ (-23 : ℤ)

/-- The uniform number: the fraction plus the smallest normal. -/
def uni (w : BitVec 32) : ℝ := frac w + (2 : ℝ) ^ (-126 : ℤ)

/-- The Gumbel noise of a word. -/
def noise (w : BitVec 32) : ℝ := -Real.log (-Real.log (uni w))

theorem step_lt (w : BitVec 32) : step w < 8388608 := by
  have := w.isLt
  unfold step
  omega

theorem frac_nonneg (w : BitVec 32) : 0 ≤ frac w := by unfold frac; positivity

theorem frac_le (w : BitVec 32) : frac w ≤ 1 - (2 : ℝ) ^ (-23 : ℤ) := by
  have h : step w + 1 ≤ 8388608 := step_lt w
  have h' : ((step w + 1 : ℕ) : ℝ) ≤ ((8388608 : ℕ) : ℝ) := Nat.cast_le.2 h
  push_cast at h'
  unfold frac
  norm_num
  linarith

theorem uni_pos (w : BitVec 32) : 0 < uni w := by
  have := frac_nonneg w
  unfold uni
  positivity

theorem uni_le (w : BitVec 32) : uni w ≤ 1 - (2 : ℝ) ^ (-24 : ℤ) := by
  have := frac_le w
  unfold uni
  norm_num at this ⊢
  linarith

theorem uni_lt_one (w : BitVec 32) : uni w < 1 := by
  have := uni_le w
  norm_num at this
  linarith

theorem neglog_pos (w : BitVec 32) : 0 < -Real.log (uni w) := by
  have := Real.log_neg (uni_pos w) (uni_lt_one w)
  linarith

theorem noise_le (w : BitVec 32) : noise w ≤ 24 := by
  have h1 : Real.log (uni w) ≤ uni w - 1 := Real.log_le_sub_one_of_pos (uni_pos w)
  have h2 := uni_le w
  have h3 : (2 : ℝ) ^ (-24 : ℤ) ≤ -Real.log (uni w) := by linarith
  have h4 : Real.log ((2 : ℝ) ^ (-24 : ℤ)) ≤ Real.log (-Real.log (uni w)) := Real.log_le_log (by positivity) h3
  rw [Real.log_zpow] at h4
  have h5 : Real.log 2 ≤ 2 - 1 := Real.log_le_sub_one_of_pos (by norm_num)
  unfold noise
  push_cast at h4
  linarith

theorem le_noise (w : BitVec 32) : -125 ≤ noise w := by
  have h1 : (2 : ℝ) ^ (-126 : ℤ) ≤ uni w := by
    have := frac_nonneg w
    unfold uni
    linarith
  have h2 : Real.log ((2 : ℝ) ^ (-126 : ℤ)) ≤ Real.log (uni w) := Real.log_le_log (by positivity) h1
  rw [Real.log_zpow] at h2
  have h5 : Real.log 2 ≤ 2 - 1 := Real.log_le_sub_one_of_pos (by norm_num)
  push_cast at h2
  have h3 := Real.log_le_sub_one_of_pos (neglog_pos w)
  unfold noise
  linarith

/-- The word with the exponent of one in front, as a number. -/
theorem or_toNat (w : BitVec 32) : (w >>> 9#32 ||| 1065353216#32).toNat = 2 ^ 23 * 127 + step w := by
  have h := step_lt w
  have e : (w >>> 9#32).toNat = step w := by
    unfold step
    simp [Nat.shiftRight_eq_div_pow]
  rw [BitVec.toNat_or, e, Nat.or_comm]
  exact (Nat.two_pow_add_eq_or_of_lt (i := 23) (b := step w) h 127).symm

/-- The word with the exponent of one in front denotes one plus the fraction. -/
theorem unit_eq (w : BitVec 32) :
    (FloatOps.ofBits .f32 (w >>> 9#32 ||| 1065353216#32) : Ideal .f32) = ((1 + frac w : ℝ) : EReal) := by
  have hs := step_lt w
  have hv := or_toNat w
  generalize w >>> 9#32 ||| 1065353216#32 = v at hv
  have hn : v.extractLsb' (8 + 23) 1 = 0#1 := by
    apply BitVec.eq_of_toNat_eq
    rw [BitVec.extractLsb'_toNat, Nat.shiftRight_eq_div_pow, hv]
    simp
    omega
  have hx : (v.extractLsb' 23 8).toNat = 127 := by
    rw [BitVec.extractLsb'_toNat, Nat.shiftRight_eq_div_pow, hv]
    omega
  have hf : (v.extractLsb' 0 23).toNat = step w := by
    rw [BitVec.extractLsb'_toNat, Nat.shiftRight_eq_div_pow, hv]
    omega
  show Ideal.ieee 8 23 v = _
  unfold Ideal.ieee
  rw [hn, hx, hf]
  rw [if_neg (by decide), if_neg (by decide)]
  refine congrArg _ ?_
  have hb : (0#1 == 1#1) = false := rfl
  rw [hb]
  unfold frac
  push_cast
  norm_num
  ring

/-- A pattern with sign, exponent and fraction fields read off. -/
theorem ieee_normal (v : BitVec 32) (n : Bool) (ex fr : ℕ) (hn : (v.extractLsb' (8 + 23) 1 == 1#1) = n)
    (hx : (v.extractLsb' 23 8).toNat = ex) (hf : (v.extractLsb' 0 23).toNat = fr) (h1 : ex ≠ 255) (h0 : ex ≠ 0) :
    Ideal.ieee 8 23 v = (((if n then -1 else 1) * (2 ^ 23 + fr : ℕ) * (2 : ℝ) ^ ((ex : ℤ) - (2 ^ (8 - 1) - 1) - 23) : ℝ) : EReal) := by
  unfold Ideal.ieee
  rw [hn, hx, hf]
  have h1' : ex ≠ 2 ^ 8 - 1 := h1
  simp only [if_neg h1', if_neg h0]
  push_cast
  rfl

/-- The smallest normal number. -/
theorem tiny_eq : (FloatOps.ofBits .f32 0x00800000#32 : Ideal .f32) = (((2 : ℝ) ^ (-126 : ℤ) : ℝ) : EReal) := by
  show Ideal.ieee 8 23 0x00800000#32 = _
  rw [ieee_normal 0x00800000#32 false 1 0 (by decide) (by decide) (by decide) (by decide) (by decide)]
  refine congrArg _ ?_
  norm_num

/-- One. -/
theorem one_eq : (FloatOps.ofBits .f32 0x3F800000#32 : Ideal .f32) = ((1 : ℝ) : EReal) := by
  show Ideal.ieee 8 23 0x3F800000#32 = _
  rw [ieee_normal 0x3F800000#32 false 127 0 (by decide) (by decide) (by decide) (by decide) (by decide)]
  refine congrArg _ ?_
  norm_num

/-- The number that masks a class. -/
theorem mask_eq : (FloatOps.ofBits .f32 0xC61C4000#32 : Ideal .f32) = ((-10000 : ℝ) : EReal) := by
  show Ideal.ieee 8 23 0xC61C4000#32 = _
  rw [ieee_normal 0xC61C4000#32 true 140 1851392 (by decide) (by decide) (by decide) (by decide) (by decide)]
  refine congrArg _ ?_
  norm_num

/-- The least live logit allowed. -/
theorem low_eq : (FloatOps.ofBits .f32 0xC60CA000#32 : Ideal .f32) = ((-9000 : ℝ) : EReal) := by
  show Ideal.ieee 8 23 0xC60CA000#32 = _
  rw [ieee_normal 0xC60CA000#32 true 140 827392 (by decide) (by decide) (by decide) (by decide) (by decide)]
  refine congrArg _ ?_
  norm_num

/-- Zero. -/
theorem zero_eq : (FloatOps.ofBits .f32 0x00000000#32 : Ideal .f32) = ((0 : ℝ) : EReal) := by
  show Ideal.ieee 8 23 0x00000000#32 = _
  unfold Ideal.ieee
  norm_num

/-- The infinity. -/
theorem inf_eq : (FloatOps.ofBits .f32 0x7F800000#32 : Ideal .f32) = (⊤ : EReal) := by
  show Ideal.ieee 8 23 0x7F800000#32 = _
  unfold Ideal.ieee
  rw [if_pos (by decide), if_pos (by decide)]
  exact if_neg (by decide)

/-- The negative infinity. -/
theorem neginf_eq : (FloatOps.ofBits .f32 0xFF800000#32 : Ideal .f32) = (⊥ : EReal) := by
  show Ideal.ieee 8 23 0xFF800000#32 = _
  unfold Ideal.ieee
  rw [if_pos (by decide), if_pos (by decide)]
  exact if_pos (by decide)

/-- The logarithm of a uniform number. -/
theorem log_uni (w : BitVec 32) : Ideal.log ((uni w : ℝ) : EReal) = ((Real.log (uni w) : ℝ) : EReal) := by
  rw [Ideal.log_coe, if_neg (not_le.2 (uni_pos w))]

/-- The noise as the program computes it, twice a logarithm and twice a sign. -/
theorem noise_eq (w : BitVec 32) : -Ideal.log (-Ideal.log ((uni w : ℝ) : EReal)) = ((noise w : ℝ) : EReal) := by
  rw [log_uni, ← EReal.coe_neg, Ideal.log_coe, if_neg (not_le.2 (neglog_pos w)), ← EReal.coe_neg]
  rfl

/-- The kernel's number for a word and a logit: `log u * exp (0 - x)`, which is `-exp (-(noise + x))`. -/
theorem kernel_eq (w : BitVec 32) (x : ℝ) :
    ((Real.log (uni w) * Real.exp (0 - x) : ℝ)) = -Real.exp (-(noise w + x)) := by
  have h := neglog_pos w
  have e : -(noise w + x) = Real.log (-Real.log (uni w)) + (0 - x) := by unfold noise; ring
  rw [e, Real.exp_add, Real.exp_log h]
  ring

/-- The kernel's numbers are ordered as the scores are. -/
theorem kernel_lt {a b : ℝ} (h : a < b) : -Real.exp (-a) < -Real.exp (-b) := by
  have : Real.exp (-b) < Real.exp (-a) := Real.exp_lt_exp.2 (by linarith)
  linarith

end Cert.Noise

end
-- ==== Proof.RefScore.lean ====
/-
  THE REFERENCE'S SCORES over the extended reals: the Gumbel noise of a random word plus the masked logit.
-/
module

public import proofs.«01_k».proof.Proof.RefWords
public import proofs.«01_k».proof.Proof.Real

@[expose] public section

set_option maxRecDepth 16384

noncomputable section

namespace Cert.ReferenceIdeal.Run

open Cert.ReferenceIdeal Cert.ReferenceIdeal.Gen Cert.Line Cert.Words Cert.Noise
open Idealize.ShloMosaic Idealize.ShloMosaic.TcCoe Idealize.SL.Sem Idealize.ShloMosaic.StableHlo

/-- The reference's words made numbers between zero and one, the operations together. -/
def numbers (w : IVec S64x1x8192x8 32) : FVec Ideal S64x1x8192x8 .f32 :=
  maximumf (broadcastInDim S64x1x8192x8 ![] bcast_S_S64x1x8192x8 (constant S_ .f32 0x00800000#32))
    (addf (mulf (maximumf (broadcastInDim S64x1x8192x8 ![0, 1, 2, 3] bcast_S1x1x1x1_S64x1x8192x8_0_1_2_3 (broadcastInDim S1x1x1x1 ![] bcast_S_S1x1x1x1 (constant S_ .f32 0x00000000#32)))
        (addf (mulf (subf (bitcastToFloat (F := Ideal) .f32 (ori (Host.shrui w (broadcastInDim S64x1x8192x8 ![] bcast_S_S64x1x8192x8 (constantI S_ 32 9#32)))
              (broadcastInDim S64x1x8192x8 ![] bcast_S_S64x1x8192x8 (constantI S_ 32 1065353216#32))))
            (broadcastInDim S64x1x8192x8 ![] bcast_S_S64x1x8192x8 (constant S_ .f32 0x3F800000#32)))
          (broadcastInDim S64x1x8192x8 ![0, 1, 2, 3] bcast_S1x1x1x1_S64x1x8192x8_0_1_2_3
            (subf (broadcastInDim S1x1x1x1 ![] bcast_S_S1x1x1x1 (constant S_ .f32 0x3F800000#32)) (broadcastInDim S1x1x1x1 ![] bcast_S_S1x1x1x1 (constant S_ .f32 0x00000000#32)))))
          (broadcastInDim S64x1x8192x8 ![0, 1, 2, 3] bcast_S1x1x1x1_S64x1x8192x8_0_1_2_3 (broadcastInDim S1x1x1x1 ![] bcast_S_S1x1x1x1 (constant S_ .f32 0x00000000#32)))))
      (broadcastInDim S64x1x8192x8 ![] bcast_S_S64x1x8192x8 (constant S_ .f32 0x3F800000#32)))
    (broadcastInDim S64x1x8192x8 ![] bcast_S_S64x1x8192x8 (constant S_ .f32 0x00800000#32)))

/-- They are one number for each word. -/
theorem numbers_apply (w : IVec S64x1x8192x8 32) (j : S64x1x8192x8.Idx) : (numbers w j : EReal)
    = max (FloatOps.ofBits .f32 0x00800000#32 : Ideal .f32) (max (FloatOps.ofBits .f32 0x00000000#32 : Ideal .f32)
      (((FloatOps.ofBits .f32 (w j >>> 9#32 ||| 1065353216#32) : Ideal .f32) - (FloatOps.ofBits .f32 0x3F800000#32 : Ideal .f32))
        * ((FloatOps.ofBits .f32 0x3F800000#32 : Ideal .f32) - (FloatOps.ofBits .f32 0x00000000#32 : Ideal .f32)) + (FloatOps.ofBits .f32 0x00000000#32 : Ideal .f32))
      * (FloatOps.ofBits .f32 0x3F800000#32 : Ideal .f32) + (FloatOps.ofBits .f32 0x00800000#32 : Ideal .f32)) := rfl

/-- That number is exactly `uni` of the word. -/
theorem numbers_eq (w : IVec S64x1x8192x8 32) (j : S64x1x8192x8.Idx) : (numbers w j : EReal) = ((uni (w j) : ℝ) : EReal) := by
  rw [numbers_apply, unit_eq, one_eq, zero_eq, tiny_eq]
  have h0 := frac_nonneg (w j)
  have h1 : (1 + frac (w j) - 1) * (1 - 0) + 0 = frac (w j) := by ring
  have h2 : (2 : ℝ) ^ (-126 : ℤ) ≤ frac (w j) + (2 : ℝ) ^ (-126 : ℤ) := by linarith
  simp only [← EReal.coe_sub, ← EReal.coe_mul, ← EReal.coe_add]
  rw [h1, max_eq_right (EReal.coe_le_coe_iff.2 h0), ← EReal.coe_mul, mul_one, ← EReal.coe_add, max_eq_right (EReal.coe_le_coe_iff.2 h2)]
  rfl

/-- The noise of numbers between zero and one. -/
theorem gumbel_apply {s : Shape} (x : FVec Ideal s .f32) (j : s.Idx) :
    (Host.negf (Host.log (Host.negf (Host.log x))) j : EReal) = -Ideal.log (-Ideal.log (x j)) := rfl

variable (V : Valuation τ sig (Elt Ideal))

theorem v19_eq : R V r_v19 = numbers (R V r_u_v28) := by
  rw [e_v19, e_v18, e_cst_7, e_v17, e_v16, e_cst_6, e_v15, e_v14, e_cst_5, e_v13, e_u_v41, e_u_v40, e_u_v39, e_u_v38,
    e_u_v37, e_u_v36, e_u_v35, e_u_v34, e_u_cst, e_u_v33, e_u_v32, e_u_v31, e_u_c_5, e_u_v30, e_u_v29, e_u_c_4, e_u_v3, e_u_v2,
    e_u_v1, e_u_v0, e_cst_3, e_cst_4]
  rfl

/-- The noise of a draw. -/
theorem v23_eq (n : Fin 64) (z : Fin 1) (l : Fin 8192) (c : Fin 8) :
    (R V r_v23 (ix4 n z l c) : EReal) = ((noise (word n.val l.val c.val) : ℝ) : EReal) := by
  rw [e_v23, e_v22, e_v21, e_v20, v19_eq]
  refine (gumbel_apply _ _).trans ?_
  rw [numbers_eq, word_eq, noise_eq]
  rfl

/-- The logits masked: each times its class's factor, plus its class's offset. -/
def masked (x : FVec Ideal S1x8192x8 .f32) : FVec Ideal S1x8192x8 .f32 :=
  addf (mulf x (broadcastInDim S1x8192x8 ![0, 1, 2] bcast_S1x1x8_S1x8192x8_0_1_2
      (broadcastInDim S1x1x8 ![2] bcast_S8_S1x1x8_2 (fun i => FloatOps.ofBits .f32 (lit0 (S8.rowMajor i))))))
    (broadcastInDim S1x8192x8 ![0, 1, 2] bcast_S1x1x8_S1x8192x8_0_1_2
      (broadcastInDim S1x1x8 ![2] bcast_S8_S1x1x8_2 (fun i => FloatOps.ofBits .f32 (lit1 (S8.rowMajor i)))))

theorem masked_apply (x : FVec Ideal S1x8192x8 .f32) (z : Fin 1) (l : Fin 8192) (c : Fin 8) : (masked x (ix3 z l c) : EReal)
    = x (ix3 z l c) * (FloatOps.ofBits .f32 (lit0 (S8.rowMajor (ix1 c))) : Ideal .f32) + (FloatOps.ofBits .f32 (lit1 (S8.rowMajor (ix1 c))) : Ideal .f32) := by
  unfold masked
  pointwise

/-- A class that is not masked. -/
def Live (c : Fin 8) : Prop := 2 ≤ c.val ∧ c.val < 6

/-- A class's place in the two literal rows. -/
theorem place (c : Fin 8) : S8.rowMajor (ix1 c) = c := Fin.ext (Shape.rowMajor_val_one _)

/-- The logit of a live class is kept. -/
theorem masked_live (x : FVec Ideal S1x8192x8 .f32) (z : Fin 1) (l : Fin 8192) (c : Fin 8) (hc : Live c) :
    (masked x (ix3 z l c) : EReal) = x (ix3 z l c) := by
  have h : lit0 (S8.rowMajor (ix1 c)) = 0x3F800000#32 ∧ lit1 (S8.rowMajor (ix1 c)) = 0#32 := by
    rw [place]
    unfold Live at hc
    fin_cases c <;> first | exact ⟨rfl, rfl⟩ | (exfalso; revert hc; decide)
  rw [masked_apply, h.1, h.2, one_eq, zero_eq]
  rw [EReal.coe_one, EReal.coe_zero, mul_one, add_zero]

/-- That of a masked class is -10000. -/
theorem masked_dead (x : FVec Ideal S1x8192x8 .f32) (z : Fin 1) (l : Fin 8192) (c : Fin 8) (hc : ¬ Live c) :
    (masked x (ix3 z l c) : EReal) = ((-10000 : ℝ) : EReal) := by
  have h : lit0 (S8.rowMajor (ix1 c)) = 0#32 ∧ lit1 (S8.rowMajor (ix1 c)) = 0xC61C4000#32 := by
    rw [place]
    unfold Live at hc
    fin_cases c <;> first | exact ⟨rfl, rfl⟩ | (exfalso; revert hc; decide)
  rw [masked_apply, h.1, h.2, zero_eq, mask_eq]
  rw [EReal.coe_zero, mul_zero, zero_add]

theorem v5_eq : R V r_v5 = masked (R V r_arg0) := by
  rw [e_v5, e_v4, e_v3, e_cst_0, e_v2, e_v1, e_v0, e_cst]
  rfl

/-- Noise of every sample plus the same logits. -/
def scores (a : FVec Ideal S64x1x8192x8 .f32) (b : FVec Ideal S1x8192x8 .f32) : FVec Ideal S64x1x8192x8 .f32 :=
  addf a (broadcastInDim S64x1x8192x8 ![0, 1, 2, 3] bcast_S1x1x8192x8_S64x1x8192x8_0_1_2_3
    (broadcastInDim S1x1x8192x8 ![1, 2, 3] bcast_S1x8192x8_S1x1x8192x8_1_2_3 b))

theorem scores_apply (a : FVec Ideal S64x1x8192x8 .f32) (b : FVec Ideal S1x8192x8 .f32) (n : Fin 64) (z : Fin 1) (l : Fin 8192) (c : Fin 8) :
    (scores a b (ix4 n z l c) : EReal) = a (ix4 n z l c) + b (ix3 0 l c) := by
  unfold scores
  pointwise

theorem scores_eq : R V r_v26 = scores (R V r_v23) (masked (R V r_arg0)) := by
  rw [e_v26, e_v25, e_v24, v5_eq]
  rfl

/-- A score: the noise of its draw plus the masked logit. -/
theorem v26_eq (n : Fin 64) (z : Fin 1) (l : Fin 8192) (c : Fin 8) :
    (R V r_v26 (ix4 n z l c) : EReal) = ((noise (word n.val l.val c.val) : ℝ) : EReal) + masked (R V r_arg0) (ix3 0 l c) := by
  rw [scores_eq]
  refine (scores_apply _ _ n z l c).trans ?_
  rw [v23_eq]

end Cert.ReferenceIdeal.Run

end
-- ==== Proof.Rows.lean ====
/-
  REDUCTIONS OVER THE CLASSES of an array of samples, positions and classes, over the extended reals: the greatest score,
  how many classes attain it, and the class that an arg-max finds when one class is above all others.
-/
module

public import proofs.«01_k».proof.Proof.Gen.ReferenceIdeal
public import Idealize.ShloMosaic.Lib.ReduceAll
public import Idealize.ShloMosaic.Lib.IndicatorCount
public import Idealize.ShloMosaic.Lib.Pointwise

@[expose] public section

set_option maxRecDepth 16384

noncomputable section

namespace Cert.Rows

open Idealize.ShloMosaic
open Cert.ReferenceIdeal

theorem full_row : S64x1x8192x8.Reduces [3] S64x1x8192 := by decide

theorem lift_eq (n : Fin 64) (z : Fin 1) (l : Fin 8192) (c : Fin 8) : full_row.lift (ix3 n z l) c = ix4 n z l c := by
  funext a
  match a with
  | ⟨0, _⟩ => rfl
  | ⟨1, _⟩ => rfl
  | ⟨2, _⟩ => rfl
  | ⟨3, _⟩ => rfl

theorem drop_eq (h : S64x1x8192x8.ReducesTo [3] S64x1x8192) (n : Fin 64) (z : Fin 1) (l : Fin 8192) (c : Fin 8) : h.drop (ix4 n z l c) = ix3 n z l := by
  funext b
  apply Fin.ext
  match b with
  | ⟨0, _⟩ => exact Shape.ReducesTo.drop_apply_val h _ 0
  | ⟨1, _⟩ => exact Shape.ReducesTo.drop_apply_val h _ 1
  | ⟨2, _⟩ => exact Shape.ReducesTo.drop_apply_val h _ 2

/-- The greatest of a row is above each of it. -/
theorem le_max {u : Shape} (s : FVec Ideal S64x1x8192x8 .f32) (init : u.Idx → Ideal .f32) (h : S64x1x8192x8.ReducesTo [3] S64x1x8192) (hu : 0 < u.numel)
    (n : Fin 64) (z : Fin 1) (l : Fin 8192) (c : Fin 8) :
    (s (ix4 n z l c) : EReal) ≤ Host.reduce (FloatOps.maximumf (F := Ideal) (φ := .f32)) s init h hu (ix3 n z l) := by
  rw [Host.reduce_eq_fold_single FloatOps.maximumf s init h full_row hu (ix3 n z l), ← lift_eq n z l c]
  exact (Finset.le_fold_max (α := Fin 8) (β := EReal) (f := s ∘ full_row.lift (ix3 n z l)) _).2 (Or.inr ⟨c, Finset.mem_univ _, le_refl _⟩)

/-- How many of a row's bits are set. -/
theorem count_eq {u : Shape} (b : IVec S64x1x8192x8 1) (hw : 1 < 32) (init : u.Idx → BitVec 32) (h : S64x1x8192x8.ReducesTo [3] S64x1x8192) (hu : 0 < u.numel)
    (h0 : init (Shape.Idx.first hu) = 0#32) (n : Fin 64) (z : Fin 1) (l : Fin 8192) :
    Host.reduce IntOp.addi (extui 32 b hw) init h hu (ix3 n z l)
      = BitVec.ofNat 32 (Finset.univ.filter fun c : Fin 8 => b (ix4 n z l c) = 1#1).card := by
  refine (Host.reduce_eq_fold_single IntOp.addi (extui 32 b hw) init h full_row hu (ix3 n z l)).trans ?_
  rw [h0, ← IndicatorCount.fold_addi_setWidth_eq_card]
  refine congrArg (fun f => Finset.fold IntOp.addi 0#32 f Finset.univ) (funext fun c => ?_)
  exact congrArg (fun i => (b i).setWidth 32) (lift_eq n z l c)

/-- The better of a pair that is above and one below. -/
theorem arg_left (p q : Ideal .f32 × BitVec 32) (h : q = p ∨ (q.1 : EReal) < p.1) : reducer_argmax_f32_i32 p q = p := by
  rcases h with rfl | h
  · have e : Ideal.cmp .ogt q.1 q.1 = 0#1 := by simp [Ideal.cmp]
    have e' : Ideal.cmp .une q.1 q.1 = 0#1 := by simp [Ideal.cmp]
    unfold reducer_argmax_f32_i32
    simp only [Ideal.cmpf_def, e, e']
    refine Prod.ext rfl ?_
    show Scalar.select _ q.2 q.2 = q.2
    unfold Scalar.select
    split <;> rfl
  · have e : Ideal.cmp .ogt p.1 q.1 = 1#1 := by simp [Ideal.cmp, h]
    unfold reducer_argmax_f32_i32
    simp only [Ideal.cmpf_def, e]
    have o : ∀ v : BitVec 1, IntOp.ori 1#1 v = 1#1 := by decide
    simp only [o]
    rfl

theorem arg_right (a p : Ideal .f32 × BitVec 32) (h : (a.1 : EReal) < p.1) : reducer_argmax_f32_i32 a p = p := by
  have e : Ideal.cmp .ogt a.1 p.1 = 0#1 := by simp [Ideal.cmp, not_lt_of_gt h]
  have e' : Ideal.cmp .une a.1 a.1 = 0#1 := by simp [Ideal.cmp]
  have e'' : Ideal.cmp .oeq a.1 p.1 = 0#1 := by simp [Ideal.cmp, h.ne]
  unfold reducer_argmax_f32_i32
  simp only [Ideal.cmpf_def, e, e', e'']
  have o : ∀ v : BitVec 1, IntOp.ori (IntOp.ori 0#1 0#1) (IntOp.andi 0#1 v) = 0#1 := by decide
  simp only [o]
  rfl

theorem arg_below (a q : Ideal .f32 × BitVec 32) (m : EReal) (ha : (a.1 : EReal) < m) (hq : (q.1 : EReal) < m) :
    ((reducer_argmax_f32_i32 a q).1 : EReal) < m := by
  show (Scalar.select _ a.1 q.1 : EReal) < m
  unfold Scalar.select
  split
  · exact ha
  · exact hq

/-- The arg-max of a list in which one pair is above all others is that pair. -/
theorem arg_fold (p : Ideal .f32 × BitVec 32) : ∀ (L : List (Ideal .f32 × BitVec 32)) (a : Ideal .f32 × BitVec 32),
    (∀ q ∈ L, q = p ∨ (q.1 : EReal) < p.1) → (a = p ∨ ((a.1 : EReal) < p.1 ∧ p ∈ L)) → L.foldl reducer_argmax_f32_i32 a = p
  | [], a, _, ha => by
    rcases ha with ha | ha
    · exact ha
    · exact absurd ha.2 List.not_mem_nil
  | q :: L, a, hL, ha => by
    rw [List.foldl_cons]
    apply arg_fold p L _ (fun r hr => hL r (List.mem_cons_of_mem _ hr))
    have hq := hL q List.mem_cons_self
    rcases ha with rfl | ⟨ha, hp⟩
    · exact Or.inl (arg_left _ _ hq)
    · rcases hq with rfl | hq
      · exact Or.inl (arg_right _ _ ha)
      · refine Or.inr ⟨arg_below a q _ ha hq, ?_⟩
        rcases List.mem_cons.1 hp with rfl | hp
        · exact absurd hq (lt_irrefl _)
        · exact hp

/-- The index half of an arg-max. -/
def argIndex {s t u : Shape} {axes : List (Fin s.rank)} (f : Ideal .f32 × BitVec 32 → Ideal .f32 × BitVec 32 → Ideal .f32 × BitVec 32)
    (x : FVec Ideal s .f32) (y : IVec s 32) (u0 : FVec Ideal u .f32) (v0 : IVec u 32)
    (h : s.ReducesTo axes t) (hu : 0 < u.numel) : IVec t 32 :=
  fun j => (Host.argReduce f x y u0 v0 h hu j).2

theorem argIndex_snd {s t u : Shape} {axes : List (Fin s.rank)} (f : Ideal .f32 × BitVec 32 → Ideal .f32 × BitVec 32 → Ideal .f32 × BitVec 32)
    (x : FVec Ideal s .f32) (y : IVec s 32) (u0 : FVec Ideal u .f32) (v0 : IVec u 32)
    (h : s.ReducesTo axes t) (hu : 0 < u.numel) (j : t.Idx) : (Host.argReduce f x y u0 v0 h hu j).2 = argIndex f x y u0 v0 h hu j := rfl

/-- It is the index half of a fold over the entries of the row. -/
theorem argIndex_apply {s t u : Shape} {axes : List (Fin s.rank)} (f : Ideal .f32 × BitVec 32 → Ideal .f32 × BitVec 32 → Ideal .f32 × BitVec 32)
    (x : FVec Ideal s .f32) (y : IVec s 32) (u0 : FVec Ideal u .f32) (v0 : IVec u 32)
    (h : s.ReducesTo axes t) (hu : 0 < u.numel) (j : t.Idx) (v : Ideal .f32 × BitVec 32)
    (e : (Host.argReduceFiber x y h j).foldl f (u0 (Shape.Idx.first hu), v0 (Shape.Idx.first hu)) = v) : argIndex f x y u0 v0 h hu j = v.2 := by
  rw [← argIndex_snd, Ideal.argReduce_eq_reduce2, Host.reduce2_eq_foldl_fiber, e]

/-- The arg-max over a row's classes finds the class above all others. -/
theorem arg_eq {u : Shape} (s : FVec Ideal S64x1x8192x8 .f32) (y : IVec S64x1x8192x8 32) (u0 : FVec Ideal u .f32) (v0 : IVec u 32)
    (h : S64x1x8192x8.ReducesTo [3] S64x1x8192) (hu : 0 < u.numel) (n : Fin 64) (z : Fin 1) (l : Fin 8192) (d : Fin 8)
    (h0 : (u0 (Shape.Idx.first hu) : EReal) < s (ix4 n z l d))
    (hd : ∀ c, c ≠ d → (s (ix4 n z l c) : EReal) < s (ix4 n z l d)) :
    argIndex reducer_argmax_f32_i32 s y u0 v0 h hu (ix3 n z l) = y (ix4 n z l d) := by
  refine argIndex_apply _ s y u0 v0 h hu _ (s (ix4 n z l d), y (ix4 n z l d)) (arg_fold _ _ _ ?_ ?_)
  · intro q hq
    unfold Host.argReduceFiber at hq
    obtain ⟨k, hk, rfl⟩ := List.mem_map.1 hq
    have hk := (List.mem_filter.1 hk).2
    generalize S64x1x8192x8.rowMajor.symm k = i at hk
    obtain ⟨n', z', l', c, rfl⟩ : ∃ n z l c, i = ix4 n z l c := ⟨i 0, i 1, i 2, i 3, eq_ix4 i⟩
    rw [drop_eq, decide_eq_true_eq] at hk
    have e0 : n' = n := congrFun hk 0
    have e1 : z' = z := congrFun hk 1
    have e2 : l' = l := congrFun hk 2
    subst e0 e1 e2
    by_cases hc : c = d
    · left; rw [hc]
    · right; exact hd c hc
  · right
    refine ⟨h0, ?_⟩
    unfold Host.argReduceFiber
    refine List.mem_map.2 ⟨S64x1x8192x8.rowMajor (ix4 n z l d), List.mem_filter.2 ⟨List.mem_finRange _, ?_⟩, ?_⟩
    · rw [Equiv.symm_apply_apply, drop_eq]; exact decide_eq_true rfl
    · rw [Equiv.symm_apply_apply]

end Cert.Rows

end
-- ==== Proof.Winner.lean ====
/-
  WHAT THE PRECONDITION SAYS over the extended reals: every live logit is a number not below -9000, and at every sample and
  position one class's score is above all others.
-/
module

public import proofs.«01_k».proof.Proof.PreScores
public import proofs.«01_k».proof.Proof.RefScore
public import proofs.«01_k».proof.Proof.Rows

@[expose] public section

set_option maxRecDepth 16384

noncomputable section

namespace Cert.Winner

open Idealize.ShloMosaic Idealize.ShloMosaic.StableHlo

section

open Cert.Pre_one_winner Cert.Pre_one_winner.Facts

theorem and_one : ∀ {a b : BitVec 1}, IntOp.andi a b = 1#1 → a = 1#1 ∧ b = 1#1 := by decide

theorem bit_iff (p : Prop) [Decidable p] : BitVec.ofBool (decide p) = 1#1 ↔ p := by
  by_cases h : p <;> simp [h]

instance : Subsingleton S_.Idx := ⟨fun a b => funext fun i => i.elim0⟩

/-- The rows' greatest scores, one for every class. -/
def tops (s : FVec Ideal S64x1x8192x8 .f32) (i : FVec Ideal S_ .f32) : FVec Ideal S64x1x8192x8 .f32 :=
  broadcastInDim S64x1x8192x8 ![0, 1, 2, 3] bcast_S64x1x8192x1_S64x1x8192x8_0_1_2_3
    (broadcastInDim S64x1x8192x1 ![0, 1, 2] bcast_S64x1x8192_S64x1x8192x1_0_1_2
      (Host.reduce FloatOps.maximumf s i reducesTo_S64x1x8192x8_S64x1x8192_d3 h_S_))

theorem tops_apply (s : FVec Ideal S64x1x8192x8 .f32) (i : FVec Ideal S_ .f32) (n : Fin 64) (z : Fin 1) (l : Fin 8192) (c : Fin 8) :
    tops s i (ix4 n z l c) = Host.reduce FloatOps.maximumf s i reducesTo_S64x1x8192x8_S64x1x8192_d3 h_S_ (ix3 n z l) := by
  unfold tops
  generalize Host.reduce FloatOps.maximumf s i reducesTo_S64x1x8192x8_S64x1x8192_d3 h_S_ = t
  have hz : z = 0 := Subsingleton.elim _ _
  subst hz
  pointwise

/-- How many classes attain a row's greatest score. -/
def attained (s : FVec Ideal S64x1x8192x8 .f32) (i : FVec Ideal S_ .f32) : IVec S64x1x8192 32 :=
  Host.reduce IntOp.addi (extui 32 (cmpf .oeq s (tops s i)) natLt_1_32) (constantI S_ 32 0#32) reducesTo_S64x1x8192x8_S64x1x8192_d3 h_S_

/-- If one class does, its score is above all others. -/
theorem attained_one (s : FVec Ideal S64x1x8192x8 .f32) (i : FVec Ideal S_ .f32) (n : Fin 64) (z : Fin 1) (l : Fin 8192)
    (h : attained s i (ix3 n z l) = 1#32) : ∃ d, ∀ c, c ≠ d → (s (ix4 n z l c) : EReal) < s (ix4 n z l d) := by
  unfold attained at h
  rw [Rows.count_eq _ _ _ _ _ rfl] at h
  have hc : (Finset.univ.filter fun c : Fin 8 => cmpf .oeq s (tops s i) (ix4 n z l c) = 1#1).card ≤ 8 := by
    refine (Finset.card_le_univ _).trans ?_
    rw [Fintype.card_fin]
  have h1 : (Finset.univ.filter fun c : Fin 8 => cmpf .oeq s (tops s i) (ix4 n z l c) = 1#1).card = 1 := by
    have h2 := congrArg BitVec.toNat h
    rw [BitVec.toNat_ofNat, Nat.mod_eq_of_lt (by omega)] at h2
    exact h2
  have hm : ∀ c, cmpf .oeq s (tops s i) (ix4 n z l c) = 1#1 ↔ (s (ix4 n z l c) : EReal) = tops s i (ix4 n z l c) := by
    intro c
    show Ideal.cmp .oeq (s (ix4 n z l c)) (tops s i (ix4 n z l c)) = 1#1 ↔ _
    simp only [Ideal.cmp]
    exact bit_iff _
  obtain ⟨d, hd⟩ := Finset.card_eq_one.1 h1
  have hdd : (s (ix4 n z l d) : EReal) = tops s i (ix4 n z l d) := by
    have : d ∈ (Finset.univ.filter fun c : Fin 8 => cmpf .oeq s (tops s i) (ix4 n z l c) = 1#1) := by
      rw [hd]; exact Finset.mem_singleton_self d
    exact (hm d).1 (Finset.mem_filter.1 this).2
  refine ⟨d, fun c hcd => ?_⟩
  have hcc : ¬ (s (ix4 n z l c) : EReal) = tops s i (ix4 n z l c) := by
    intro e
    have : c ∈ (Finset.univ.filter fun c : Fin 8 => cmpf .oeq s (tops s i) (ix4 n z l c) = 1#1) :=
      Finset.mem_filter.2 ⟨Finset.mem_univ _, (hm c).2 e⟩
    rw [hd] at this
    exact hcd (Finset.mem_singleton.1 this)
  rw [tops_apply] at hdd hcc
  rw [hdd]
  exact lt_of_le_of_ne (Rows.le_max s i _ _ n z l c) hcc

/-- The predicate's last part holds: so does what it is given, and one class wins every row. -/
theorem last (b : IVec S_ 1) (s : FVec Ideal S64x1x8192x8 .f32) (i : FVec Ideal S_ .f32) (h : fn_part2 (F := Ideal) b s i = fun _ => 1#1) :
    b = (fun _ => 1#1) ∧ ∀ n z l, ∃ d, ∀ c, c ≠ d → (s (ix4 n z l c) : EReal) < s (ix4 n z l d) := by
  have e : fn_part2 (F := Ideal) b s i = andi b (Host.reduce IntOp.andi (cmpi .eq (attained s i)
      (broadcastInDim S64x1x8192 ![] bcast_S_S64x1x8192 (constantI S_ 32 1#32))) (constantI S_ 1 1#1) reducesTo_S64x1x8192_S_d0_1_2 h_S_) := rfl
  rw [e] at h
  refine ⟨funext fun j => (and_one (congrFun h j)).1, fun n z l => ?_⟩
  refine attained_one s i n z l ?_
  have h2 := (and_one (congrFun h (fun k => k.elim0))).2
  have h3 := Host.reduce_andi_all _ _ _ _ _ h2 (ix3 n z l)
  exact IntOp.cmpi_eq.1 h3

theorem slice_apply (x : FVec Ideal S1x8192x8 .f32) (l : Fin 8192) (k : Fin 4) (c : Fin 8) (hk : k.val + 2 = c.val) :
    (extractStridedSlice S1x8192x4 ![0, 0, 2] x slices_S1x8192x8_S1x8192x4_0_0_2) (ix3 0 l k) = x (ix3 0 l c) := by
  obtain ⟨c, hc⟩ := c
  dsimp only at hk
  subst hk
  fin_cases k <;> pointwise

/-- The range holds: every live logit is a number, not below -9000. -/
theorem range_live (x : FVec Ideal S1x8192x8 .f32) (h : PreScores.range x = fun _ => 1#1) (l : Fin 8192) (c : Fin 8)
    (hc : Cert.ReferenceIdeal.Run.Live c) : ∃ y : ℝ, (x (ix3 0 l c) : EReal) = y ∧ -9000 ≤ y := by
  have h2 := congrFun h (fun k => k.elim0)
  unfold PreScores.range at h2
  obtain ⟨k, hk⟩ : ∃ k : Fin 4, k.val + 2 = c.val := by
    obtain ⟨h0, h1⟩ := hc
    exact ⟨⟨c.val - 2, by omega⟩, by show c.val - 2 + 2 = c.val; omega⟩
  have h3 := Host.reduce_andi_all _ _ _ _ _ h2 (ix3 0 l k)
  have h4 := and_one h3
  have hx := slice_apply x l k c hk
  have h5 : Ideal.cmp .oge (x (ix3 0 l c)) (FloatOps.ofBits .f32 0xC60CA000#32 : Ideal .f32) = 1#1 := hx ▸ h4.1
  have h6 : Ideal.cmp .olt (x (ix3 0 l c)) (FloatOps.ofBits .f32 0x7F800000#32 : Ideal .f32) = 1#1 := hx ▸ h4.2
  rw [Noise.low_eq] at h5
  rw [Noise.inf_eq] at h6
  generalize (x (ix3 0 l c) : EReal) = y at h5 h6
  have h7 : ((-9000 : ℝ) : EReal) ≤ y := by simp only [Ideal.cmp] at h5; exact (bit_iff _).1 h5
  have h8 : y < ⊤ := by simp only [Ideal.cmp] at h6; exact (bit_iff _).1 h6
  induction y using EReal.rec with
  | bot => exact absurd h7 (by simp)
  | top => exact absurd h8 (lt_irrefl _)
  | coe y => exact ⟨y, rfl, EReal.coe_le_coe_iff.1 h7⟩

end

end Cert.Winner

end
-- ==== Proof.RefValue.lean ====
/-
  THE REFERENCE'S RESULT over the extended reals where one class wins each row: one at the winner and zero elsewhere. The
  softmax is added to that and taken away again, which leaves it as it was, since the softmax is a real number.
-/
module

public import proofs.«01_k».proof.Proof.RefScore
public import proofs.«01_k».proof.Proof.Rows

@[expose] public section

set_option maxRecDepth 16384

noncomputable section

namespace Cert.ReferenceIdeal.Run

open Cert.ReferenceIdeal Cert.ReferenceIdeal.Gen Cert.Line Cert.Words Cert.Noise
open Cert.ReferenceIdeal.Facts
open Idealize.ShloMosaic Idealize.ShloMosaic.TcCoe Idealize.SL.Sem Idealize.ShloMosaic.StableHlo

theorem below (i : S_.Idx) (y : EReal) (h : ⊥ < y) : (constant (F := Ideal) S_ .f32 0xFF800000#32 i : EReal) < y := by
  have e : (constant (F := Ideal) S_ .f32 0xFF800000#32 i : EReal) = ⊥ := neginf_eq
  rw [e]
  exact h

theorem iota_apply (n : Fin 64) (z : Fin 1) (l : Fin 8192) (d : Fin 8) : iotaInDim S64x1x8192x8 32 3 (ix4 n z l d) = BitVec.ofNat 32 d.val := by
  pointwise

/-- The class each row's arg-max finds. -/
def winners (s : FVec Ideal S64x1x8192x8 .f32) : IVec S64x1x8192 32 :=
  Rows.argIndex reducer_argmax_f32_i32 s (iotaInDim S64x1x8192x8 32 3) (constant S_ .f32 0xFF800000#32) (constantI S_ 32 0#32)
    reducesTo_S64x1x8192x8_S64x1x8192_d3 h_S_

/-- It is the class above all others. -/
theorem winners_eq (s : FVec Ideal S64x1x8192x8 .f32) (n : Fin 64) (z : Fin 1) (l : Fin 8192) (d : Fin 8)
    (h0 : (⊥ : EReal) < s (ix4 n z l d)) (hd : ∀ c, c ≠ d → (s (ix4 n z l c) : EReal) < s (ix4 n z l d)) :
    winners s (ix3 n z l) = BitVec.ofNat 32 d.val := by
  unfold winners
  rw [Rows.arg_eq _ _ _ _ _ _ n z l d (below _ _ h0) hd, iota_apply]

/-- One where a row's number is the class's, zero elsewhere. -/
def hot (w : IVec S64x1x8192 32) : FVec Ideal S1x64x8192x8 .f32 :=
  uitofp .f32 (cmpi .eq
    (broadcastInDim S1x64x8192x8 ![0, 1, 2, 3] bcast_S1x64x8192x1_S1x64x8192x8_0_1_2_3
      (broadcastInDim S1x64x8192x1 ![0, 1, 2] bcast_S1x64x8192_S1x64x8192x1_0_1_2 (transpose S1x64x8192 [1, 0, 2] w transposes_S64x1x8192_S1x64x8192_1_0_2)))
    (broadcastInDim S1x64x8192x8 ![0, 1, 2, 3] bcast_S1x1x1x8_S1x64x8192x8_0_1_2_3 (iotaInDim S1x1x1x8 32 3)))

theorem hot_apply (w : IVec S64x1x8192 32) (n : Fin 64) (l : Fin 8192) (c : Fin 8) : (hot w (ix4 0 n l c) : EReal)
    = FloatOps.uitofp (F := Ideal) .f32 (IntOp.cmpi .eq (w (ix3 n 0 l)) (BitVec.ofNat 32 c.val)) := by
  unfold hot
  pointwise

/-- The greatest of each row, not below minus infinity. -/
def peak (x : FVec Ideal S1x8192x8 .f32) : FVec Ideal S1x8192 .f32 :=
  maximumf (broadcastInDim S1x8192 ![] bcast_S_S1x8192 (constant S_ .f32 0xFF800000#32))
    (Host.reduce FloatOps.maximumf x (constant S_ .f32 0xFF800000#32) reducesTo_S1x8192x8_S1x8192_d2 h_S_)

/-- One value for every class of a row. -/
def spread (x : FVec Ideal S1x8192 .f32) : FVec Ideal S1x8192x8 .f32 :=
  broadcastInDim S1x8192x8 ![0, 1, 2] bcast_S1x8192x1_S1x8192x8_0_1_2 (broadcastInDim S1x8192x1 ![0, 1] bcast_S1x8192_S1x8192x1_0_1 x)

theorem spread_apply (x : FVec Ideal S1x8192 .f32) (l : Fin 8192) (c : Fin 8) : spread x (ix3 0 l c) = x (ix2 0 l) := by
  unfold spread
  pointwise

/-- The sum of each row. -/
def total (x : FVec Ideal S1x8192x8 .f32) : FVec Ideal S1x8192 .f32 :=
  Host.reduceAdd x (constant S_ .f32 0x00000000#32) reducesTo_S1x8192x8_S1x8192_d2 h_S_

/-- The logits divided by one. -/
def scaled (x : FVec Ideal S1x8192x8 .f32) : FVec Ideal S1x8192x8 .f32 :=
  Host.divf x (broadcastInDim S1x8192x8 ![] bcast_S_S1x8192x8 (constant S_ .f32 0x3F800000#32))

/-- The exponentials of the logits, less the greatest of their row. -/
def powers (x : FVec Ideal S1x8192x8 .f32) : FVec Ideal S1x8192x8 .f32 := Host.exp (subf x (spread (peak x)))

/-- The softmax of the logits. -/
def soft (x : FVec Ideal S1x8192x8 .f32) : FVec Ideal S1x8192x8 .f32 :=
  Host.divf (powers (scaled x)) (spread (total (powers (scaled x))))

/-- The softmax added and taken away again. -/
def straight (a : FVec Ideal S1x64x8192x8 .f32) (b : FVec Ideal S1x8192x8 .f32) : FVec Ideal S1x64x8192x8 .f32 :=
  let b' := broadcastInDim S1x64x8192x8 ![0, 1, 2, 3] bcast_S1x1x8192x8_S1x64x8192x8_0_1_2_3 (broadcastInDim S1x1x8192x8 ![0, 2, 3] bcast_S1x8192x8_S1x1x8192x8_0_2_3 b)
  subf (addf a b') b'

theorem straight_apply (a : FVec Ideal S1x64x8192x8 .f32) (b : FVec Ideal S1x8192x8 .f32) (n : Fin 64) (l : Fin 8192) (c : Fin 8) :
    (straight a b (ix4 0 n l c) : EReal) = a (ix4 0 n l c) + b (ix3 0 l c) - b (ix3 0 l c) := by
  unfold straight
  pointwise

/-- That leaves what was there, where both are real numbers. -/
theorem straight_eq (a : FVec Ideal S1x64x8192x8 .f32) (b : FVec Ideal S1x8192x8 .f32) (n : Fin 64) (l : Fin 8192) (c : Fin 8)
    (x y : ℝ) (ha : (a (ix4 0 n l c) : EReal) = x) (hb : (b (ix3 0 l c) : EReal) = y) : (straight a b (ix4 0 n l c) : EReal) = x := by
  rw [straight_apply, ha, hb, ← EReal.coe_add, ← EReal.coe_sub, add_sub_cancel_right]

theorem row_reduces : S1x8192x8.Reduces [2] S1x8192 := by decide

theorem lift_row (l : Fin 8192) (c : Fin 8) : row_reduces.lift (ix2 0 l) c = ix3 0 l c := by
  funext a
  match a with
  | ⟨0, _⟩ => rfl
  | ⟨1, _⟩ => rfl
  | ⟨2, _⟩ => rfl

theorem peak_apply (x : FVec Ideal S1x8192x8 .f32) (j : S1x8192.Idx) : (peak x j : EReal) = max (FloatOps.ofBits .f32 0xFF800000#32 : Ideal .f32)
    (Host.reduce FloatOps.maximumf x (constant S_ .f32 0xFF800000#32) reducesTo_S1x8192x8_S1x8192_d2 h_S_ j) := rfl

/-- The greatest of a row of real numbers is a real number. -/
theorem peak_real (x : FVec Ideal S1x8192x8 .f32) (l : Fin 8192) (h : ∀ c : Fin 8, ∃ y : ℝ, (x (ix3 0 l c) : EReal) = y) :
    ∃ y : ℝ, (peak x (ix2 0 l) : EReal) = y := by
  have e : (peak x (ix2 0 l) : EReal) = max (⊥ : EReal) ((Finset.univ : Finset (Fin 8)).fold max (⊥ : EReal) (fun c => (x (ix3 0 l c) : EReal))) := by
    rw [peak_apply, neginf_eq, Host.reduce_eq_fold_single FloatOps.maximumf x (constant S_ .f32 0xFF800000#32) reducesTo_S1x8192x8_S1x8192_d2 row_reduces h_S_ (ix2 0 l)]
    refine congrArg (max (⊥ : EReal)) ?_
    have e0 : constant (F := Ideal) S_ .f32 0xFF800000#32 (Shape.Idx.first h_S_) = (⊥ : EReal) := neginf_eq
    rw [e0]
    exact congrArg (fun f => Finset.fold (max : EReal → EReal → EReal) ⊥ f Finset.univ) (funext fun c : Fin 8 => congrArg x (lift_row l c))
  rw [e, max_eq_right bot_le]
  have hlt : (Finset.univ : Finset (Fin 8)).fold max (⊥ : EReal) (fun c => (x (ix3 0 l c) : EReal)) < ⊤ := by
    refine (Finset.fold_max_lt _).2 ⟨bot_lt_top, fun c _ => ?_⟩
    obtain ⟨y, hy⟩ := h c
    rw [hy]
    exact EReal.coe_lt_top y
  have hgt : (⊥ : EReal) < (Finset.univ : Finset (Fin 8)).fold max (⊥ : EReal) (fun c => (x (ix3 0 l c) : EReal)) := by
    refine (Finset.lt_fold_max _).2 (Or.inr ⟨0, Finset.mem_univ _, ?_⟩)
    obtain ⟨y, hy⟩ := h 0
    rw [hy]
    exact EReal.bot_lt_coe y
  exact ⟨_, (EReal.coe_toReal hlt.ne hgt.ne').symm⟩

/-- The sum of a row of real numbers above zero is a real number above zero. -/
theorem total_real (x : FVec Ideal S1x8192x8 .f32) (l : Fin 8192) (h : ∀ c : Fin 8, ∃ y : ℝ, 0 < y ∧ (x (ix3 0 l c) : EReal) = y) :
    ∃ y : ℝ, 0 < y ∧ (total x (ix2 0 l) : EReal) = y := by
  have e : (total x (ix2 0 l) : EReal) = 0 + ∑ c : Fin 8, (x (ix3 0 l c) : EReal) := by
    refine (Ideal.hostReduceAdd_single reducesTo_S1x8192x8_S1x8192_d2 row_reduces x _ (ix2 0 l)).trans ?_
    have e0 : constant (F := Ideal) S_ .f32 0x00000000#32 (Shape.Idx.first h_S_) = (0 : EReal) := zero_eq.trans EReal.coe_zero
    rw [e0]
    exact congrArg (fun t => (0 : EReal) + t) (Finset.sum_congr rfl fun (c : Fin 8) _ => congrArg x (lift_row l c))
  choose f hf using h
  refine ⟨∑ c, f c, Finset.sum_pos (fun c _ => (hf c).1) ⟨0, Finset.mem_univ _⟩, ?_⟩
  rw [e, zero_add, Finset.sum_congr rfl (fun c _ => (hf c).2)]
  exact (map_sum (⟨⟨fun r : ℝ => (r : EReal), rfl⟩, fun a b => EReal.coe_add a b⟩ : ℝ →+ EReal) f Finset.univ).symm

theorem scaled_apply (x : FVec Ideal S1x8192x8 .f32) (j : S1x8192x8.Idx) :
    (scaled x j : EReal) = Ideal.div (x j) (FloatOps.ofBits .f32 0x3F800000#32 : Ideal .f32) := rfl

theorem scaled_real (x : FVec Ideal S1x8192x8 .f32) (j : S1x8192x8.Idx) (h : ∃ y : ℝ, (x j : EReal) = y) : ∃ y : ℝ, (scaled x j : EReal) = y := by
  obtain ⟨y, hy⟩ := h
  rw [scaled_apply, one_eq, hy]
  rw [Ideal.div_coe one_ne_zero, ← EReal.coe_mul]
  exact ⟨_, rfl⟩

theorem powers_apply (x : FVec Ideal S1x8192x8 .f32) (l : Fin 8192) (c : Fin 8) :
    (powers x (ix3 0 l c) : EReal) = Ideal.exp (x (ix3 0 l c) - spread (peak x) (ix3 0 l c)) := rfl

theorem powers_real (x : FVec Ideal S1x8192x8 .f32) (l : Fin 8192) (h : ∀ c : Fin 8, ∃ y : ℝ, (x (ix3 0 l c) : EReal) = y) (c : Fin 8) :
    ∃ y : ℝ, 0 < y ∧ (powers x (ix3 0 l c) : EReal) = y := by
  obtain ⟨p, hp⟩ := peak_real x l h
  obtain ⟨y, hy⟩ := h c
  rw [powers_apply, spread_apply, hp, hy, ← EReal.coe_sub, Ideal.exp_coe]
  exact ⟨_, Real.exp_pos _, rfl⟩

theorem soft_apply (x : FVec Ideal S1x8192x8 .f32) (j : S1x8192x8.Idx) :
    (soft x j : EReal) = Ideal.div (powers (scaled x) j) (spread (total (powers (scaled x))) j) := rfl

/-- The softmax of real numbers is a real number. -/
theorem soft_real (x : FVec Ideal S1x8192x8 .f32) (l : Fin 8192) (h : ∀ c : Fin 8, ∃ y : ℝ, (x (ix3 0 l c) : EReal) = y) (c : Fin 8) :
    ∃ y : ℝ, (soft x (ix3 0 l c) : EReal) = y := by
  have hs := powers_real (scaled x) l (fun c => scaled_real x _ (h c))
  obtain ⟨t, ht, et⟩ := total_real _ l hs
  obtain ⟨y, _, ey⟩ := hs c
  rw [soft_apply, spread_apply, et, ey]
  rw [Ideal.div_coe ht.ne', ← EReal.coe_mul]
  exact ⟨_, rfl⟩

theorem bit_one : (FloatOps.uitofp (F := Ideal) .f32 (1#1 : BitVec 1) : EReal) = ((1 : ℝ) : EReal) := by
  show (((1#1 : BitVec 1).toNat : ℝ) : EReal) = _
  simp

theorem bit_zero : (FloatOps.uitofp (F := Ideal) .f32 (0#1 : BitVec 1) : EReal) = ((0 : ℝ) : EReal) := by
  show (((0#1 : BitVec 1).toNat : ℝ) : EReal) = _
  simp

theorem classes_apart : ∀ c d : Fin 8, ¬ c = d → IntOp.cmpi .eq (BitVec.ofNat 32 d.val) (BitVec.ofNat 32 c.val) = 0#1 := by decide

/-- The one-hot row of a class. -/
theorem hot_eq (w : IVec S64x1x8192 32) (n : Fin 64) (l : Fin 8192) (c d : Fin 8) (h : w (ix3 n 0 l) = BitVec.ofNat 32 d.val) :
    (hot w (ix4 0 n l c) : EReal) = ((if c = d then 1 else 0 : ℝ) : EReal) := by
  rw [hot_apply, h]
  by_cases hc : c = d
  · rw [if_pos hc, hc]
    rw [IntOp.cmpi_eq.2 rfl, bit_one]
  · rw [if_neg hc, classes_apart c d hc, bit_zero]

variable (V : Valuation τ sig (Elt Ideal))

theorem v27_eq : R V r_v27 = winners (R V r_v26) := by
  rw [e_v27, e_a_v0, e_a_cst, e_a_c]
  funext j
  exact Rows.argIndex_snd _ _ _ _ _ _ _ j

theorem v29_eq : R V r_v29 = hot (winners (R V r_v26)) := by
  rw [e_v29, e_o_v4, e_o_v3, e_o_v2, e_o_v1, e_o_v0, e_v28, v27_eq]
  generalize winners (R V r_v26) = w
  rfl

theorem v38_eq : R V r_v38 = powers (scaled (R V r_v5)) := by
  rw [e_v38, e_v37, e_v36, e_v35, e_v34, e_v33, e_cst_10, e_v32, e_cst_9, e_v31, e_v30, e_cst_8]
  generalize R V r_v5 = x
  rfl

theorem v42_eq : R V r_v42 = soft (R V r_v5) := by
  rw [e_v42, e_v41, e_v40, e_v39, e_cst_11, v38_eq]
  generalize R V r_v5 = x
  rfl

theorem v46_eq : R V r_v46 = straight (hot (winners (R V r_v26))) (soft (R V r_v5)) := by
  rw [e_v46, e_v45, e_v44, e_v43, v29_eq, v42_eq]
  generalize hot (winners (R V r_v26)) = a
  generalize soft (R V r_v5) = b
  rfl

/-- The reference's result at a row that a class wins, its live logits real numbers: one at that class and zero elsewhere. -/
theorem v46_apply (n : Fin 64) (l : Fin 8192) (c d : Fin 8) (hx : ∀ c, Live c → ∃ y : ℝ, (R V r_arg0 (ix3 0 l c) : EReal) = y)
    (hd : ∀ c, c ≠ d → (R V r_v26 (ix4 n 0 l c) : EReal) < R V r_v26 (ix4 n 0 l d)) :
    (R V r_v46 (ix4 0 n l c) : EReal) = ((if c = d then 1 else 0 : ℝ) : EReal) := by
  have hm : ∀ c : Fin 8, ∃ y : ℝ, (masked (R V r_arg0) (ix3 0 l c) : EReal) = y := by
    intro c
    by_cases hc : Live c
    · rw [masked_live _ _ _ _ hc]
      exact hx c hc
    · exact ⟨_, masked_dead _ _ _ _ hc⟩
  have h0 : (⊥ : EReal) < R V r_v26 (ix4 n 0 l d) := by
    obtain ⟨y, hy⟩ := hm d
    rw [v26_eq, hy, ← EReal.coe_add]
    exact EReal.bot_lt_coe _
  obtain ⟨y, hy⟩ := soft_real _ l hm c
  rw [v46_eq, v5_eq]
  exact straight_eq _ _ n l c _ y (hot_eq _ n l c d (winners_eq _ n 0 l d h0 hd)) hy

end Cert.ReferenceIdeal.Run

end
-- ==== Proof.Table.lean ====
/-
  THE TABLE OF COUNTERS that the kernel is given, as a formula of a place in its row-major order.
-/
module

public import proofs.«01_k».proof.Proof.Gen.KernelIdeal

@[expose] public section

set_option maxRecDepth 16384

noncomputable section

namespace Cert.KernelIdeal.Noise

open Cert.KernelIdeal

/-- The table's element at place `k` of its row-major order. -/
def entry (k : ℕ) : ℕ := ((k / 8192 + 6) % 8) / 4 * 65536 + (k % 8192) * 8 + ((k / 8192 + 2) % 4 + 2) + 1234

/-- The table agrees with `entry` on the first `n` places from `k`. -/
def agrees (k : ℕ) : ℕ → Bool
  | 0 => true
  | n + 1 => Nat.beq (lit0t (k + n)).toNat (entry (k + n)) && agrees k n

end Cert.KernelIdeal.Noise

end
-- ==== Proof.Table0.lean ====
/-
  THE TABLE OF COUNTERS agrees with its formula: the places from 0 to 16383, looked up one by one, 1024 at a time.
-/
module

public import proofs.«01_k».proof.Proof.Table

@[expose] public section

set_option maxRecDepth 16384

noncomputable section

namespace Cert.KernelIdeal.Noise

theorem agrees_0 : agrees (1024 * 0) 1024 = true := by decide +kernel
theorem agrees_1 : agrees (1024 * 1) 1024 = true := by decide +kernel
theorem agrees_2 : agrees (1024 * 2) 1024 = true := by decide +kernel
theorem agrees_3 : agrees (1024 * 3) 1024 = true := by decide +kernel
theorem agrees_4 : agrees (1024 * 4) 1024 = true := by decide +kernel
theorem agrees_5 : agrees (1024 * 5) 1024 = true := by decide +kernel
theorem agrees_6 : agrees (1024 * 6) 1024 = true := by decide +kernel
theorem agrees_7 : agrees (1024 * 7) 1024 = true := by decide +kernel
theorem agrees_8 : agrees (1024 * 8) 1024 = true := by decide +kernel
theorem agrees_9 : agrees (1024 * 9) 1024 = true := by decide +kernel
theorem agrees_10 : agrees (1024 * 10) 1024 = true := by decide +kernel
theorem agrees_11 : agrees (1024 * 11) 1024 = true := by decide +kernel
theorem agrees_12 : agrees (1024 * 12) 1024 = true := by decide +kernel
theorem agrees_13 : agrees (1024 * 13) 1024 = true := by decide +kernel
theorem agrees_14 : agrees (1024 * 14) 1024 = true := by decide +kernel
theorem agrees_15 : agrees (1024 * 15) 1024 = true := by decide +kernel

end Cert.KernelIdeal.Noise

end
-- ==== Proof.Table1.lean ====
/-
  THE TABLE OF COUNTERS agrees with its formula: the places from 16384 to 32767, looked up one by one, 1024 at a time.
-/
module

public import proofs.«01_k».proof.Proof.Table

@[expose] public section

set_option maxRecDepth 16384

noncomputable section

namespace Cert.KernelIdeal.Noise

theorem agrees_16 : agrees (1024 * 16) 1024 = true := by decide +kernel
theorem agrees_17 : agrees (1024 * 17) 1024 = true := by decide +kernel
theorem agrees_18 : agrees (1024 * 18) 1024 = true := by decide +kernel
theorem agrees_19 : agrees (1024 * 19) 1024 = true := by decide +kernel
theorem agrees_20 : agrees (1024 * 20) 1024 = true := by decide +kernel
theorem agrees_21 : agrees (1024 * 21) 1024 = true := by decide +kernel
theorem agrees_22 : agrees (1024 * 22) 1024 = true := by decide +kernel
theorem agrees_23 : agrees (1024 * 23) 1024 = true := by decide +kernel
theorem agrees_24 : agrees (1024 * 24) 1024 = true := by decide +kernel
theorem agrees_25 : agrees (1024 * 25) 1024 = true := by decide +kernel
theorem agrees_26 : agrees (1024 * 26) 1024 = true := by decide +kernel
theorem agrees_27 : agrees (1024 * 27) 1024 = true := by decide +kernel
theorem agrees_28 : agrees (1024 * 28) 1024 = true := by decide +kernel
theorem agrees_29 : agrees (1024 * 29) 1024 = true := by decide +kernel
theorem agrees_30 : agrees (1024 * 30) 1024 = true := by decide +kernel
theorem agrees_31 : agrees (1024 * 31) 1024 = true := by decide +kernel

end Cert.KernelIdeal.Noise

end
-- ==== Proof.Table2.lean ====
/-
  THE TABLE OF COUNTERS agrees with its formula: the places from 32768 to 49151, looked up one by one, 1024 at a time.
-/
module

public import proofs.«01_k».proof.Proof.Table

@[expose] public section

set_option maxRecDepth 16384

noncomputable section

namespace Cert.KernelIdeal.Noise

theorem agrees_32 : agrees (1024 * 32) 1024 = true := by decide +kernel
theorem agrees_33 : agrees (1024 * 33) 1024 = true := by decide +kernel
theorem agrees_34 : agrees (1024 * 34) 1024 = true := by decide +kernel
theorem agrees_35 : agrees (1024 * 35) 1024 = true := by decide +kernel
theorem agrees_36 : agrees (1024 * 36) 1024 = true := by decide +kernel
theorem agrees_37 : agrees (1024 * 37) 1024 = true := by decide +kernel
theorem agrees_38 : agrees (1024 * 38) 1024 = true := by decide +kernel
theorem agrees_39 : agrees (1024 * 39) 1024 = true := by decide +kernel
theorem agrees_40 : agrees (1024 * 40) 1024 = true := by decide +kernel
theorem agrees_41 : agrees (1024 * 41) 1024 = true := by decide +kernel
theorem agrees_42 : agrees (1024 * 42) 1024 = true := by decide +kernel
theorem agrees_43 : agrees (1024 * 43) 1024 = true := by decide +kernel
theorem agrees_44 : agrees (1024 * 44) 1024 = true := by decide +kernel
theorem agrees_45 : agrees (1024 * 45) 1024 = true := by decide +kernel
theorem agrees_46 : agrees (1024 * 46) 1024 = true := by decide +kernel
theorem agrees_47 : agrees (1024 * 47) 1024 = true := by decide +kernel

end Cert.KernelIdeal.Noise

end
-- ==== Proof.Table3.lean ====
/-
  THE TABLE OF COUNTERS agrees with its formula: the places from 49152 to 65535, looked up one by one, 1024 at a time.
-/
module

public import proofs.«01_k».proof.Proof.Table

@[expose] public section

set_option maxRecDepth 16384

noncomputable section

namespace Cert.KernelIdeal.Noise

theorem agrees_48 : agrees (1024 * 48) 1024 = true := by decide +kernel
theorem agrees_49 : agrees (1024 * 49) 1024 = true := by decide +kernel
theorem agrees_50 : agrees (1024 * 50) 1024 = true := by decide +kernel
theorem agrees_51 : agrees (1024 * 51) 1024 = true := by decide +kernel
theorem agrees_52 : agrees (1024 * 52) 1024 = true := by decide +kernel
theorem agrees_53 : agrees (1024 * 53) 1024 = true := by decide +kernel
theorem agrees_54 : agrees (1024 * 54) 1024 = true := by decide +kernel
theorem agrees_55 : agrees (1024 * 55) 1024 = true := by decide +kernel
theorem agrees_56 : agrees (1024 * 56) 1024 = true := by decide +kernel
theorem agrees_57 : agrees (1024 * 57) 1024 = true := by decide +kernel
theorem agrees_58 : agrees (1024 * 58) 1024 = true := by decide +kernel
theorem agrees_59 : agrees (1024 * 59) 1024 = true := by decide +kernel
theorem agrees_60 : agrees (1024 * 60) 1024 = true := by decide +kernel
theorem agrees_61 : agrees (1024 * 61) 1024 = true := by decide +kernel
theorem agrees_62 : agrees (1024 * 62) 1024 = true := by decide +kernel
theorem agrees_63 : agrees (1024 * 63) 1024 = true := by decide +kernel

end Cert.KernelIdeal.Noise

end
-- ==== Proof.KernelWords.lean ====
/-
  THE KERNEL'S RANDOM WORDS: each of the four hashes one grid point computes, read lane by lane. The kernel's text
  names nearly every intermediate array; each lemma follows one hash through those names, one round at a time, and
  ends at `Cert.Words.draw` of the lane's counter.
-/
module

public import proofs.«01_k».proof.Proof.Gen.KernelIdeal.Frame
public import proofs.«01_k».proof.Proof.Words

@[expose] public section

set_option maxRecDepth 16384

noncomputable section

namespace Cert.KernelIdeal.Noise

open Cert.KernelIdeal Cert.KernelIdeal.Gen Cert.Words Idealize.ShloMosaic Idealize.SL.Sem

variable {F : FTy → Type} [FloatOps F]

/-- The float in [1, 2) whose fraction is the top 23 bits of a random word. -/
def unit (w : BitVec 32) : F .f32 := FloatOps.ofBits .f32 (w >>> 9#32 ||| 1065353216#32)

/-- The first hash of a grid point, after all its rounds. -/
theorem state_0 (i : grid0.Coords) (x0 : Vec F S8x8192 .f32) (x1 : Vec F S8x8192 .i32) (j : S8x8192.Idx) :
    (((k0_pay191 i x0 x1) j + 466689800#32), ((k0_pay192 i x0 x1) j + 5#32))
      = rounds (0#32, (k0_pay4 i (View.ld x1 r0_0)) j) := by
  have h1 : ((k0_pay5 i (View.ld x1 r0_0)) j, (k0_pay6 i (View.ld x1 r0_0)) j) = mix 13#32 19#32 (0#32, (k0_pay4 i (View.ld x1 r0_0)) j) := rfl
  have h2 : ((k0_pay7 i (View.ld x1 r0_0)) j, (k0_pay8 i (View.ld x1 r0_0)) j) = mix 15#32 17#32 ((k0_pay5 i (View.ld x1 r0_0)) j, (k0_pay6 i (View.ld x1 r0_0)) j) := rfl
  have h3 : ((k0_pay185 i x0 x1) j, (k0_pay11 (k0_pay185 i x0 x1) (k0_pay186 i x0 x1)) j) = mix 26#32 6#32 ((k0_pay7 i (View.ld x1 r0_0)) j, (k0_pay8 i (View.ld x1 r0_0)) j) := rfl
  have h4 : ((k0_pay12 (k0_pay185 i x0 x1) (k0_pay186 i x0 x1)) j, ((k0_pay12 (k0_pay185 i x0 x1) (k0_pay186 i x0 x1)) j ^^^ (((k0_pay11 (k0_pay185 i x0 x1) (k0_pay186 i x0 x1)) j <<< 6#32) ||| ((k0_pay11 (k0_pay185 i x0 x1) (k0_pay186 i x0 x1)) j >>> 26#32)))) = mix 6#32 26#32 ((k0_pay185 i x0 x1) j, (k0_pay11 (k0_pay185 i x0 x1) (k0_pay186 i x0 x1)) j) := rfl
  have h5 : (((k0_pay12 (k0_pay185 i x0 x1) (k0_pay186 i x0 x1)) j + 1234#32), (k0_pay13 (k0_pay185 i x0 x1) (k0_pay186 i x0 x1)) j) = key 1234#32 466689801#32 ((k0_pay12 (k0_pay185 i x0 x1) (k0_pay186 i x0 x1)) j, ((k0_pay12 (k0_pay185 i x0 x1) (k0_pay186 i x0 x1)) j ^^^ (((k0_pay11 (k0_pay185 i x0 x1) (k0_pay186 i x0 x1)) j <<< 6#32) ||| ((k0_pay11 (k0_pay185 i x0 x1) (k0_pay186 i x0 x1)) j >>> 26#32)))) := rfl
  have h6 : ((k0_pay14 (k0_pay185 i x0 x1) (k0_pay186 i x0 x1)) j, (k0_pay15 (k0_pay185 i x0 x1) (k0_pay186 i x0 x1)) j) = mix 17#32 15#32 (((k0_pay12 (k0_pay185 i x0 x1) (k0_pay186 i x0 x1)) j + 1234#32), (k0_pay13 (k0_pay185 i x0 x1) (k0_pay186 i x0 x1)) j) := rfl
  have h7 : ((k0_pay16 (k0_pay185 i x0 x1) (k0_pay186 i x0 x1)) j, (k0_pay17 (k0_pay185 i x0 x1) (k0_pay186 i x0 x1)) j) = mix 29#32 3#32 ((k0_pay14 (k0_pay185 i x0 x1) (k0_pay186 i x0 x1)) j, (k0_pay15 (k0_pay185 i x0 x1) (k0_pay186 i x0 x1)) j) := rfl
  have h8 : ((k0_pay18 (k0_pay185 i x0 x1) (k0_pay186 i x0 x1)) j, (k0_pay19 (k0_pay185 i x0 x1) (k0_pay186 i x0 x1)) j) = mix 16#32 16#32 ((k0_pay16 (k0_pay185 i x0 x1) (k0_pay186 i x0 x1)) j, (k0_pay17 (k0_pay185 i x0 x1) (k0_pay186 i x0 x1)) j) := rfl
  have h9 : ((k0_pay20 (k0_pay185 i x0 x1) (k0_pay186 i x0 x1)) j, ((k0_pay20 (k0_pay185 i x0 x1) (k0_pay186 i x0 x1)) j ^^^ (((k0_pay19 (k0_pay185 i x0 x1) (k0_pay186 i x0 x1)) j <<< 24#32) ||| ((k0_pay19 (k0_pay185 i x0 x1) (k0_pay186 i x0 x1)) j >>> 8#32)))) = mix 24#32 8#32 ((k0_pay18 (k0_pay185 i x0 x1) (k0_pay186 i x0 x1)) j, (k0_pay19 (k0_pay185 i x0 x1) (k0_pay186 i x0 x1)) j) := rfl
  have h10 : (((k0_pay20 (k0_pay185 i x0 x1) (k0_pay186 i x0 x1)) j + 466689800#32), (k0_pay187 i x0 x1) j) = key 466689800#32 2#32 ((k0_pay20 (k0_pay185 i x0 x1) (k0_pay186 i x0 x1)) j, ((k0_pay20 (k0_pay185 i x0 x1) (k0_pay186 i x0 x1)) j ^^^ (((k0_pay19 (k0_pay185 i x0 x1) (k0_pay186 i x0 x1)) j <<< 24#32) ||| ((k0_pay19 (k0_pay185 i x0 x1) (k0_pay186 i x0 x1)) j >>> 8#32)))) := rfl
  have h11 : ((k0_pay188 i x0 x1) j, (k0_pay23 (k0_pay187 i x0 x1) (k0_pay188 i x0 x1) 13#32) j) = mix 13#32 19#32 (((k0_pay20 (k0_pay185 i x0 x1) (k0_pay186 i x0 x1)) j + 466689800#32), (k0_pay187 i x0 x1) j) := rfl
  have h12 : ((k0_pay24 (k0_pay187 i x0 x1) (k0_pay188 i x0 x1) 13#32) j, (k0_pay25 (k0_pay187 i x0 x1) (k0_pay188 i x0 x1) 13#32) j) = mix 15#32 17#32 ((k0_pay188 i x0 x1) j, (k0_pay23 (k0_pay187 i x0 x1) (k0_pay188 i x0 x1) 13#32) j) := rfl
  have h13 : ((k0_pay26 (k0_pay187 i x0 x1) (k0_pay188 i x0 x1) 13#32) j, (k0_pay27 (k0_pay187 i x0 x1) (k0_pay188 i x0 x1) 13#32) j) = mix 26#32 6#32 ((k0_pay24 (k0_pay187 i x0 x1) (k0_pay188 i x0 x1) 13#32) j, (k0_pay25 (k0_pay187 i x0 x1) (k0_pay188 i x0 x1) 13#32) j) := rfl
  have h14 : ((k0_pay28 (k0_pay187 i x0 x1) (k0_pay188 i x0 x1) 13#32) j, ((k0_pay28 (k0_pay187 i x0 x1) (k0_pay188 i x0 x1) 13#32) j ^^^ (((k0_pay27 (k0_pay187 i x0 x1) (k0_pay188 i x0 x1) 13#32) j <<< 6#32) ||| ((k0_pay27 (k0_pay187 i x0 x1) (k0_pay188 i x0 x1) 13#32) j >>> 26#32)))) = mix 6#32 26#32 ((k0_pay26 (k0_pay187 i x0 x1) (k0_pay188 i x0 x1) 13#32) j, (k0_pay27 (k0_pay187 i x0 x1) (k0_pay188 i x0 x1) 13#32) j) := rfl
  have h15 : (((k0_pay28 (k0_pay187 i x0 x1) (k0_pay188 i x0 x1) 13#32) j + 0#32), (k0_pay29 (k0_pay187 i x0 x1) (k0_pay188 i x0 x1) 13#32) j) = key 0#32 1237#32 ((k0_pay28 (k0_pay187 i x0 x1) (k0_pay188 i x0 x1) 13#32) j, ((k0_pay28 (k0_pay187 i x0 x1) (k0_pay188 i x0 x1) 13#32) j ^^^ (((k0_pay27 (k0_pay187 i x0 x1) (k0_pay188 i x0 x1) 13#32) j <<< 6#32) ||| ((k0_pay27 (k0_pay187 i x0 x1) (k0_pay188 i x0 x1) 13#32) j >>> 26#32)))) := rfl
  have h16 : ((k0_pay30 (k0_pay187 i x0 x1) (k0_pay188 i x0 x1) 13#32) j, (k0_pay31 (k0_pay187 i x0 x1) (k0_pay188 i x0 x1) 13#32) j) = mix 17#32 15#32 (((k0_pay28 (k0_pay187 i x0 x1) (k0_pay188 i x0 x1) 13#32) j + 0#32), (k0_pay29 (k0_pay187 i x0 x1) (k0_pay188 i x0 x1) 13#32) j) := rfl
  have h17 : ((k0_pay32 (k0_pay187 i x0 x1) (k0_pay188 i x0 x1) 13#32) j, (k0_pay189 i x0 x1) j) = mix 29#32 3#32 ((k0_pay30 (k0_pay187 i x0 x1) (k0_pay188 i x0 x1) 13#32) j, (k0_pay31 (k0_pay187 i x0 x1) (k0_pay188 i x0 x1) 13#32) j) := rfl
  have h18 : ((k0_pay190 i x0 x1) j, (k0_pay35 (k0_pay189 i x0 x1) (k0_pay190 i x0 x1) 16#32) j) = mix 16#32 16#32 ((k0_pay32 (k0_pay187 i x0 x1) (k0_pay188 i x0 x1) 13#32) j, (k0_pay189 i x0 x1) j) := rfl
  have h19 : ((k0_pay36 (k0_pay189 i x0 x1) (k0_pay190 i x0 x1) 16#32) j, ((k0_pay36 (k0_pay189 i x0 x1) (k0_pay190 i x0 x1) 16#32) j ^^^ (((k0_pay35 (k0_pay189 i x0 x1) (k0_pay190 i x0 x1) 16#32) j <<< 24#32) ||| ((k0_pay35 (k0_pay189 i x0 x1) (k0_pay190 i x0 x1) 16#32) j >>> 8#32)))) = mix 24#32 8#32 ((k0_pay190 i x0 x1) j, (k0_pay35 (k0_pay189 i x0 x1) (k0_pay190 i x0 x1) 16#32) j) := rfl
  have h20 : (((k0_pay36 (k0_pay189 i x0 x1) (k0_pay190 i x0 x1) 16#32) j + 1234#32), (k0_pay37 (k0_pay189 i x0 x1) (k0_pay190 i x0 x1) 16#32) j) = key 1234#32 466689804#32 ((k0_pay36 (k0_pay189 i x0 x1) (k0_pay190 i x0 x1) 16#32) j, ((k0_pay36 (k0_pay189 i x0 x1) (k0_pay190 i x0 x1) 16#32) j ^^^ (((k0_pay35 (k0_pay189 i x0 x1) (k0_pay190 i x0 x1) 16#32) j <<< 24#32) ||| ((k0_pay35 (k0_pay189 i x0 x1) (k0_pay190 i x0 x1) 16#32) j >>> 8#32)))) := rfl
  have h21 : ((k0_pay38 (k0_pay189 i x0 x1) (k0_pay190 i x0 x1) 16#32) j, (k0_pay39 (k0_pay189 i x0 x1) (k0_pay190 i x0 x1) 16#32) j) = mix 13#32 19#32 (((k0_pay36 (k0_pay189 i x0 x1) (k0_pay190 i x0 x1) 16#32) j + 1234#32), (k0_pay37 (k0_pay189 i x0 x1) (k0_pay190 i x0 x1) 16#32) j) := rfl
  have h22 : ((k0_pay40 (k0_pay189 i x0 x1) (k0_pay190 i x0 x1) 16#32) j, (k0_pay41 (k0_pay189 i x0 x1) (k0_pay190 i x0 x1) 16#32) j) = mix 15#32 17#32 ((k0_pay38 (k0_pay189 i x0 x1) (k0_pay190 i x0 x1) 16#32) j, (k0_pay39 (k0_pay189 i x0 x1) (k0_pay190 i x0 x1) 16#32) j) := rfl
  have h23 : ((k0_pay42 (k0_pay189 i x0 x1) (k0_pay190 i x0 x1) 16#32) j, (k0_pay43 (k0_pay189 i x0 x1) (k0_pay190 i x0 x1) 16#32) j) = mix 26#32 6#32 ((k0_pay40 (k0_pay189 i x0 x1) (k0_pay190 i x0 x1) 16#32) j, (k0_pay41 (k0_pay189 i x0 x1) (k0_pay190 i x0 x1) 16#32) j) := rfl
  have h24 : ((k0_pay191 i x0 x1) j, (k0_pay192 i x0 x1) j) = mix 6#32 26#32 ((k0_pay42 (k0_pay189 i x0 x1) (k0_pay190 i x0 x1) 16#32) j, (k0_pay43 (k0_pay189 i x0 x1) (k0_pay190 i x0 x1) 16#32) j) := rfl
  have h25 : (((k0_pay191 i x0 x1) j + 466689800#32), ((k0_pay192 i x0 x1) j + 5#32)) = key 466689800#32 5#32 ((k0_pay191 i x0 x1) j, (k0_pay192 i x0 x1) j) := rfl
  rw [h25, h24, h23, h22, h21, h20, h19, h18, h17, h16, h15, h14, h13, h12, h11, h10, h9, h8, h7, h6, h5, h4, h3, h2, h1]
  rfl

/-- The second hash of a grid point, after all its rounds. -/
theorem state_1 (i : grid0.Coords) (x0 : Vec F S8x8192 .f32) (x1 : Vec F S8x8192 .i32) (j : S8x8192.Idx) :
    ((k0_pay205 i x0 x1) j, (k0_pay206 i x0 x1) j)
      = rounds (0#32, (k0_pay51 (BitVec.ofNat 32 (i 0).val) (View.ld x1 r0_0)) j) := by
  have h1 : ((k0_pay52 (BitVec.ofNat 32 (i 0).val) (View.ld x1 r0_0)) j, (k0_pay53 (BitVec.ofNat 32 (i 0).val) (View.ld x1 r0_0)) j) = mix 13#32 19#32 (0#32, (k0_pay51 (BitVec.ofNat 32 (i 0).val) (View.ld x1 r0_0)) j) := rfl
  have h2 : ((k0_pay54 (BitVec.ofNat 32 (i 0).val) (View.ld x1 r0_0)) j, (k0_pay55 (BitVec.ofNat 32 (i 0).val) (View.ld x1 r0_0)) j) = mix 15#32 17#32 ((k0_pay52 (BitVec.ofNat 32 (i 0).val) (View.ld x1 r0_0)) j, (k0_pay53 (BitVec.ofNat 32 (i 0).val) (View.ld x1 r0_0)) j) := rfl
  have h3 : ((k0_pay56 (BitVec.ofNat 32 (i 0).val) (View.ld x1 r0_0)) j, (k0_pay194 i x0 x1) j) = mix 26#32 6#32 ((k0_pay54 (BitVec.ofNat 32 (i 0).val) (View.ld x1 r0_0)) j, (k0_pay55 (BitVec.ofNat 32 (i 0).val) (View.ld x1 r0_0)) j) := rfl
  have h4 : ((k0_pay195 i x0 x1) j, ((k0_pay195 i x0 x1) j ^^^ (((k0_pay194 i x0 x1) j <<< 6#32) ||| ((k0_pay194 i x0 x1) j >>> 26#32)))) = mix 6#32 26#32 ((k0_pay56 (BitVec.ofNat 32 (i 0).val) (View.ld x1 r0_0)) j, (k0_pay194 i x0 x1) j) := rfl
  have h5 : (((k0_pay195 i x0 x1) j + 1234#32), (k0_pay60 (k0_pay194 i x0 x1) (k0_pay195 i x0 x1) (k0_pay196 i x0 x1)) j) = key 1234#32 466689801#32 ((k0_pay195 i x0 x1) j, ((k0_pay195 i x0 x1) j ^^^ (((k0_pay194 i x0 x1) j <<< 6#32) ||| ((k0_pay194 i x0 x1) j >>> 26#32)))) := rfl
  have h6 : ((k0_pay61 (k0_pay194 i x0 x1) (k0_pay195 i x0 x1) (k0_pay196 i x0 x1)) j, (k0_pay62 (k0_pay194 i x0 x1) (k0_pay195 i x0 x1) (k0_pay196 i x0 x1)) j) = mix 17#32 15#32 (((k0_pay195 i x0 x1) j + 1234#32), (k0_pay60 (k0_pay194 i x0 x1) (k0_pay195 i x0 x1) (k0_pay196 i x0 x1)) j) := rfl
  have h7 : ((k0_pay63 (k0_pay194 i x0 x1) (k0_pay195 i x0 x1) (k0_pay196 i x0 x1)) j, (k0_pay64 (k0_pay194 i x0 x1) (k0_pay195 i x0 x1) (k0_pay196 i x0 x1)) j) = mix 29#32 3#32 ((k0_pay61 (k0_pay194 i x0 x1) (k0_pay195 i x0 x1) (k0_pay196 i x0 x1)) j, (k0_pay62 (k0_pay194 i x0 x1) (k0_pay195 i x0 x1) (k0_pay196 i x0 x1)) j) := rfl
  have h8 : ((k0_pay65 (k0_pay194 i x0 x1) (k0_pay195 i x0 x1) (k0_pay196 i x0 x1)) j, (k0_pay66 (k0_pay194 i x0 x1) (k0_pay195 i x0 x1) (k0_pay196 i x0 x1)) j) = mix 16#32 16#32 ((k0_pay63 (k0_pay194 i x0 x1) (k0_pay195 i x0 x1) (k0_pay196 i x0 x1)) j, (k0_pay64 (k0_pay194 i x0 x1) (k0_pay195 i x0 x1) (k0_pay196 i x0 x1)) j) := rfl
  have h9 : ((k0_pay67 (k0_pay194 i x0 x1) (k0_pay195 i x0 x1) (k0_pay196 i x0 x1)) j, ((k0_pay67 (k0_pay194 i x0 x1) (k0_pay195 i x0 x1) (k0_pay196 i x0 x1)) j ^^^ (((k0_pay66 (k0_pay194 i x0 x1) (k0_pay195 i x0 x1) (k0_pay196 i x0 x1)) j <<< 24#32) ||| ((k0_pay66 (k0_pay194 i x0 x1) (k0_pay195 i x0 x1) (k0_pay196 i x0 x1)) j >>> 8#32)))) = mix 24#32 8#32 ((k0_pay65 (k0_pay194 i x0 x1) (k0_pay195 i x0 x1) (k0_pay196 i x0 x1)) j, (k0_pay66 (k0_pay194 i x0 x1) (k0_pay195 i x0 x1) (k0_pay196 i x0 x1)) j) := rfl
  have h10 : (((k0_pay67 (k0_pay194 i x0 x1) (k0_pay195 i x0 x1) (k0_pay196 i x0 x1)) j + 466689800#32), (k0_pay197 i x0 x1) j) = key 466689800#32 2#32 ((k0_pay67 (k0_pay194 i x0 x1) (k0_pay195 i x0 x1) (k0_pay196 i x0 x1)) j, ((k0_pay67 (k0_pay194 i x0 x1) (k0_pay195 i x0 x1) (k0_pay196 i x0 x1)) j ^^^ (((k0_pay66 (k0_pay194 i x0 x1) (k0_pay195 i x0 x1) (k0_pay196 i x0 x1)) j <<< 24#32) ||| ((k0_pay66 (k0_pay194 i x0 x1) (k0_pay195 i x0 x1) (k0_pay196 i x0 x1)) j >>> 8#32)))) := rfl
  have h11 : ((k0_pay198 i x0 x1) j, (k0_pay72 (k0_pay197 i x0 x1) (k0_pay198 i x0 x1) (k0_pay199 i x0 x1) (k0_pay200 i x0 x1)) j) = mix 13#32 19#32 (((k0_pay67 (k0_pay194 i x0 x1) (k0_pay195 i x0 x1) (k0_pay196 i x0 x1)) j + 466689800#32), (k0_pay197 i x0 x1) j) := rfl
  have h12 : ((k0_pay73 (k0_pay197 i x0 x1) (k0_pay198 i x0 x1) (k0_pay199 i x0 x1) (k0_pay200 i x0 x1)) j, (k0_pay74 (k0_pay197 i x0 x1) (k0_pay198 i x0 x1) (k0_pay199 i x0 x1) (k0_pay200 i x0 x1)) j) = mix 15#32 17#32 ((k0_pay198 i x0 x1) j, (k0_pay72 (k0_pay197 i x0 x1) (k0_pay198 i x0 x1) (k0_pay199 i x0 x1) (k0_pay200 i x0 x1)) j) := rfl
  have h13 : ((k0_pay75 (k0_pay197 i x0 x1) (k0_pay198 i x0 x1) (k0_pay199 i x0 x1) (k0_pay200 i x0 x1)) j, (k0_pay76 (k0_pay197 i x0 x1) (k0_pay198 i x0 x1) (k0_pay199 i x0 x1) (k0_pay200 i x0 x1)) j) = mix 26#32 6#32 ((k0_pay73 (k0_pay197 i x0 x1) (k0_pay198 i x0 x1) (k0_pay199 i x0 x1) (k0_pay200 i x0 x1)) j, (k0_pay74 (k0_pay197 i x0 x1) (k0_pay198 i x0 x1) (k0_pay199 i x0 x1) (k0_pay200 i x0 x1)) j) := rfl
  have h14 : ((k0_pay77 (k0_pay197 i x0 x1) (k0_pay198 i x0 x1) (k0_pay199 i x0 x1) (k0_pay200 i x0 x1)) j, ((k0_pay77 (k0_pay197 i x0 x1) (k0_pay198 i x0 x1) (k0_pay199 i x0 x1) (k0_pay200 i x0 x1)) j ^^^ (((k0_pay76 (k0_pay197 i x0 x1) (k0_pay198 i x0 x1) (k0_pay199 i x0 x1) (k0_pay200 i x0 x1)) j <<< 6#32) ||| ((k0_pay76 (k0_pay197 i x0 x1) (k0_pay198 i x0 x1) (k0_pay199 i x0 x1) (k0_pay200 i x0 x1)) j >>> 26#32)))) = mix 6#32 26#32 ((k0_pay75 (k0_pay197 i x0 x1) (k0_pay198 i x0 x1) (k0_pay199 i x0 x1) (k0_pay200 i x0 x1)) j, (k0_pay76 (k0_pay197 i x0 x1) (k0_pay198 i x0 x1) (k0_pay199 i x0 x1) (k0_pay200 i x0 x1)) j) := rfl
  have h15 : (((k0_pay77 (k0_pay197 i x0 x1) (k0_pay198 i x0 x1) (k0_pay199 i x0 x1) (k0_pay200 i x0 x1)) j + 0#32), (k0_pay78 (k0_pay197 i x0 x1) (k0_pay198 i x0 x1) (k0_pay199 i x0 x1) (k0_pay200 i x0 x1)) j) = key 0#32 1237#32 ((k0_pay77 (k0_pay197 i x0 x1) (k0_pay198 i x0 x1) (k0_pay199 i x0 x1) (k0_pay200 i x0 x1)) j, ((k0_pay77 (k0_pay197 i x0 x1) (k0_pay198 i x0 x1) (k0_pay199 i x0 x1) (k0_pay200 i x0 x1)) j ^^^ (((k0_pay76 (k0_pay197 i x0 x1) (k0_pay198 i x0 x1) (k0_pay199 i x0 x1) (k0_pay200 i x0 x1)) j <<< 6#32) ||| ((k0_pay76 (k0_pay197 i x0 x1) (k0_pay198 i x0 x1) (k0_pay199 i x0 x1) (k0_pay200 i x0 x1)) j >>> 26#32)))) := rfl
  have h16 : ((k0_pay79 (k0_pay197 i x0 x1) (k0_pay198 i x0 x1) (k0_pay199 i x0 x1) (k0_pay200 i x0 x1)) j, (k0_pay80 (k0_pay197 i x0 x1) (k0_pay198 i x0 x1) (k0_pay199 i x0 x1) (k0_pay200 i x0 x1)) j) = mix 17#32 15#32 (((k0_pay77 (k0_pay197 i x0 x1) (k0_pay198 i x0 x1) (k0_pay199 i x0 x1) (k0_pay200 i x0 x1)) j + 0#32), (k0_pay78 (k0_pay197 i x0 x1) (k0_pay198 i x0 x1) (k0_pay199 i x0 x1) (k0_pay200 i x0 x1)) j) := rfl
  have h17 : ((k0_pay81 (k0_pay197 i x0 x1) (k0_pay198 i x0 x1) (k0_pay199 i x0 x1) (k0_pay200 i x0 x1)) j, (k0_pay201 i x0 x1) j) = mix 29#32 3#32 ((k0_pay79 (k0_pay197 i x0 x1) (k0_pay198 i x0 x1) (k0_pay199 i x0 x1) (k0_pay200 i x0 x1)) j, (k0_pay80 (k0_pay197 i x0 x1) (k0_pay198 i x0 x1) (k0_pay199 i x0 x1) (k0_pay200 i x0 x1)) j) := rfl
  have h18 : ((k0_pay202 i x0 x1) j, (k0_pay86 (k0_pay201 i x0 x1) (k0_pay202 i x0 x1) (k0_pay203 i x0 x1) (k0_pay204 i x0 x1)) j) = mix 16#32 16#32 ((k0_pay81 (k0_pay197 i x0 x1) (k0_pay198 i x0 x1) (k0_pay199 i x0 x1) (k0_pay200 i x0 x1)) j, (k0_pay201 i x0 x1) j) := rfl
  have h19 : ((k0_pay87 (k0_pay201 i x0 x1) (k0_pay202 i x0 x1) (k0_pay203 i x0 x1) (k0_pay204 i x0 x1)) j, ((k0_pay87 (k0_pay201 i x0 x1) (k0_pay202 i x0 x1) (k0_pay203 i x0 x1) (k0_pay204 i x0 x1)) j ^^^ (((k0_pay86 (k0_pay201 i x0 x1) (k0_pay202 i x0 x1) (k0_pay203 i x0 x1) (k0_pay204 i x0 x1)) j <<< 24#32) ||| ((k0_pay86 (k0_pay201 i x0 x1) (k0_pay202 i x0 x1) (k0_pay203 i x0 x1) (k0_pay204 i x0 x1)) j >>> 8#32)))) = mix 24#32 8#32 ((k0_pay202 i x0 x1) j, (k0_pay86 (k0_pay201 i x0 x1) (k0_pay202 i x0 x1) (k0_pay203 i x0 x1) (k0_pay204 i x0 x1)) j) := rfl
  have h20 : (((k0_pay87 (k0_pay201 i x0 x1) (k0_pay202 i x0 x1) (k0_pay203 i x0 x1) (k0_pay204 i x0 x1)) j + 1234#32), (k0_pay88 (k0_pay201 i x0 x1) (k0_pay202 i x0 x1) (k0_pay203 i x0 x1) (k0_pay204 i x0 x1)) j) = key 1234#32 466689804#32 ((k0_pay87 (k0_pay201 i x0 x1) (k0_pay202 i x0 x1) (k0_pay203 i x0 x1) (k0_pay204 i x0 x1)) j, ((k0_pay87 (k0_pay201 i x0 x1) (k0_pay202 i x0 x1) (k0_pay203 i x0 x1) (k0_pay204 i x0 x1)) j ^^^ (((k0_pay86 (k0_pay201 i x0 x1) (k0_pay202 i x0 x1) (k0_pay203 i x0 x1) (k0_pay204 i x0 x1)) j <<< 24#32) ||| ((k0_pay86 (k0_pay201 i x0 x1) (k0_pay202 i x0 x1) (k0_pay203 i x0 x1) (k0_pay204 i x0 x1)) j >>> 8#32)))) := rfl
  have h21 : ((k0_pay89 (k0_pay201 i x0 x1) (k0_pay202 i x0 x1) (k0_pay203 i x0 x1) (k0_pay204 i x0 x1)) j, (k0_pay90 (k0_pay201 i x0 x1) (k0_pay202 i x0 x1) (k0_pay203 i x0 x1) (k0_pay204 i x0 x1)) j) = mix 13#32 19#32 (((k0_pay87 (k0_pay201 i x0 x1) (k0_pay202 i x0 x1) (k0_pay203 i x0 x1) (k0_pay204 i x0 x1)) j + 1234#32), (k0_pay88 (k0_pay201 i x0 x1) (k0_pay202 i x0 x1) (k0_pay203 i x0 x1) (k0_pay204 i x0 x1)) j) := rfl
  have h22 : ((k0_pay91 (k0_pay201 i x0 x1) (k0_pay202 i x0 x1) (k0_pay203 i x0 x1) (k0_pay204 i x0 x1)) j, (k0_pay92 (k0_pay201 i x0 x1) (k0_pay202 i x0 x1) (k0_pay203 i x0 x1) (k0_pay204 i x0 x1)) j) = mix 15#32 17#32 ((k0_pay89 (k0_pay201 i x0 x1) (k0_pay202 i x0 x1) (k0_pay203 i x0 x1) (k0_pay204 i x0 x1)) j, (k0_pay90 (k0_pay201 i x0 x1) (k0_pay202 i x0 x1) (k0_pay203 i x0 x1) (k0_pay204 i x0 x1)) j) := rfl
  have h23 : ((k0_pay93 (k0_pay201 i x0 x1) (k0_pay202 i x0 x1) (k0_pay203 i x0 x1) (k0_pay204 i x0 x1)) j, (k0_pay94 (k0_pay201 i x0 x1) (k0_pay202 i x0 x1) (k0_pay203 i x0 x1) (k0_pay204 i x0 x1)) j) = mix 26#32 6#32 ((k0_pay91 (k0_pay201 i x0 x1) (k0_pay202 i x0 x1) (k0_pay203 i x0 x1) (k0_pay204 i x0 x1)) j, (k0_pay92 (k0_pay201 i x0 x1) (k0_pay202 i x0 x1) (k0_pay203 i x0 x1) (k0_pay204 i x0 x1)) j) := rfl
  have h24 : ((k0_pay95 (k0_pay201 i x0 x1) (k0_pay202 i x0 x1) (k0_pay203 i x0 x1) (k0_pay204 i x0 x1)) j, ((k0_pay95 (k0_pay201 i x0 x1) (k0_pay202 i x0 x1) (k0_pay203 i x0 x1) (k0_pay204 i x0 x1)) j ^^^ (((k0_pay94 (k0_pay201 i x0 x1) (k0_pay202 i x0 x1) (k0_pay203 i x0 x1) (k0_pay204 i x0 x1)) j <<< 6#32) ||| ((k0_pay94 (k0_pay201 i x0 x1) (k0_pay202 i x0 x1) (k0_pay203 i x0 x1) (k0_pay204 i x0 x1)) j >>> 26#32)))) = mix 6#32 26#32 ((k0_pay93 (k0_pay201 i x0 x1) (k0_pay202 i x0 x1) (k0_pay203 i x0 x1) (k0_pay204 i x0 x1)) j, (k0_pay94 (k0_pay201 i x0 x1) (k0_pay202 i x0 x1) (k0_pay203 i x0 x1) (k0_pay204 i x0 x1)) j) := rfl
  have h25 : ((k0_pay205 i x0 x1) j, (k0_pay206 i x0 x1) j) = key 466689800#32 5#32 ((k0_pay95 (k0_pay201 i x0 x1) (k0_pay202 i x0 x1) (k0_pay203 i x0 x1) (k0_pay204 i x0 x1)) j, ((k0_pay95 (k0_pay201 i x0 x1) (k0_pay202 i x0 x1) (k0_pay203 i x0 x1) (k0_pay204 i x0 x1)) j ^^^ (((k0_pay94 (k0_pay201 i x0 x1) (k0_pay202 i x0 x1) (k0_pay203 i x0 x1) (k0_pay204 i x0 x1)) j <<< 6#32) ||| ((k0_pay94 (k0_pay201 i x0 x1) (k0_pay202 i x0 x1) (k0_pay203 i x0 x1) (k0_pay204 i x0 x1)) j >>> 26#32)))) := rfl
  rw [h25, h24, h23, h22, h21, h20, h19, h18, h17, h16, h15, h14, h13, h12, h11, h10, h9, h8, h7, h6, h5, h4, h3, h2, h1]
  rfl

/-- The third hash of a grid point, up to the last round of its fourth group, where the text is cut. -/
theorem state_2 (i : grid0.Coords) (x0 : Vec F S8x8192 .f32) (x1 : Vec F S8x8192 .i32) (j : S8x8192.Idx) :
    ((k0_pay135 (k0_pay210 i x0 x1) (k0_pay211 i x0 x1)) j, ((k0_pay135 (k0_pay210 i x0 x1) (k0_pay211 i x0 x1)) j ^^^ (((k0_pay134 (k0_pay210 i x0 x1) (k0_pay211 i x0 x1)) j <<< 24#32) ||| ((k0_pay134 (k0_pay210 i x0 x1) (k0_pay211 i x0 x1)) j >>> 8#32))))
      = mix 24#32 8#32 (mix 16#32 16#32 (mix 29#32 3#32 (mix 17#32 15#32 (key 0#32 1237#32 (mix 6#32 26#32 (mix 26#32 6#32 (mix 15#32 17#32 (mix 13#32 19#32 (key 466689800#32 2#32 (mix 24#32 8#32 (mix 16#32 16#32 (mix 29#32 3#32 (mix 17#32 15#32 (key 1234#32 466689801#32 (mix 6#32 26#32 (mix 26#32 6#32 (mix 15#32 17#32 (mix 13#32 19#32 (0#32, (k0_pay102 (BitVec.ofNat 32 (i 0).val) (View.ld x1 r0_0)) j))))))))))))))))))) := by
  have h1 : ((k0_pay103 (BitVec.ofNat 32 (i 0).val) (View.ld x1 r0_0)) j, (k0_pay104 (BitVec.ofNat 32 (i 0).val) (View.ld x1 r0_0)) j) = mix 13#32 19#32 (0#32, (k0_pay102 (BitVec.ofNat 32 (i 0).val) (View.ld x1 r0_0)) j) := rfl
  have h2 : ((k0_pay105 (BitVec.ofNat 32 (i 0).val) (View.ld x1 r0_0)) j, (k0_pay106 (BitVec.ofNat 32 (i 0).val) (View.ld x1 r0_0)) j) = mix 15#32 17#32 ((k0_pay103 (BitVec.ofNat 32 (i 0).val) (View.ld x1 r0_0)) j, (k0_pay104 (BitVec.ofNat 32 (i 0).val) (View.ld x1 r0_0)) j) := rfl
  have h3 : ((k0_pay107 (BitVec.ofNat 32 (i 0).val) (View.ld x1 r0_0)) j, (k0_pay108 (BitVec.ofNat 32 (i 0).val) (View.ld x1 r0_0)) j) = mix 26#32 6#32 ((k0_pay105 (BitVec.ofNat 32 (i 0).val) (View.ld x1 r0_0)) j, (k0_pay106 (BitVec.ofNat 32 (i 0).val) (View.ld x1 r0_0)) j) := rfl
  have h4 : ((k0_pay207 i x0 x1) j, ((k0_pay207 i x0 x1) j ^^^ ((k0_pay208 i x0 x1) j ||| (k0_pay209 i x0 x1) j))) = mix 6#32 26#32 ((k0_pay107 (BitVec.ofNat 32 (i 0).val) (View.ld x1 r0_0)) j, (k0_pay108 (BitVec.ofNat 32 (i 0).val) (View.ld x1 r0_0)) j) := rfl
  have h5 : (((k0_pay207 i x0 x1) j + 1234#32), (k0_pay112 (k0_pay207 i x0 x1) (k0_pay208 i x0 x1) (k0_pay209 i x0 x1)) j) = key 1234#32 466689801#32 ((k0_pay207 i x0 x1) j, ((k0_pay207 i x0 x1) j ^^^ ((k0_pay208 i x0 x1) j ||| (k0_pay209 i x0 x1) j))) := rfl
  have h6 : ((k0_pay113 (k0_pay207 i x0 x1) (k0_pay208 i x0 x1) (k0_pay209 i x0 x1)) j, (k0_pay114 (k0_pay207 i x0 x1) (k0_pay208 i x0 x1) (k0_pay209 i x0 x1)) j) = mix 17#32 15#32 (((k0_pay207 i x0 x1) j + 1234#32), (k0_pay112 (k0_pay207 i x0 x1) (k0_pay208 i x0 x1) (k0_pay209 i x0 x1)) j) := rfl
  have h7 : ((k0_pay115 (k0_pay207 i x0 x1) (k0_pay208 i x0 x1) (k0_pay209 i x0 x1)) j, (k0_pay116 (k0_pay207 i x0 x1) (k0_pay208 i x0 x1) (k0_pay209 i x0 x1)) j) = mix 29#32 3#32 ((k0_pay113 (k0_pay207 i x0 x1) (k0_pay208 i x0 x1) (k0_pay209 i x0 x1)) j, (k0_pay114 (k0_pay207 i x0 x1) (k0_pay208 i x0 x1) (k0_pay209 i x0 x1)) j) := rfl
  have h8 : ((k0_pay117 (k0_pay207 i x0 x1) (k0_pay208 i x0 x1) (k0_pay209 i x0 x1)) j, (k0_pay118 (k0_pay207 i x0 x1) (k0_pay208 i x0 x1) (k0_pay209 i x0 x1)) j) = mix 16#32 16#32 ((k0_pay115 (k0_pay207 i x0 x1) (k0_pay208 i x0 x1) (k0_pay209 i x0 x1)) j, (k0_pay116 (k0_pay207 i x0 x1) (k0_pay208 i x0 x1) (k0_pay209 i x0 x1)) j) := rfl
  have h9 : ((k0_pay119 (k0_pay207 i x0 x1) (k0_pay208 i x0 x1) (k0_pay209 i x0 x1)) j, ((k0_pay119 (k0_pay207 i x0 x1) (k0_pay208 i x0 x1) (k0_pay209 i x0 x1)) j ^^^ (((k0_pay118 (k0_pay207 i x0 x1) (k0_pay208 i x0 x1) (k0_pay209 i x0 x1)) j <<< 24#32) ||| ((k0_pay118 (k0_pay207 i x0 x1) (k0_pay208 i x0 x1) (k0_pay209 i x0 x1)) j >>> 8#32)))) = mix 24#32 8#32 ((k0_pay117 (k0_pay207 i x0 x1) (k0_pay208 i x0 x1) (k0_pay209 i x0 x1)) j, (k0_pay118 (k0_pay207 i x0 x1) (k0_pay208 i x0 x1) (k0_pay209 i x0 x1)) j) := rfl
  have h10 : (((k0_pay119 (k0_pay207 i x0 x1) (k0_pay208 i x0 x1) (k0_pay209 i x0 x1)) j + 466689800#32), (k0_pay120 (k0_pay207 i x0 x1) (k0_pay208 i x0 x1) (k0_pay209 i x0 x1)) j) = key 466689800#32 2#32 ((k0_pay119 (k0_pay207 i x0 x1) (k0_pay208 i x0 x1) (k0_pay209 i x0 x1)) j, ((k0_pay119 (k0_pay207 i x0 x1) (k0_pay208 i x0 x1) (k0_pay209 i x0 x1)) j ^^^ (((k0_pay118 (k0_pay207 i x0 x1) (k0_pay208 i x0 x1) (k0_pay209 i x0 x1)) j <<< 24#32) ||| ((k0_pay118 (k0_pay207 i x0 x1) (k0_pay208 i x0 x1) (k0_pay209 i x0 x1)) j >>> 8#32)))) := rfl
  have h11 : ((k0_pay121 (k0_pay207 i x0 x1) (k0_pay208 i x0 x1) (k0_pay209 i x0 x1)) j, (k0_pay210 i x0 x1) j) = mix 13#32 19#32 (((k0_pay119 (k0_pay207 i x0 x1) (k0_pay208 i x0 x1) (k0_pay209 i x0 x1)) j + 466689800#32), (k0_pay120 (k0_pay207 i x0 x1) (k0_pay208 i x0 x1) (k0_pay209 i x0 x1)) j) := rfl
  have h12 : ((k0_pay211 i x0 x1) j, (k0_pay124 (k0_pay210 i x0 x1) (k0_pay211 i x0 x1)) j) = mix 15#32 17#32 ((k0_pay121 (k0_pay207 i x0 x1) (k0_pay208 i x0 x1) (k0_pay209 i x0 x1)) j, (k0_pay210 i x0 x1) j) := rfl
  have h13 : ((k0_pay125 (k0_pay210 i x0 x1) (k0_pay211 i x0 x1)) j, (k0_pay126 (k0_pay210 i x0 x1) (k0_pay211 i x0 x1)) j) = mix 26#32 6#32 ((k0_pay211 i x0 x1) j, (k0_pay124 (k0_pay210 i x0 x1) (k0_pay211 i x0 x1)) j) := rfl
  have h14 : ((k0_pay127 (k0_pay210 i x0 x1) (k0_pay211 i x0 x1)) j, ((k0_pay127 (k0_pay210 i x0 x1) (k0_pay211 i x0 x1)) j ^^^ (((k0_pay126 (k0_pay210 i x0 x1) (k0_pay211 i x0 x1)) j <<< 6#32) ||| ((k0_pay126 (k0_pay210 i x0 x1) (k0_pay211 i x0 x1)) j >>> 26#32)))) = mix 6#32 26#32 ((k0_pay125 (k0_pay210 i x0 x1) (k0_pay211 i x0 x1)) j, (k0_pay126 (k0_pay210 i x0 x1) (k0_pay211 i x0 x1)) j) := rfl
  have h15 : (((k0_pay127 (k0_pay210 i x0 x1) (k0_pay211 i x0 x1)) j + 0#32), (k0_pay128 (k0_pay210 i x0 x1) (k0_pay211 i x0 x1)) j) = key 0#32 1237#32 ((k0_pay127 (k0_pay210 i x0 x1) (k0_pay211 i x0 x1)) j, ((k0_pay127 (k0_pay210 i x0 x1) (k0_pay211 i x0 x1)) j ^^^ (((k0_pay126 (k0_pay210 i x0 x1) (k0_pay211 i x0 x1)) j <<< 6#32) ||| ((k0_pay126 (k0_pay210 i x0 x1) (k0_pay211 i x0 x1)) j >>> 26#32)))) := rfl
  have h16 : ((k0_pay129 (k0_pay210 i x0 x1) (k0_pay211 i x0 x1)) j, (k0_pay130 (k0_pay210 i x0 x1) (k0_pay211 i x0 x1)) j) = mix 17#32 15#32 (((k0_pay127 (k0_pay210 i x0 x1) (k0_pay211 i x0 x1)) j + 0#32), (k0_pay128 (k0_pay210 i x0 x1) (k0_pay211 i x0 x1)) j) := rfl
  have h17 : ((k0_pay131 (k0_pay210 i x0 x1) (k0_pay211 i x0 x1)) j, (k0_pay132 (k0_pay210 i x0 x1) (k0_pay211 i x0 x1)) j) = mix 29#32 3#32 ((k0_pay129 (k0_pay210 i x0 x1) (k0_pay211 i x0 x1)) j, (k0_pay130 (k0_pay210 i x0 x1) (k0_pay211 i x0 x1)) j) := rfl
  have h18 : ((k0_pay133 (k0_pay210 i x0 x1) (k0_pay211 i x0 x1)) j, (k0_pay134 (k0_pay210 i x0 x1) (k0_pay211 i x0 x1)) j) = mix 16#32 16#32 ((k0_pay131 (k0_pay210 i x0 x1) (k0_pay211 i x0 x1)) j, (k0_pay132 (k0_pay210 i x0 x1) (k0_pay211 i x0 x1)) j) := rfl
  have h19 : ((k0_pay135 (k0_pay210 i x0 x1) (k0_pay211 i x0 x1)) j, ((k0_pay135 (k0_pay210 i x0 x1) (k0_pay211 i x0 x1)) j ^^^ (((k0_pay134 (k0_pay210 i x0 x1) (k0_pay211 i x0 x1)) j <<< 24#32) ||| ((k0_pay134 (k0_pay210 i x0 x1) (k0_pay211 i x0 x1)) j >>> 8#32)))) = mix 24#32 8#32 ((k0_pay133 (k0_pay210 i x0 x1) (k0_pay211 i x0 x1)) j, (k0_pay134 (k0_pay210 i x0 x1) (k0_pay211 i x0 x1)) j) := rfl
  rw [h19, h18, h17, h16, h15, h14, h13, h12, h11, h10, h9, h8, h7, h6, h5, h4, h3, h2, h1]

/-- The fourth hash of a grid point, up to the last round of its fourth group, where the text is cut. -/
theorem state_3 (i : grid0.Coords) (x0 : Vec F S8x8192 .f32) (x1 : Vec F S8x8192 .i32) (j : S8x8192.Idx) :
    ((k0_pay175 (k0_pay216 i x0 x1) (k0_pay217 i x0 x1) (k0_pay218 i x0 x1) 17#32) j, ((k0_pay175 (k0_pay216 i x0 x1) (k0_pay217 i x0 x1) (k0_pay218 i x0 x1) 17#32) j ^^^ ((k0_pay176 (k0_pay216 i x0 x1) (k0_pay217 i x0 x1) (k0_pay218 i x0 x1) 17#32) j ||| ((k0_pay174 (k0_pay216 i x0 x1) (k0_pay217 i x0 x1) (k0_pay218 i x0 x1) 17#32) j >>> 8#32))))
      = mix 24#32 8#32 (mix 16#32 16#32 (mix 29#32 3#32 (mix 17#32 15#32 (key 0#32 1237#32 (mix 6#32 26#32 (mix 26#32 6#32 (mix 15#32 17#32 (mix 13#32 19#32 (key 466689800#32 2#32 (mix 24#32 8#32 (mix 16#32 16#32 (mix 29#32 3#32 (mix 17#32 15#32 (key 1234#32 466689801#32 (mix 6#32 26#32 (mix 26#32 6#32 (mix 15#32 17#32 (mix 13#32 19#32 (0#32, (k0_pay141 (BitVec.ofNat 32 (i 0).val) (View.ld x1 r0_0)) j))))))))))))))))))) := by
  have h1 : ((k0_pay142 (BitVec.ofNat 32 (i 0).val) (View.ld x1 r0_0)) j, (k0_pay143 (BitVec.ofNat 32 (i 0).val) (View.ld x1 r0_0)) j) = mix 13#32 19#32 (0#32, (k0_pay141 (BitVec.ofNat 32 (i 0).val) (View.ld x1 r0_0)) j) := rfl
  have h2 : ((k0_pay144 (BitVec.ofNat 32 (i 0).val) (View.ld x1 r0_0)) j, (k0_pay145 (BitVec.ofNat 32 (i 0).val) (View.ld x1 r0_0)) j) = mix 15#32 17#32 ((k0_pay142 (BitVec.ofNat 32 (i 0).val) (View.ld x1 r0_0)) j, (k0_pay143 (BitVec.ofNat 32 (i 0).val) (View.ld x1 r0_0)) j) := rfl
  have h3 : ((k0_pay146 (BitVec.ofNat 32 (i 0).val) (View.ld x1 r0_0)) j, (k0_pay147 (BitVec.ofNat 32 (i 0).val) (View.ld x1 r0_0)) j) = mix 26#32 6#32 ((k0_pay144 (BitVec.ofNat 32 (i 0).val) (View.ld x1 r0_0)) j, (k0_pay145 (BitVec.ofNat 32 (i 0).val) (View.ld x1 r0_0)) j) := rfl
  have h4 : ((k0_pay213 i x0 x1) j, (k0_pay214 i x0 x1) j) = mix 6#32 26#32 ((k0_pay146 (BitVec.ofNat 32 (i 0).val) (View.ld x1 r0_0)) j, (k0_pay147 (BitVec.ofNat 32 (i 0).val) (View.ld x1 r0_0)) j) := rfl
  have h5 : (((k0_pay213 i x0 x1) j + 1234#32), (k0_pay151 (k0_pay214 i x0 x1)) j) = key 1234#32 466689801#32 ((k0_pay213 i x0 x1) j, (k0_pay214 i x0 x1) j) := rfl
  have h6 : ((k0_pay152 (k0_pay213 i x0 x1) (k0_pay214 i x0 x1) (k0_pay215 i x0 x1)) j, (k0_pay153 (k0_pay213 i x0 x1) (k0_pay214 i x0 x1) (k0_pay215 i x0 x1)) j) = mix 17#32 15#32 (((k0_pay213 i x0 x1) j + 1234#32), (k0_pay151 (k0_pay214 i x0 x1)) j) := rfl
  have h7 : ((k0_pay154 (k0_pay213 i x0 x1) (k0_pay214 i x0 x1) (k0_pay215 i x0 x1)) j, (k0_pay155 (k0_pay213 i x0 x1) (k0_pay214 i x0 x1) (k0_pay215 i x0 x1)) j) = mix 29#32 3#32 ((k0_pay152 (k0_pay213 i x0 x1) (k0_pay214 i x0 x1) (k0_pay215 i x0 x1)) j, (k0_pay153 (k0_pay213 i x0 x1) (k0_pay214 i x0 x1) (k0_pay215 i x0 x1)) j) := rfl
  have h8 : ((k0_pay156 (k0_pay213 i x0 x1) (k0_pay214 i x0 x1) (k0_pay215 i x0 x1)) j, (k0_pay157 (k0_pay213 i x0 x1) (k0_pay214 i x0 x1) (k0_pay215 i x0 x1)) j) = mix 16#32 16#32 ((k0_pay154 (k0_pay213 i x0 x1) (k0_pay214 i x0 x1) (k0_pay215 i x0 x1)) j, (k0_pay155 (k0_pay213 i x0 x1) (k0_pay214 i x0 x1) (k0_pay215 i x0 x1)) j) := rfl
  have h9 : ((k0_pay158 (k0_pay213 i x0 x1) (k0_pay214 i x0 x1) (k0_pay215 i x0 x1)) j, ((k0_pay158 (k0_pay213 i x0 x1) (k0_pay214 i x0 x1) (k0_pay215 i x0 x1)) j ^^^ (((k0_pay157 (k0_pay213 i x0 x1) (k0_pay214 i x0 x1) (k0_pay215 i x0 x1)) j <<< 24#32) ||| ((k0_pay157 (k0_pay213 i x0 x1) (k0_pay214 i x0 x1) (k0_pay215 i x0 x1)) j >>> 8#32)))) = mix 24#32 8#32 ((k0_pay156 (k0_pay213 i x0 x1) (k0_pay214 i x0 x1) (k0_pay215 i x0 x1)) j, (k0_pay157 (k0_pay213 i x0 x1) (k0_pay214 i x0 x1) (k0_pay215 i x0 x1)) j) := rfl
  have h10 : (((k0_pay158 (k0_pay213 i x0 x1) (k0_pay214 i x0 x1) (k0_pay215 i x0 x1)) j + 466689800#32), (k0_pay159 (k0_pay213 i x0 x1) (k0_pay214 i x0 x1) (k0_pay215 i x0 x1)) j) = key 466689800#32 2#32 ((k0_pay158 (k0_pay213 i x0 x1) (k0_pay214 i x0 x1) (k0_pay215 i x0 x1)) j, ((k0_pay158 (k0_pay213 i x0 x1) (k0_pay214 i x0 x1) (k0_pay215 i x0 x1)) j ^^^ (((k0_pay157 (k0_pay213 i x0 x1) (k0_pay214 i x0 x1) (k0_pay215 i x0 x1)) j <<< 24#32) ||| ((k0_pay157 (k0_pay213 i x0 x1) (k0_pay214 i x0 x1) (k0_pay215 i x0 x1)) j >>> 8#32)))) := rfl
  have h11 : ((k0_pay160 (k0_pay213 i x0 x1) (k0_pay214 i x0 x1) (k0_pay215 i x0 x1)) j, (k0_pay216 i x0 x1) j) = mix 13#32 19#32 (((k0_pay158 (k0_pay213 i x0 x1) (k0_pay214 i x0 x1) (k0_pay215 i x0 x1)) j + 466689800#32), (k0_pay159 (k0_pay213 i x0 x1) (k0_pay214 i x0 x1) (k0_pay215 i x0 x1)) j) := rfl
  have h12 : ((k0_pay217 i x0 x1) j, (k0_pay164 (k0_pay216 i x0 x1) (k0_pay217 i x0 x1) (k0_pay218 i x0 x1) 17#32) j) = mix 15#32 17#32 ((k0_pay160 (k0_pay213 i x0 x1) (k0_pay214 i x0 x1) (k0_pay215 i x0 x1)) j, (k0_pay216 i x0 x1) j) := rfl
  have h13 : ((k0_pay165 (k0_pay216 i x0 x1) (k0_pay217 i x0 x1) (k0_pay218 i x0 x1) 17#32) j, (k0_pay166 (k0_pay216 i x0 x1) (k0_pay217 i x0 x1) (k0_pay218 i x0 x1) 17#32) j) = mix 26#32 6#32 ((k0_pay217 i x0 x1) j, (k0_pay164 (k0_pay216 i x0 x1) (k0_pay217 i x0 x1) (k0_pay218 i x0 x1) 17#32) j) := rfl
  have h14 : ((k0_pay167 (k0_pay216 i x0 x1) (k0_pay217 i x0 x1) (k0_pay218 i x0 x1) 17#32) j, ((k0_pay167 (k0_pay216 i x0 x1) (k0_pay217 i x0 x1) (k0_pay218 i x0 x1) 17#32) j ^^^ (((k0_pay166 (k0_pay216 i x0 x1) (k0_pay217 i x0 x1) (k0_pay218 i x0 x1) 17#32) j <<< 6#32) ||| ((k0_pay166 (k0_pay216 i x0 x1) (k0_pay217 i x0 x1) (k0_pay218 i x0 x1) 17#32) j >>> 26#32)))) = mix 6#32 26#32 ((k0_pay165 (k0_pay216 i x0 x1) (k0_pay217 i x0 x1) (k0_pay218 i x0 x1) 17#32) j, (k0_pay166 (k0_pay216 i x0 x1) (k0_pay217 i x0 x1) (k0_pay218 i x0 x1) 17#32) j) := rfl
  have h15 : (((k0_pay167 (k0_pay216 i x0 x1) (k0_pay217 i x0 x1) (k0_pay218 i x0 x1) 17#32) j + 0#32), (k0_pay168 (k0_pay216 i x0 x1) (k0_pay217 i x0 x1) (k0_pay218 i x0 x1) 17#32) j) = key 0#32 1237#32 ((k0_pay167 (k0_pay216 i x0 x1) (k0_pay217 i x0 x1) (k0_pay218 i x0 x1) 17#32) j, ((k0_pay167 (k0_pay216 i x0 x1) (k0_pay217 i x0 x1) (k0_pay218 i x0 x1) 17#32) j ^^^ (((k0_pay166 (k0_pay216 i x0 x1) (k0_pay217 i x0 x1) (k0_pay218 i x0 x1) 17#32) j <<< 6#32) ||| ((k0_pay166 (k0_pay216 i x0 x1) (k0_pay217 i x0 x1) (k0_pay218 i x0 x1) 17#32) j >>> 26#32)))) := rfl
  have h16 : ((k0_pay169 (k0_pay216 i x0 x1) (k0_pay217 i x0 x1) (k0_pay218 i x0 x1) 17#32) j, (k0_pay170 (k0_pay216 i x0 x1) (k0_pay217 i x0 x1) (k0_pay218 i x0 x1) 17#32) j) = mix 17#32 15#32 (((k0_pay167 (k0_pay216 i x0 x1) (k0_pay217 i x0 x1) (k0_pay218 i x0 x1) 17#32) j + 0#32), (k0_pay168 (k0_pay216 i x0 x1) (k0_pay217 i x0 x1) (k0_pay218 i x0 x1) 17#32) j) := rfl
  have h17 : ((k0_pay171 (k0_pay216 i x0 x1) (k0_pay217 i x0 x1) (k0_pay218 i x0 x1) 17#32) j, (k0_pay172 (k0_pay216 i x0 x1) (k0_pay217 i x0 x1) (k0_pay218 i x0 x1) 17#32) j) = mix 29#32 3#32 ((k0_pay169 (k0_pay216 i x0 x1) (k0_pay217 i x0 x1) (k0_pay218 i x0 x1) 17#32) j, (k0_pay170 (k0_pay216 i x0 x1) (k0_pay217 i x0 x1) (k0_pay218 i x0 x1) 17#32) j) := rfl
  have h18 : ((k0_pay173 (k0_pay216 i x0 x1) (k0_pay217 i x0 x1) (k0_pay218 i x0 x1) 17#32) j, (k0_pay174 (k0_pay216 i x0 x1) (k0_pay217 i x0 x1) (k0_pay218 i x0 x1) 17#32) j) = mix 16#32 16#32 ((k0_pay171 (k0_pay216 i x0 x1) (k0_pay217 i x0 x1) (k0_pay218 i x0 x1) 17#32) j, (k0_pay172 (k0_pay216 i x0 x1) (k0_pay217 i x0 x1) (k0_pay218 i x0 x1) 17#32) j) := rfl
  have h19 : ((k0_pay175 (k0_pay216 i x0 x1) (k0_pay217 i x0 x1) (k0_pay218 i x0 x1) 17#32) j, ((k0_pay175 (k0_pay216 i x0 x1) (k0_pay217 i x0 x1) (k0_pay218 i x0 x1) 17#32) j ^^^ ((k0_pay176 (k0_pay216 i x0 x1) (k0_pay217 i x0 x1) (k0_pay218 i x0 x1) 17#32) j ||| ((k0_pay174 (k0_pay216 i x0 x1) (k0_pay217 i x0 x1) (k0_pay218 i x0 x1) 17#32) j >>> 8#32)))) = mix 24#32 8#32 ((k0_pay173 (k0_pay216 i x0 x1) (k0_pay217 i x0 x1) (k0_pay218 i x0 x1) 17#32) j, (k0_pay174 (k0_pay216 i x0 x1) (k0_pay217 i x0 x1) (k0_pay218 i x0 x1) 17#32) j) := rfl
  rw [h19, h18, h17, h16, h15, h14, h13, h12, h11, h10, h9, h8, h7, h6, h5, h4, h3, h2, h1]

/-- The rest of the third hash, from the two arrays at the cut, with the shift by nine that follows. -/
theorem rest_2 (a b : IVec S8x8192 32) (j : S8x8192.Idx) :
    k0_pay136 a b j
      = ((key 466689800#32 5#32 (four (key 1234#32 466689804#32 (b j, b j ^^^ (a j <<< 24#32 ||| a j >>> 8#32))))).1
        ^^^ (key 466689800#32 5#32 (four (key 1234#32 466689804#32 (b j, b j ^^^ (a j <<< 24#32 ||| a j >>> 8#32))))).2) >>> 9#32 := rfl

/-- The rest of the fourth hash, from the three arrays at the cut, with the reading of its top bits as a float. -/
theorem rest_3 (a b d : IVec S8x8192 32) (j : S8x8192.Idx) :
    k0_pay177 (F := F) a b d 8#32 j
      = unit ((key 466689800#32 5#32 (four (key 1234#32 466689804#32 (b j, b j ^^^ (d j ||| a j >>> 8#32))))).1
        ^^^ (key 466689800#32 5#32 (four (key 1234#32 466689804#32 (b j, b j ^^^ (d j ||| a j >>> 8#32))))).2) := rfl

end Cert.KernelIdeal.Noise

end
-- ==== Proof.KernelBlock.lean ====
/-
  ONE BLOCK OF THE KERNEL, ROW BY ROW. The four pairs of samples of a grid point go through one body: the scores of the
  eight rows, the greatest of each group of four rows by two exchanges, and one where a row attains it. The rows of a
  group are the classes of one sample; rows 2 to 5 belong to the pair's first sample, rows 6, 7, 0, 1 to its second.
-/
module

public import proofs.«01_k».proof.Proof.KernelWords
public import proofs.«01_k».proof.Proof.Gen.KernelIdeal.Frame
public import Idealize.ShloMosaic.Lib.Pointwise

@[expose] public section

set_option maxRecDepth 16384

noncomputable section

namespace Cert.KernelIdeal.Noise

open Cert.KernelIdeal Cert.KernelIdeal.Gen Cert.Words
open Idealize.ShloMosaic Idealize.ShloMosaic.TcCoe

variable {F : FTy → Type} [FloatOps F]

/-! ## Rotations of the rows -/

/-- The row `k` further on, around the eight rows. -/
def turn (k : ℕ) (r : Fin 8) : Fin 8 := ⟨(r.val + k) % 8, Nat.mod_lt _ (by decide)⟩

/-- An array with its rows rotated by `k`. -/
def roll (k : ℕ) (x : FVec F S8x8192 .f32) : FVec F S8x8192 .f32 := fun j => x (ix2 (turn k (j 0)) (j 1))

theorem roll_1 (x : FVec F S8x8192 .f32) :
    concatenate S8x8192 0 [⟨S7x8192, extractStridedSlice S7x8192 ![1, 0] x slices_S8x8192_o1_0_S7x8192⟩, ⟨S1x8192, extractStridedSlice S1x8192 ![0, 0] x slices_S8x8192_o0_0_S1x8192⟩] concatenates_S7x8192_S1x8192_S8x8192_d0 = roll 1 x := by
  funext j
  idx_vars j
  pointwise
  show _ = x (ix2 (turn 1 j0) j1)
  unfold turn
  split
  all_goals (congr 2; apply Fin.ext; simp only []; omega)

theorem roll_7 (x : FVec F S8x8192 .f32) :
    concatenate S8x8192 0 [⟨S1x8192, extractStridedSlice S1x8192 ![7, 0] x slices_S8x8192_o7_0_S1x8192⟩, ⟨S7x8192, extractStridedSlice S7x8192 ![0, 0] x slices_S8x8192_o0_0_S7x8192⟩] concatenates_S1x8192_S7x8192_S8x8192_d0 = roll 7 x := by
  funext j
  idx_vars j
  pointwise
  show _ = x (ix2 (turn 7 j0) j1)
  unfold turn
  split
  all_goals (congr 2; apply Fin.ext; simp only []; omega)

theorem roll_2 (x : FVec F S8x8192 .f32) :
    concatenate S8x8192 0 [⟨S6x8192, extractStridedSlice S6x8192 ![2, 0] x slices_S8x8192_o2_0_S6x8192⟩, ⟨S2x8192, extractStridedSlice S2x8192 ![0, 0] x slices_S8x8192_o0_0_S2x8192⟩] concatenates_S6x8192_S2x8192_S8x8192_d0 = roll 2 x := by
  funext j
  idx_vars j
  pointwise
  show _ = x (ix2 (turn 2 j0) j1)
  unfold turn
  split
  all_goals (congr 2; apply Fin.ext; simp only []; omega)

theorem roll_6 (x : FVec F S8x8192 .f32) :
    concatenate S8x8192 0 [⟨S2x8192, extractStridedSlice S2x8192 ![6, 0] x slices_S8x8192_o6_0_S2x8192⟩, ⟨S6x8192, extractStridedSlice S6x8192 ![0, 0] x slices_S8x8192_o0_0_S6x8192⟩] concatenates_S2x8192_S6x8192_S8x8192_d0 = roll 6 x := by
  funext j
  idx_vars j
  pointwise
  show _ = x (ix2 (turn 6 j0) j1)
  unfold turn
  split
  all_goals (congr 2; apply Fin.ext; simp only []; omega)

theorem roll_4 (x : FVec F S8x8192 .f32) :
    concatenate S8x8192 0 [⟨S4x8192, extractStridedSlice S4x8192 ![4, 0] x slices_S8x8192_o4_0_S4x8192⟩, ⟨S4x8192, extractStridedSlice S4x8192 ![0, 0] x slices_S8x8192_o0_0_S4x8192⟩] concatenates_S4x8192_S4x8192_S8x8192_d0 = roll 4 x := by
  funext j
  idx_vars j
  pointwise
  show _ = x (ix2 (turn 4 j0) j1)
  unfold turn
  split
  all_goals (congr 2; apply Fin.ext; simp only []; omega)

/-! ## The body of a pair -/

/-- The row beside a row, in its group's first exchange. -/
def mate : Fin 8 → Fin 8 := ![1, 0, 3, 2, 5, 4, 7, 6]

/-- The row two away, in its group's second exchange. -/
def far : Fin 8 → Fin 8 := ![6, 7, 4, 5, 2, 3, 0, 1]

/-- The greater of a row and its mate. -/
def near (f : Fin 8 → F .f32) (r : Fin 8) : F .f32 := FloatOps.maximumf (f r) (f (mate r))

/-- The greatest of a row's group, by the two exchanges. -/
def top (f : Fin 8 → F .f32) (r : Fin 8) : F .f32 := FloatOps.maximumf (near f r) (near f (far r))

/-- One where the row attains its group's greatest score, else zero. -/
def pick (f : Fin 8 → F .f32) (r : Fin 8) : F .f32 :=
  Scalar.select (FloatOps.cmpf .oeq (f r) (top f r)) (FloatOps.ofBits .f32 0x3F800000#32) (FloatOps.ofBits .f32 0x00000000#32)

/-- A row's score, from the draw as a number of [1, 2) and the row's weight. -/
def weigh (v e : F .f32) : F .f32 :=
  FloatOps.mulf (FloatOps.log (FloatOps.addf (FloatOps.subf v (FloatOps.ofBits .f32 0x3F800000#32)) (FloatOps.ofBits .f32 0x00800000#32))) e

/-- The row number of a row. -/
theorem rows_apply (i : grid0.Coords) (x0 : Vec F S8x8192 .f32) (x1 : Vec F S8x8192 .i32) (r : Fin 8) (l : Fin 8192) :
    k0_pay182 i x0 x1 (ix2 r l) = BitVec.ofNat 32 r.val := by
  unfold k0_pay182
  pointwise

/-- The first exchange at a row and a column. -/
theorem near_apply (i : grid0.Coords) (x0 : Vec F S8x8192 .f32) (x1 : Vec F S8x8192 .i32) (s : FVec F S8x8192 .f32) (r : Fin 8) (l : Fin 8192) :
    maximumf s (select (cmpi .eq (andi (k0_pay182 i x0 x1) (broadcast S8x8192 1#32)) (broadcast S8x8192 0#32)) (roll 1 s) (roll 7 s)) (ix2 r l)
      = near (fun k => s (ix2 k l)) r := by
  show FloatOps.maximumf (s (ix2 r l)) (Scalar.select (IntOp.cmpi .eq (IntOp.andi (k0_pay182 i x0 x1 (ix2 r l)) 1#32) 0#32)
    (s (ix2 (turn 1 r) l)) (s (ix2 (turn 7 r) l))) = _
  rw [rows_apply]
  fin_cases r <;> rfl

/-- The second exchange at a row and a column. -/
theorem far_apply (i : grid0.Coords) (x0 : Vec F S8x8192 .f32) (x1 : Vec F S8x8192 .i32) (s : FVec F S8x8192 .f32) (r : Fin 8) (l : Fin 8192) :
    maximumf s (select (cmpi .eq (andi (addi (k0_pay182 i x0 x1) (broadcast S8x8192 2#32)) (broadcast S8x8192 2#32)) (broadcast S8x8192 0#32)) (roll 2 s) (roll 6 s)) (ix2 r l)
      = FloatOps.maximumf (s (ix2 r l)) (s (ix2 (far r) l)) := by
  show FloatOps.maximumf (s (ix2 r l)) (Scalar.select (IntOp.cmpi .eq (IntOp.andi (IntOp.addi (k0_pay182 i x0 x1 (ix2 r l)) 2#32) 2#32) 0#32)
    (s (ix2 (turn 2 r) l)) (s (ix2 (turn 6 r) l))) = _
  rw [rows_apply]
  fin_cases r <;> rfl

/-- The body at a row and a column. -/
theorem body_apply (i : grid0.Coords) (x0 : Vec F S8x8192 .f32) (x1 : Vec F S8x8192 .i32) (e v : FVec F S8x8192 .f32) (r : Fin 8) (l : Fin 8192) :
    k0_pay178 (k0_pay182 i x0 x1) e v (ix2 r l) = pick (fun k => weigh (v (ix2 k l)) (e (ix2 k l))) r := by
  unfold k0_pay178
  simp only [roll_1, roll_7, roll_2, roll_6]
  unfold pick top
  refine congrArg₂ (fun a b => Scalar.select (FloatOps.cmpf .oeq a b) _ _) rfl ((far_apply i x0 x1 _ r l).trans ?_)
  rw [near_apply, near_apply]
  rfl

/-! ## The four pairs of a grid point -/

/-- The counters of a pair: the table plus the pair's base. -/
def count (i : grid0.Coords) (x1 : Vec F S8x8192 .i32) (u : BitVec 32) : IVec S8x8192 32 := fun j =>
  View.ld x1 r0_0 j + (BitVec.ofNat 32 (i 0).val * 4#32 + u) * 131072#32

/-- The body of a pair on its draws. -/
def winner (i : grid0.Coords) (x0 : Vec F S8x8192 .f32) (x1 : Vec F S8x8192 .i32) (u : BitVec 32) : FVec F S8x8192 .f32 :=
  k0_pay178 (k0_pay182 i x0 x1) (k0_pay184 i x0 x1) (fun j => unit (draw (count i x1 u j)))

theorem pay47_eq (v0 : IVec S8x8192 32) (v14 : FVec F S8x8192 .f32) (a b c : IVec S8x8192 32) :
    k0_pay47 v0 v14 a b c = k0_pay178 v0 v14 (fun j => unit ((a j + c j) ^^^ (b j + 5#32))) := rfl

theorem pay98_eq (v0 : IVec S8x8192 32) (v14 : FVec F S8x8192 .f32) (a b : IVec S8x8192 32) :
    k0_pay98 v0 v14 a b = k0_pay178 v0 v14 (fun j => unit (a j ^^^ b j)) := rfl

theorem pay137_eq (v0 : IVec S8x8192 32) (v14 : FVec F S8x8192 .f32) (a : IVec S8x8192 32) :
    k0_pay137 v0 v14 a = k0_pay178 v0 v14 (fun j => FloatOps.ofBits .f32 (a j ||| 1065353216#32)) := rfl

/-- A draw from its last state. -/
theorem draw_of {a b x : BitVec 32} (h : (a, b) = rounds (0#32, x)) : a ^^^ b = draw x := by
  unfold draw
  rw [← h]

theorem winner_0 (i : grid0.Coords) (x0 : Vec F S8x8192 .f32) (x1 : Vec F S8x8192 .i32) :
    k0_pay47 (k0_pay182 i x0 x1) (k0_pay184 i x0 x1) (k0_pay191 i x0 x1) (k0_pay192 i x0 x1) (k0_pay193 i x0 x1) = winner i x0 x1 0#32 := by
  rw [pay47_eq]
  refine congrArg (k0_pay178 _ _) (funext fun j => congrArg unit (draw_of (state_0 i x0 x1 j)))

theorem winner_1 (i : grid0.Coords) (x0 : Vec F S8x8192 .f32) (x1 : Vec F S8x8192 .i32) :
    k0_pay98 (k0_pay182 i x0 x1) (k0_pay184 i x0 x1) (k0_pay205 i x0 x1) (k0_pay206 i x0 x1) = winner i x0 x1 1#32 := by
  rw [pay98_eq]
  refine congrArg (k0_pay178 _ _) (funext fun j => congrArg unit (draw_of (state_1 i x0 x1 j)))

theorem winner_2 (i : grid0.Coords) (x0 : Vec F S8x8192 .f32) (x1 : Vec F S8x8192 .i32) :
    k0_pay137 (k0_pay182 i x0 x1) (k0_pay184 i x0 x1) (k0_pay212 i x0 x1) = winner i x0 x1 2#32 := by
  rw [pay137_eq]
  refine congrArg (k0_pay178 _ _) (funext fun j => ?_)
  show (FloatOps.ofBits .f32 (k0_pay136 _ _ j ||| 1065353216#32) : F .f32) = _
  rw [rest_2, state_2]
  rfl

theorem winner_3 (i : grid0.Coords) (x0 : Vec F S8x8192 .f32) (x1 : Vec F S8x8192 .i32) :
    k0_pay178 (k0_pay182 i x0 x1) (k0_pay184 i x0 x1) (k0_pay219 i x0 x1) = winner i x0 x1 3#32 := by
  refine congrArg (k0_pay178 _ _) (funext fun j => ?_)
  show k0_pay177 _ _ _ _ j = _
  rw [rest_3, state_3]
  rfl

/-- The block of the pair's first sample: the rows 2 to 5, the others zero. -/
def even (w : FVec F S8x8192 .f32) : FVec F S1x8x8192 .f32 :=
  shapeCast S1x8x8192 (select k0_pay2 w (broadcast S8x8192 (FloatOps.ofBits .f32 0x00000000#32))) shapeCasts_S8x8192_S1x8x8192

/-- The block of the pair's second sample: the same rows of the array rotated by half. -/
def odd (w : FVec F S8x8192 .f32) : FVec F S1x8x8192 .f32 := even (roll 4 w)

theorem pay50_eq (w : FVec F S8x8192 .f32) : k0_pay50 k0_pay2 w = odd w := by
  unfold k0_pay50
  simp only [roll_4]
  rfl

/-- What a grid point leaves in its block: eight slabs, two for each pair. -/
theorem out_eq (i : grid0.Coords) (x0 : Vec F S8x8192 .f32) (x1 : Vec F S8x8192 .i32) :
    out0_2 i x0 x1 = View.canon [⟨r0_8, odd (winner i x0 x1 3#32)⟩, ⟨r0_7, even (winner i x0 x1 3#32)⟩,
      ⟨r0_6, odd (winner i x0 x1 2#32)⟩, ⟨r0_5, even (winner i x0 x1 2#32)⟩,
      ⟨r0_4, odd (winner i x0 x1 1#32)⟩, ⟨r0_3, even (winner i x0 x1 1#32)⟩,
      ⟨r0_2, odd (winner i x0 x1 0#32)⟩, ⟨r0_1, even (winner i x0 x1 0#32)⟩] := by
  rw [← winner_0, ← winner_1, ← winner_2, ← winner_3]
  simp only [← pay50_eq]
  rfl

end Cert.KernelIdeal.Noise

end
-- ==== Proof.KernelRun.lean ====
/-
  A GRID POINT'S BLOCK, element by element: eight slabs, one for each sample of the point's eight, each the winners of its
  pair with the rows 2 to 5 kept and the others zero.
-/
module

public import proofs.«01_k».proof.Proof.KernelBlock

@[expose] public section

set_option maxRecDepth 16384

noncomputable section

namespace Cert.KernelIdeal.Noise

open Cert.KernelIdeal Cert.KernelIdeal.Gen Cert.Words
open Idealize.ShloMosaic Idealize.ShloMosaic.TcCoe Idealize.SL.Sem

variable {F : FTy → Type} [FloatOps F]

/-- The mask of the live rows at a row and a column. -/
theorem live_apply (r : Fin 8) (l : Fin 8192) : k0_pay2 (ix2 r l) = BitVec.ofBool (decide (2 ≤ r.val ∧ r.val < 6)) := by
  show IntOp.andi (IntOp.cmpi .uge (iota .tc S8x8192 32 [0] iota_S8x8192_d0_w32 (ix2 r l)) 2#32)
    (IntOp.cmpi .ult (iota .tc S8x8192 32 [0] iota_S8x8192_d0_w32 (ix2 r l)) 6#32) = _
  have h : iota .tc S8x8192 32 [0] iota_S8x8192_d0_w32 (ix2 r l) = BitVec.ofNat 32 r.val := by pointwise
  rw [h]
  fin_cases r <;> rfl

/-- A slab at a row and a column: the array on the live rows, zero on the others. -/
theorem even_apply (w : FVec F S8x8192 .f32) (a : Fin 1) (r : Fin 8) (l : Fin 8192) :
    even w (ix3 a r l) = if 2 ≤ r.val ∧ r.val < 6 then w (ix2 r l) else FloatOps.ofBits .f32 0x00000000#32 := by
  unfold even
  pointwise
  rw [live_apply]
  by_cases h : 2 ≤ r.val ∧ r.val < 6
  · rw [if_pos h, decide_eq_true h]; rfl
  · rw [if_neg h, decide_eq_false h]; rfl

/-- An element of a grid point's block: sample `q` of the eight, row `r`, column `l`. -/
def cell (i : grid0.Coords) (x0 : Vec F S8x8192 .f32) (x1 : Vec F S8x8192 .i32) (q r : Fin 8) (l : Fin 8192) : F .f32 :=
  if 2 ≤ r.val ∧ r.val < 6 then
    winner i x0 x1 (BitVec.ofNat 32 (q.val / 2)) (ix2 (if q.val % 2 = 0 then r else turn 4 r) l)
  else FloatOps.ofBits .f32 0x00000000#32

/-- Where a slab of the block lies. -/
theorem slab_emb (k : Fin 8) (h : ∀ a, (![k.val, 0, 0] : Fin 3 → ℕ) a + S1x8x8192.size a ≤ S8x8x8192.size a) (a : Fin 1) (r : Fin 8) (l : Fin 8192) :
    (Rect.unit (s := S8x8x8192) ![k.val, 0, 0] S1x8x8192.size h).emb (ix3 a r l) = ix3 k r l := by
  funext d; apply Fin.ext
  match d with
  | ⟨0, _⟩ => show k.val + 1 * a.val = k.val; omega
  | ⟨1, _⟩ => show 0 + 1 * r.val = r.val; omega
  | ⟨2, _⟩ => show 0 + 1 * l.val = l.val; omega

/-- A slab of the block's pair, first sample. -/
theorem even_slab (i : grid0.Coords) (x0 : Vec F S8x8192 .f32) (x1 : Vec F S8x8192 .i32) (k : Fin 8) (u : BitVec 32)
    (hu : u = BitVec.ofNat 32 (k.val / 2)) (hk : k.val % 2 = 0) (h : ∀ a, (![k.val, 0, 0] : Fin 3 → ℕ) a + S1x8x8192.size a ≤ S8x8x8192.size a) (x : S1x8x8192.Idx) :
    even (winner i x0 x1 u) x = (fun j : S8x8x8192.Idx => cell i x0 x1 (j 0) (j 1) (j 2))
      ((Rect.unit (s := S8x8x8192) ![k.val, 0, 0] S1x8x8192.size h).emb x) := by
  obtain ⟨a, r, l, rfl⟩ : ∃ a r l, x = ix3 a r l := ⟨x 0, x 1, x 2, eq_ix3 x⟩
  rw [slab_emb, even_apply]
  show _ = cell i x0 x1 k r l
  unfold cell
  rw [if_pos hk, hu]

/-- A slab of the block's pair, second sample. -/
theorem odd_slab (i : grid0.Coords) (x0 : Vec F S8x8192 .f32) (x1 : Vec F S8x8192 .i32) (k : Fin 8) (u : BitVec 32)
    (hu : u = BitVec.ofNat 32 (k.val / 2)) (hk : ¬ k.val % 2 = 0) (h : ∀ a, (![k.val, 0, 0] : Fin 3 → ℕ) a + S1x8x8192.size a ≤ S8x8x8192.size a) (x : S1x8x8192.Idx) :
    odd (winner i x0 x1 u) x = (fun j : S8x8x8192.Idx => cell i x0 x1 (j 0) (j 1) (j 2))
      ((Rect.unit (s := S8x8x8192) ![k.val, 0, 0] S1x8x8192.size h).emb x) := by
  obtain ⟨a, r, l, rfl⟩ : ∃ a r l, x = ix3 a r l := ⟨x 0, x 1, x 2, eq_ix3 x⟩
  rw [slab_emb, odd, even_apply]
  show _ = cell i x0 x1 k r l
  unfold cell
  rw [if_neg hk, hu]
  rfl

/-- The block, element by element. -/
theorem out_apply (i : grid0.Coords) (x0 : Vec F S8x8192 .f32) (x1 : Vec F S8x8192 .i32) (j : S8x8x8192.Idx) :
    out0_2 i x0 x1 j = cell i x0 x1 (j 0) (j 1) (j 2) := by
  rw [out_eq]
  refine View.canon_apply_of_pieces (fun j : S8x8x8192.Idx => cell i x0 x1 (j 0) (j 1) (j 2)) _ (fun p hp => ?_) j (cover0_2 _ _ _ _ _ _ _ _ j)
  simp only [List.mem_cons, List.mem_nil_iff, or_false] at hp
  rcases hp with rfl | rfl | rfl | rfl | rfl | rfl | rfl | rfl
  · exact odd_slab i x0 x1 7 _ rfl (by decide) inb_S8x8x8192_S1x8x8192_7_0_0
  · exact even_slab i x0 x1 6 _ rfl (by decide) inb_S8x8x8192_S1x8x8192_6_0_0
  · exact odd_slab i x0 x1 5 _ rfl (by decide) inb_S8x8x8192_S1x8x8192_5_0_0
  · exact even_slab i x0 x1 4 _ rfl (by decide) inb_S8x8x8192_S1x8x8192_4_0_0
  · exact odd_slab i x0 x1 3 _ rfl (by decide) inb_S8x8x8192_S1x8x8192_3_0_0
  · exact even_slab i x0 x1 2 _ rfl (by decide) inb_S8x8x8192_S1x8x8192_2_0_0
  · exact odd_slab i x0 x1 1 _ rfl (by decide) inb_S8x8x8192_S1x8x8192_1_0_0
  · exact even_slab i x0 x1 0 _ rfl (by decide) inb_S8x8x8192_S1x8x8192_0_0_0

end Cert.KernelIdeal.Noise

end
-- ==== Proof.KernelArray.lean ====
/-
  THE KERNEL'S RESULT ARRAY. The grid's eight blocks make up the array of sixty-four samples; the operations before the
  kernel turn the logits so that a class is a row, and those after it turn the samples back and add an axis.
-/
module

public import proofs.«01_k».proof.Proof.KernelRun
public import Idealize.ShloMosaic.Lib.ValueLayout

@[expose] public section

set_option maxRecDepth 16384

noncomputable section

namespace Cert.KernelIdeal.Noise

open Cert.KernelIdeal Cert.KernelIdeal.Gen Cert.Words
open Idealize.ShloMosaic Idealize.ShloMosaic.TcCoe Idealize.SL.Sem

variable {F : FTy → Type} [FloatOps F]

/-- The array the grid leaves: sample `n` is sample `n % 8` of the grid point `n / 8`. -/
def grid (x : Vec F S8x8192 .f32) (tb : Vec F S8x8192 .i32) : Vec F S64x8x8192 .f32 := fun j =>
  cell (grid0.coords ⟨(j 0).val / 8, by have h : (j 0).val < 64 := (j 0).isLt; show _ < 8; omega⟩) x tb ⟨(j 0).val % 8, Nat.mod_lt _ (by decide)⟩ (j 1) (j 2)

/-- Where each window's block lies at a grid point: the two inputs' at the origin, the output's at the point's samples. -/
theorem index_0 : ∀ t : Fin cfg0.N, win0_0.index t (0 : Fin 2) = 0 ∧ win0_0.index t (1 : Fin 2) = 0 :=
  (by decide +kernel : ∀ t : Fin grid0.N, _)
theorem index_1 : ∀ t : Fin cfg0.N, win0_1.index t (0 : Fin 2) = 0 ∧ win0_1.index t (1 : Fin 2) = 0 :=
  (by decide +kernel : ∀ t : Fin grid0.N, _)
theorem index_2 : ∀ t : Fin cfg0.N, win0_2.index t (0 : Fin 3) = t.val ∧ win0_2.index t (1 : Fin 3) = 0 ∧ win0_2.index t (2 : Fin 3) = 0 :=
  (by decide +kernel : ∀ t : Fin grid0.N, _)

theorem emb_0 (t : Fin cfg0.N) (j : S8x8192.Idx) : ((cfg0.win 0).blk t).view.emb j = j := by
  obtain ⟨e0, e1⟩ := index_0 t
  funext a; apply Fin.ext
  match a with
  | ⟨0, _⟩ => show win0_0.index t (0 : Fin 2) * 8 + 1 * (j 0).val = (j 0).val; omega
  | ⟨1, _⟩ => show win0_0.index t (1 : Fin 2) * 8192 + 1 * (j 1).val = (j 1).val; omega

theorem emb_1 (t : Fin cfg0.N) (j : S8x8192.Idx) : ((cfg0.win 1).blk t).view.emb j = j := by
  obtain ⟨e0, e1⟩ := index_1 t
  funext a; apply Fin.ext
  match a with
  | ⟨0, _⟩ => show win0_1.index t (0 : Fin 2) * 8 + 1 * (j 0).val = (j 0).val; omega
  | ⟨1, _⟩ => show win0_1.index t (1 : Fin 2) * 8192 + 1 * (j 1).val = (j 1).val; omega

theorem emb_2 (t : Fin cfg0.N) (q r : Fin 8) (l : Fin 8192) :
    ((cfg0.win 2).blk t).view.emb (ix3 q r l) = ix3 ⟨8 * t.val + q.val, by have h : t.val < 8 := t.isLt; have := q.isLt; omega⟩ r l := by
  obtain ⟨e0, e1, e2⟩ := index_2 t
  funext a; apply Fin.ext
  match a with
  | ⟨0, _⟩ => show win0_2.index t (0 : Fin 3) * 8 + 1 * q.val = 8 * t.val + q.val; omega
  | ⟨1, _⟩ => show win0_2.index t (1 : Fin 3) * 8 + 1 * r.val = r.val; omega
  | ⟨2, _⟩ => show win0_2.index t (2 : Fin 3) * 8192 + 1 * l.val = l.val; omega

variable (m : (ℓ : Loc nD τ sig) → Buf (Elt F) ℓ) (ρ : Dev nD → PrngReg)

/-- The input windows' blocks are their whole arrays. -/
theorem iblk_0 (c : Dev nD) (t : Fin cfg0.N) : iblk m c 0 t = V m c main_v1 := by
  funext j; show V m c main_v1 (((cfg0.win 0).blk t).view.emb j) = V m c main_v1 j; rw [emb_0]

theorem iblk_1 (c : Dev nD) (t : Fin cfg0.N) : iblk m c 1 t = V m c main_c := by
  funext j; show V m c main_c (((cfg0.win 1).blk t).view.emb j) = V m c main_c j; rw [emb_1]

/-- What a grid point writes back is its block of the grid's array. -/
theorem flushed_eq (c : Dev nD) (t : Fin cfg0.N) :
    (dats m 0 c).flushed 2 t = (win0_2.blk t).view.read (Elt F) (grid (V m c main_v1) (V m c main_c)) := by
  show (cfg0.win 2).cut (grid0.coords t) ((dats m 0 c).after 2 t) = _
  rw [after0_2, iblk_0, iblk_1]
  funext j
  obtain ⟨q, r, l, rfl⟩ : ∃ q r l, j = ix3 q r l := ⟨j 0, j 1, j 2, eq_ix3 j⟩
  show out0_2 (grid0.coords t) (V m c main_v1) (V m c main_c) (ix3 q r l)
    = grid (V m c main_v1) (V m c main_c) (((cfg0.win 2).blk t).view.emb (ix3 q r l))
  rw [emb_2, out_apply]
  have h : t.val < 8 := t.isLt
  have hq := q.isLt
  have e1 : (⟨(8 * t.val + q.val) / 8, by show _ < 8; omega⟩ : Fin grid0.N) = t := Fin.ext (by show (8 * t.val + q.val) / 8 = t.val; omega)
  have e2 : (⟨(8 * t.val + q.val) % 8, Nat.mod_lt _ (by decide)⟩ : Fin 8) = q := Fin.ext (by show (8 * t.val + q.val) % 8 = q.val; omega)
  show cell (grid0.coords t) _ _ q r l = cell (grid0.coords ⟨(8 * t.val + q.val) / 8, _⟩) _ _ ⟨(8 * t.val + q.val) % 8, _⟩ r l
  rw [e1, e2]

/-- Every element of the array is in some grid point's block. -/
theorem covered (i : S64x8x8192.Idx) :
    ∃ t : Fin cfg0.N, (cfg0.win 2).flush t = true ∧ i ∈ ((cfg0.win 2).blk t).view.set := by
  obtain ⟨n, r, l, rfl⟩ : ∃ n r l, i = ix3 n r l := ⟨i 0, i 1, i 2, eq_ix3 i⟩
  have hn : n.val < 64 := n.isLt
  refine ⟨(⟨n.val / 8, by show _ < 8; omega⟩ : Fin grid0.N), flush0_2 _, ?_⟩
  have h := ((cfg0.win 2).blk (⟨n.val / 8, by show _ < 8; omega⟩ : Fin grid0.N)).view.emb_mem_set (ix3 (⟨n.val % 8, Nat.mod_lt _ (by decide)⟩ : Fin 8) r l)
  rw [emb_2] at h
  have e : (⟨8 * (n.val / 8) + n.val % 8, by omega⟩ : Fin 64) = n := Fin.ext (by show 8 * (n.val / 8) + n.val % 8 = n.val; omega)
  have e' : ix3 (⟨8 * (n.val / 8) + n.val % 8, by omega⟩ : Fin 64) r l = ix3 n r l := by rw [e]
  exact e' ▸ h

/-- The grid's array after the run. -/
theorem final (c : Dev nD) : (dats m 0 c).arrAt 2 cfg0.N = grid (V m c main_v1) (V m c main_c) :=
  (dats m 0 c).arrAt_eq_of_cover 2 (grid (V m c main_v1) (V m c main_c)) (fun t _ => flushed_eq m c t) covered

/-- The logits as the kernel finds them: a class is a row. -/
def turned (x : Vec F S1x8192x8 .f32) : Vec F S8x8192 .f32 := fun j => x (ix3 0 (j 1) (j 0))

/-- The table of counters. -/
def table : Vec F S8x8192 .i32 := fun j => lit0 (S8x8192.rowMajor j)

theorem V_table (c : Dev nD) : V m c main_c = table := by
  show StableHlo.after (List.flatten [hostOps0]) (fun b => m (c, b)) _ = _
  simp only [List.flatten_cons, List.flatten_nil, List.append_nil]
  after_results
  rfl

theorem V_turned (c : Dev nD) : V m c main_v1 = turned (m ((c : Thread nD τ).loc main_arg0)) := by
  show StableHlo.after (List.flatten [hostOps0]) (fun b => m (c, b)) _ = _
  simp only [List.flatten_cons, List.flatten_nil, List.append_nil]
  after_results
  funext j
  obtain ⟨r, l, rfl⟩ : ∃ r l, j = ix2 r l := ⟨j 0, j 1, eq_ix2 j⟩
  refine (ValueIdx.transpose_ix2_apply _ _ r l).trans ?_
  exact ValueIdx.shapeCast_1ab_ab_apply _ _ _ _

/-- The kernel's result: sample, position and class. -/
def result (x : Vec F S1x8192x8 .f32) : Vec F S1x64x8192x8 .f32 := fun j => grid (turned x) table (ix3 (j 1) (j 3) (j 2))

/-- The result buffer after the operations that follow the kernel. -/
theorem tail_eq (c : Dev nD) : Pipeline.afterTail₀ cfgs (dats m) 0 (V0 m) [hostOps1] c main_v4
    = result (m ((c : Thread nD τ).loc main_arg0)) := by
  unfold Pipeline.afterTail₀
  simp only [List.flatten_cons, List.flatten_nil, List.append_nil]
  after_results
  rw [show Pipeline.withArrays (cfgs 0).spec c (V0 m c) (fun w => (dats m 0 c).arrAt w (cfgs 0).N) (Proc.devRef .tc main_v2) = grid (V m c main_v1) (V m c main_c) from
    (Pipeline.withArrays_arr spec0 launch0.win.arr_inj c (V0 m c) _ 2).trans (final m c)]
  rw [V_turned, V_table]
  funext j
  obtain ⟨z, n, l, r, rfl⟩ : ∃ z n l r, j = ix4 z n l r := ⟨j 0, j 1, j 2, j 3, eq_ix4 j⟩
  refine (ValueIdx.shapeCast_abc_1abc_apply _ _ z n l r).trans ?_
  exact ValueIdx.transpose_ix3_021_apply _ _ n l r

/-- The kernel's run: the result is `result` of the logits, and the logits are unchanged. -/
theorem run : θ_run defs (onTc (τ := τ) (main (F := F))) ⟨m, fun _ => 0, ρ⟩ fun r => ∀ c : Dev nD,
      r.2.mem ((c : Thread nD τ).loc main_v4) = result (m ((c : Thread nD τ).loc main_arg0))
      ∧ r.2.mem ((c : Thread nD τ).loc main_arg0) = m ((c : Thread nD τ).loc main_arg0) :=
  (θ_run defs _ _).mono (fun _ h c => ⟨((h c).2 main_v4 (Pipeline.mem_restRefs_of main_v4 (by decide) (by decide))).trans (tail_eq m c),
    ((h c).2 main_arg0 (Pipeline.mem_restRefs_of main_arg0 (by decide) (by decide))).trans (W_main_arg0 m (dats m) c)⟩) (run_main m ρ)

end Cert.KernelIdeal.Noise

end
-- ==== Proof.TableAt.lean ====
/-
  THE TABLE OF COUNTERS at a row and a column.
-/
module

public import proofs.«01_k».proof.Proof.Table0
public import proofs.«01_k».proof.Proof.Table1
public import proofs.«01_k».proof.Proof.Table2
public import proofs.«01_k».proof.Proof.Table3
public import proofs.«01_k».proof.Proof.KernelArray

@[expose] public section

set_option maxRecDepth 16384

noncomputable section

namespace Cert.KernelIdeal.Noise

open Cert.KernelIdeal Cert.KernelIdeal.Gen Cert.Words
open Idealize.ShloMosaic

/-- The table agrees with `entry` throughout. -/
theorem agrees_all (q : ℕ) (hq : q < 64) : agrees (1024 * q) 1024 = true := by
  interval_cases q
  · exact agrees_0
  · exact agrees_1
  · exact agrees_2
  · exact agrees_3
  · exact agrees_4
  · exact agrees_5
  · exact agrees_6
  · exact agrees_7
  · exact agrees_8
  · exact agrees_9
  · exact agrees_10
  · exact agrees_11
  · exact agrees_12
  · exact agrees_13
  · exact agrees_14
  · exact agrees_15
  · exact agrees_16
  · exact agrees_17
  · exact agrees_18
  · exact agrees_19
  · exact agrees_20
  · exact agrees_21
  · exact agrees_22
  · exact agrees_23
  · exact agrees_24
  · exact agrees_25
  · exact agrees_26
  · exact agrees_27
  · exact agrees_28
  · exact agrees_29
  · exact agrees_30
  · exact agrees_31
  · exact agrees_32
  · exact agrees_33
  · exact agrees_34
  · exact agrees_35
  · exact agrees_36
  · exact agrees_37
  · exact agrees_38
  · exact agrees_39
  · exact agrees_40
  · exact agrees_41
  · exact agrees_42
  · exact agrees_43
  · exact agrees_44
  · exact agrees_45
  · exact agrees_46
  · exact agrees_47
  · exact agrees_48
  · exact agrees_49
  · exact agrees_50
  · exact agrees_51
  · exact agrees_52
  · exact agrees_53
  · exact agrees_54
  · exact agrees_55
  · exact agrees_56
  · exact agrees_57
  · exact agrees_58
  · exact agrees_59
  · exact agrees_60
  · exact agrees_61
  · exact agrees_62
  · exact agrees_63

/-- What a stretch that agrees says of one of its places. -/
theorem agrees_at : ∀ (n k j : ℕ), j < n → agrees k n = true → (lit0t (k + j)).toNat = entry (k + j)
  | 0, _, _, hj, _ => absurd hj (Nat.not_lt_zero _)
  | n + 1, k, j, hj, h => by
    have h' := (Bool.and_eq_true _ _).mp h
    rcases Nat.lt_succ_iff_lt_or_eq.mp hj with hj | rfl
    · exact agrees_at n k j hj h'.2
    · exact Nat.eq_of_beq_eq_true h'.1

/-- The table reads its words in row-major order. -/
theorem lit_eq : ∀ k : Fin 65536, lit0 k = lit0t k.val := fun ⟨_, _⟩ => rfl

/-- The table's element at a row and a column. -/
theorem table_apply {F : FTy → Type} [FloatOps F] (r : Fin 8) (l : Fin 8192) :
    (table (F := F) (ix2 r l) : BitVec 32) = BitVec.ofNat 32 ((r.val + 6) % 8 / 4 * 65536 + l.val * 8 + ((r.val + 2) % 4 + 2) + 1234) := by
  have hr := r.isLt
  have hl := l.isLt
  have hb : (r.val + 6) % 8 / 4 * 65536 + l.val * 8 + ((r.val + 2) % 4 + 2) + 1234 < 200000 := by omega
  have a1 : (r.val * 8192 + l.val) / 8192 = r.val := by omega
  have a2 : (r.val * 8192 + l.val) % 8192 = l.val := by omega
  have a3 : (r.val * 8192 + l.val) / 1024 < 64 := by omega
  have e : (S8x8192.rowMajor (ix2 r l)).val = r.val * 8192 + l.val := Shape.rowMajor_val_two _
  have h := agrees_at 1024 (1024 * ((r.val * 8192 + l.val) / 1024)) ((r.val * 8192 + l.val) % 1024) (Nat.mod_lt _ (by decide))
    (agrees_all _ a3)
  rw [Nat.div_add_mod] at h
  have h2 : (table (F := F) (ix2 r l) : BitVec 32) = lit0t (r.val * 8192 + l.val) := (lit_eq _).trans (congrArg lit0t e)
  unfold entry at h
  rw [a1, a2] at h
  rw [h2]
  apply BitVec.eq_of_toNat_eq
  rw [h]
  exact ((BitVec.toNat_ofNat _ _).trans (Nat.mod_eq_of_lt (hb.trans (by decide)))).symm

end Cert.KernelIdeal.Noise

end
-- ==== Proof.KernelValue.lean ====
/-
  THE KERNEL'S RESULT AT AN ELEMENT, over the extended reals: where one class of a sample and position has a score above
  every other live class's, the result there is one at that class and zero at the others.
-/
module

public import proofs.«01_k».proof.Proof.TableAt
public import proofs.«01_k».proof.Proof.Real

@[expose] public section

set_option maxRecDepth 16384

noncomputable section

namespace Cert.KernelIdeal.Noise

open Cert.KernelIdeal Cert.KernelIdeal.Gen Cert.Words
open Idealize.ShloMosaic

/-- The row where a class of a pair's sample sits: of the first sample the class itself, of the second half-way round. -/
def seat (p : ℕ) (c : Fin 8) : Fin 8 := if p = 0 then c else turn 4 c

/-- A class that is not masked. -/
def Live (c : Fin 8) : Prop := 2 ≤ c.val ∧ c.val < 6

instance (c : Fin 8) : Decidable (Live c) := by unfold Live; infer_instance

/-- The greatest of four, the members of each pair exchanged. -/
theorem swap_near (a b c d : EReal) : max (max b a) (max d c) = max (max a b) (max c d) := by
  rw [max_comm b a, max_comm d c]

/-- The greatest of four, the pairs and their members exchanged. -/
theorem swap_both (a b c d : EReal) : max (max d c) (max b a) = max (max a b) (max c d) := by
  rw [max_comm b a, max_comm d c, max_comm (max c d)]

/-- The greatest of a group is the greatest of its sample's four live classes. -/
theorem top_seat (f : Fin 8 → Ideal .f32) (p : ℕ) (c : Fin 8) (hc : Live c) :
    (top f (seat p c) : EReal) = max (max (f (seat p 2)) (f (seat p 3))) (max (f (seat p 4)) (f (seat p 5))) := by
  show max (max (f (seat p c)) (f (mate (seat p c)))) (max (f (far (seat p c))) (f (mate (far (seat p c))))) = _
  unfold Live at hc
  by_cases hp : p = 0
  · simp only [seat, if_pos hp]
    fin_cases c <;> simp at hc <;> first | rfl | exact swap_near _ _ _ _ | exact max_comm _ _ | exact swap_both _ _ _ _
  · simp only [seat, if_neg hp]
    fin_cases c <;> simp at hc <;> first | rfl | exact swap_near _ _ _ _ | exact max_comm _ _ | exact swap_both _ _ _ _

/-- So where a live class has the greatest score, alone, it is picked and no other live class is. -/
theorem pick_seat (f : Fin 8 → Ideal .f32) (p : ℕ) (c d : Fin 8) (hc : Live c) (hd : Live d)
    (h : ∀ k, Live k → k ≠ d → (f (seat p k) : EReal) < f (seat p d)) :
    pick f (seat p c) = if c = d then FloatOps.ofBits .f32 0x3F800000#32 else FloatOps.ofBits .f32 0x00000000#32 := by
  have hle : ∀ k, Live k → (f (seat p k) : EReal) ≤ f (seat p d) := fun k hk => by
    by_cases e : k = d
    · rw [e]
    · exact (h k hk e).le
  have ht : (top f (seat p c) : EReal) = f (seat p d) := by
    rw [top_seat f p c hc]
    apply le_antisymm
    · exact max_le (max_le (hle 2 (by decide)) (hle 3 (by decide))) (max_le (hle 4 (by decide)) (hle 5 (by decide)))
    · have : d = 2 ∨ d = 3 ∨ d = 4 ∨ d = 5 := by
        unfold Live at hd
        fin_cases d <;> simp at hd <;> simp
      rcases this with rfl | rfl | rfl | rfl <;> simp
  unfold pick
  rw [show top f (seat p c) = f (seat p d) from ht]
  by_cases e : c = d
  · rw [if_pos e, e, Ideal.cmpf_def]
    have : Ideal.cmp .oeq (f (seat p d)) (f (seat p d)) = 1#1 := by simp [Ideal.cmp]
    rw [this]; rfl
  · rw [if_neg e, Ideal.cmpf_def]
    have : Ideal.cmp .oeq (f (seat p c)) (f (seat p d)) = 0#1 := by
      have := (h c hc e).ne
      simp [Ideal.cmp, this]
    rw [this]; rfl

variable {F : FTy → Type} [FloatOps F]

theorem zero2 : (![0, 0] : Fin 2 → Nat) = fun _ => 0 := funext fun a => by fin_cases a <;> rfl

/-- The weight of a class's row. -/
theorem weight_apply (i : grid0.Coords) (x : Vec F S1x8192x8 .f32) (p : ℕ) (c : Fin 8) (hc : Live c) (l : Fin 8192) :
    k0_pay184 i (turned x) (table (F := F)) (ix2 (seat p c) l) = FloatOps.exp (FloatOps.subf (FloatOps.ofBits .f32 0x00000000#32) (x (ix3 0 l c))) := by
  unfold k0_pay184
  rw [show View.ld (turned x) r0_0 = turned x from View.ld_unit_zero zero2 _ _]
  unfold k0_pay3
  simp only [shapeCast_self, roll_4]
  have h : select k0_pay2 (turned x) (roll 4 (turned x)) (ix2 (seat p c) l) = x (ix3 0 l c) := by
    show Scalar.select (k0_pay2 (ix2 (seat p c) l)) (x (ix3 0 l (seat p c))) (x (ix3 0 l (turn 4 (seat p c)))) = _
    rw [live_apply]
    unfold Live at hc
    by_cases hp : p = 0
    · simp only [seat, if_pos hp]
      rw [decide_eq_true hc]; rfl
    · simp only [seat, if_neg hp]
      have e1 : ¬ (2 ≤ (turn 4 c).val ∧ (turn 4 c).val < 6) := by
        show ¬ (2 ≤ (c.val + 4) % 8 ∧ (c.val + 4) % 8 < 6); omega
      have e2 : turn 4 (turn 4 c) = c := Fin.ext (by show ((c.val + 4) % 8 + 4) % 8 = c.val; omega)
      rw [decide_eq_false e1, e2]; rfl
  show FloatOps.exp (FloatOps.subf (FloatOps.ofBits .f32 0x00000000#32) (select k0_pay2 (turned x) (roll 4 (turned x)) (ix2 (seat p c) l))) = _
  rw [h]

/-- The counter of a class's row. -/
theorem count_apply (t : Fin cfg0.N) (u p : ℕ) (hu : u < 4) (hp : p < 2) (c : Fin 8) (hc : Live c) (l : Fin 8192) :
    count (grid0.coords t) (table (F := F)) (BitVec.ofNat 32 u) (ix2 (seat p c) l) = counter (8 * t.val + 2 * u + p) l.val c.val := by
  unfold count
  rw [show View.ld (table (F := F)) r0_0 = table (F := F) from View.ld_unit_zero zero2 _ _, table_apply]
  have ht : t.val < 8 := t.isLt
  have hl := l.isLt
  unfold Live at hc
  have ei : (grid0.coords t 0).val = t.val := (by decide +kernel : ∀ t : Fin grid0.N, (grid0.coords t 0).val = t.val) t
  rw [ei]
  unfold counter
  apply BitVec.eq_of_toNat_eq
  have e : ((seat p c).val + 6) % 8 / 4 = p ∧ ((seat p c).val + 2) % 4 + 2 = c.val := by
    rcases (by omega : p = 0 ∨ p = 1) with rfl | rfl
    · show (c.val + 6) % 8 / 4 = 0 ∧ (c.val + 2) % 4 + 2 = c.val; omega
    · show ((c.val + 4) % 8 + 6) % 8 / 4 = 1 ∧ ((c.val + 4) % 8 + 2) % 4 + 2 = c.val; omega
  rw [e.1, e.2]
  simp only [BitVec.toNat_add, BitVec.toNat_mul, BitVec.toNat_ofNat]
  omega

/-- A class's score in the kernel: the draw's logarithm weighed by the logit. -/
def score (x : Vec F S1x8192x8 .f32) (n : ℕ) (l : Fin 8192) (c : Fin 8) : F .f32 :=
  weigh (unit (word n l.val c.val)) (FloatOps.exp (FloatOps.subf (FloatOps.ofBits .f32 0x00000000#32) (x (ix3 0 l c))))

/-- The score of a class's row. -/
theorem weigh_apply (t : Fin cfg0.N) (x : Vec F S1x8192x8 .f32) (u p : ℕ) (hu : u < 4) (hp : p < 2) (c : Fin 8) (hc : Live c) (l : Fin 8192) :
    weigh (unit (draw (count (grid0.coords t) (table (F := F)) (BitVec.ofNat 32 u) (ix2 (seat p c) l))))
      (k0_pay184 (grid0.coords t) (turned x) (table (F := F)) (ix2 (seat p c) l)) = score x (8 * t.val + 2 * u + p) l c := by
  rw [count_apply t u p hu hp c hc l, weight_apply _ x p c hc l]
  rfl

/-- The kernel's result at an element, where live class `d` has the greatest score of its sample and position, alone. -/
theorem result_apply (x : Vec Ideal S1x8192x8 .f32) (n : Fin 64) (l : Fin 8192) (c d : Fin 8) (hd : Live d)
    (h : ∀ k, Live k → k ≠ d → (score x n.val l k : EReal) < score x n.val l d) :
    result x (ix4 0 n l c) = (if c = d then FloatOps.ofBits .f32 0x3F800000#32 else FloatOps.ofBits .f32 0x00000000#32 : Ideal .f32) := by
  have hn := n.isLt
  show cell (grid0.coords ⟨n.val / 8, _⟩) (turned x) table ⟨n.val % 8, _⟩ c l = _
  unfold cell
  by_cases hc : 2 ≤ c.val ∧ c.val < 6
  · rw [if_pos hc]
    have es : (if (n.val % 8) % 2 = 0 then c else turn 4 c) = seat ((n.val % 8) % 2) c := rfl
    show winner _ _ _ (BitVec.ofNat 32 (n.val % 8 / 2)) (ix2 (if (n.val % 8) % 2 = 0 then c else turn 4 c) l) = _
    rw [es]
    unfold winner
    rw [body_apply]
    have en : 8 * (n.val / 8) + 2 * (n.val % 8 / 2) + n.val % 8 % 2 = n.val := by omega
    refine pick_seat _ _ c d hc hd (fun k hk hkd => ?_)
    have e : ∀ k, Live k → _ := fun k hk => weigh_apply (⟨n.val / 8, by show _ < 8; omega⟩ : Fin grid0.N) x (n.val % 8 / 2) (n.val % 8 % 2) (by omega) (by omega) k hk l
    rw [e k hk, e d hd]
    show (score x (8 * (n.val / 8) + 2 * (n.val % 8 / 2) + n.val % 8 % 2) l k : EReal) < score x (8 * (n.val / 8) + 2 * (n.val % 8 / 2) + n.val % 8 % 2) l d
    rw [en]
    exact h k hk hkd
  · rw [if_neg hc, if_neg (fun e : c = d => hc (e ▸ hd))]

/-- The score of a class whose logit is a real number. -/
theorem score_eq (x : Vec Ideal S1x8192x8 .f32) (n : ℕ) (l : Fin 8192) (c : Fin 8) (y : ℝ) (hy : x (ix3 0 l c) = (y : EReal)) :
    score x n l c = ((-Real.exp (-(Cert.Noise.noise (word n l.val c.val) + y)) : ℝ) : EReal) := by
  unfold score weigh
  rw [hy]
  rw [← Cert.Noise.kernel_eq]
  unfold unit
  simp only [Ideal.mulf_def, Ideal.log_def, Ideal.addf_def, Ideal.subf_def, Ideal.exp_def]
  rw [Cert.Noise.unit_eq, Cert.Noise.one_eq, Cert.Noise.tiny_eq, Cert.Noise.zero_eq]
  rw [← EReal.coe_sub, ← EReal.coe_sub, ← EReal.coe_add]
  rw [show 1 + Cert.Noise.frac (word n l.val c.val) - 1 + (2 : ℝ) ^ (-126 : ℤ) = Cert.Noise.uni (word n l.val c.val) by unfold Cert.Noise.uni; ring]
  rw [Cert.Noise.log_uni, Ideal.exp_coe, EReal.coe_mul]

end Cert.KernelIdeal.Noise

end
-- ==== Proof.Equal.lean ====
/-
  THE TWO RESULTS ARE EQUAL over the extended reals, where the precondition holds: at each sample and position the class whose
  score is above all others is live, the kernel's own score of it is above all others too, and both results are one there and
  zero elsewhere.
-/
module

public import proofs.«01_k».proof.Proof.Winner
public import proofs.«01_k».proof.Proof.RefValue
public import proofs.«01_k».proof.Proof.KernelValue

@[expose] public section

set_option maxRecDepth 16384

noncomputable section

namespace Cert.Equal

open Cert.ReferenceIdeal Cert.ReferenceIdeal.Gen Cert.ReferenceIdeal.Run Cert.Line Cert.Words Cert.Noise
open Idealize.ShloMosaic Idealize.ShloMosaic.TcCoe Idealize.SL.Sem Idealize.ShloMosaic.StableHlo

variable (V : Valuation τ sig (Elt Ideal))

/-- What the precondition says of the reference's argument and scores. -/
theorem holds (h : Cert.Pre_one_winner.fn (F := Ideal) (R V r_arg0) = fun _ => 1#1) :
    (∀ l c, Live c → ∃ y : ℝ, (R V r_arg0 (ix3 0 l c) : EReal) = y ∧ -9000 ≤ y)
      ∧ ∀ n z l, ∃ d, ∀ c, c ≠ d → (R V r_v26 (ix4 n z l c) : EReal) < R V r_v26 (ix4 n z l d) := by
  rw [PreScores.scores_0] at h
  obtain ⟨h0, h1⟩ := Winner.last _ _ _ h
  exact ⟨fun l c hc => Winner.range_live _ h0 l c hc, h1⟩

/-- The winner is a live class: a masked one's score is below that of any live one. -/
theorem live_winner (hx : ∀ l c, Live c → ∃ y : ℝ, (R V r_arg0 (ix3 0 l c) : EReal) = y ∧ -9000 ≤ y) (n : Fin 64) (l : Fin 8192) (d : Fin 8)
    (hd : ∀ c, c ≠ d → (R V r_v26 (ix4 n 0 l c) : EReal) < R V r_v26 (ix4 n 0 l d)) : Live d := by
  by_contra hn
  have h2 : Live 2 := ⟨by decide, by decide⟩
  have hne : (2 : Fin 8) ≠ d := fun e => hn (e ▸ h2)
  obtain ⟨y, hy, hb⟩ := hx l 2 h2
  have h := hd 2 hne
  rw [v26_eq, v26_eq, masked_live _ _ _ _ h2, masked_dead _ _ _ _ hn, hy, ← EReal.coe_add, ← EReal.coe_add, EReal.coe_lt_coe_iff] at h
  have h3 := noise_le (word n.val l.val d.val)
  have h4 := le_noise (word n.val l.val (2 : Fin 8).val)
  linarith

/-- The kernel's result is the reference's. -/
theorem result_eq (h : Cert.Pre_one_winner.fn (F := Ideal) (R V r_arg0) = fun _ => 1#1) :
    Cert.KernelIdeal.Noise.result (F := Ideal) (R V r_arg0) = R V r_v46 := by
  obtain ⟨hx, hw⟩ := holds V h
  funext j
  obtain ⟨z, n, l, c, rfl⟩ : ∃ z n l c, j = ix4 z n l c := ⟨j 0, j 1, j 2, j 3, eq_ix4 j⟩
  have hz : z = 0 := Subsingleton.elim _ _
  subst hz
  obtain ⟨d, hd⟩ := hw n 0 l
  have hl := live_winner V hx n l d hd
  obtain ⟨y, hy, _⟩ := hx l d hl
  have hr := v46_apply V n l c d (fun c hc => (hx l c hc).imp fun _ h => h.1) hd
  refine (Cert.KernelIdeal.Noise.result_apply (R V r_arg0) n l c d hl ?_).trans ?_
  · intro k hk hkd
    obtain ⟨y', hy', _⟩ := hx l k hk
    have h1 := hd k hkd
    rw [v26_eq, v26_eq, masked_live _ _ _ _ hk, masked_live _ _ _ _ hl, hy, hy', ← EReal.coe_add, ← EReal.coe_add, EReal.coe_lt_coe_iff] at h1
    rw [Cert.KernelIdeal.Noise.score_eq _ n l k y' hy', Cert.KernelIdeal.Noise.score_eq _ n l d y hy, EReal.coe_lt_coe_iff]
    exact kernel_lt h1
  · refine Eq.trans ?_ hr.symm
    by_cases hc : c = d
    · rw [if_pos hc, if_pos hc]; exact one_eq
    · rw [if_neg hc, if_neg hc]; exact zero_eq

end Cert.Equal

end
-- ==== Proof.lean ====
/-
  THE PROOF OF `Cert.Claim`: the frames of the program as it runs, of the same program over the extended reals and of the
  reference; the pass between the first two; and, where the precondition holds, the equality of the two results.
-/
module

public import proofs.«01_k».proof.Defs
public import proofs.«01_k».proof.Proof.Gen.Kernel
public import proofs.«01_k».proof.Proof.Gen.KernelIdeal
public import proofs.«01_k».proof.Proof.Gen.KernelIdeal.Frame
public import proofs.«01_k».proof.Proof.Gen.ReferenceIdeal
public import proofs.«01_k».proof.Proof.Gen.Pre_one_winner
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Equal
public import Idealize.ShloMosaic.Adequacy
public import Idealize.ShloMosaic.Init
public import Idealize.ShloMosaic.Lib.Quiescent

@[expose] public section

set_option maxRecDepth 16384

noncomputable section

namespace Cert.Proof

open Idealize.ShloMosaic Idealize.ShloMosaic.TcCoe Idealize.SL.Sem Idealize.ShloMosaic.StableHlo
open Cert.ReferenceIdeal.Run Cert.Line

section

open Cert.ReferenceIdeal

/-- A buffer of a valuation, read at its type. -/
theorem val_arg0 (W : Valuation τ sig (Elt Ideal)) : val W r_arg0 = W (Proc.devRef .tc main_arg0) := rfl

theorem val_v46 (W : Valuation τ sig (Elt Ideal)) : val W r_v46 = W (Proc.devRef .tc main_v46) := rfl

variable (m : (ℓ : Loc nD τ sig) → Buf (Elt Ideal) ℓ) (ρ : Dev nD → PrngReg) (c : Dev nD)

/-- The reference leaves its argument as it was. -/
theorem kept : after ops (launchContents m c) (Proc.devRef .tc main_arg0) = m ((c.tc : Thread nD τ).loc main_arg0) := by
  have h := e_arg0 (launchContents m c)
  unfold R at h
  rw [val_arg0, val_arg0] at h
  exact h

/-- The reference's argument, as its run reads it. -/
theorem argument : R (launchContents m c) r_arg0 = m ((c.tc : Thread nD τ).loc main_arg0) := by
  rw [e_arg0, val_arg0]

/-- The reference ends with its result in place, its argument unchanged and every counter at zero. -/
theorem reference_run : θ_run (defs (F := Ideal)) (onTc (τ := τ) (main (F := Ideal))) ⟨m, fun _ => 0, ρ⟩ fun r =>
    (∀ c : Dev nD, r.2.mem ((c.tc : Thread nD τ).loc main_v46) = R (launchContents m c) r_v46
      ∧ r.2.mem ((c.tc : Thread nD τ).loc main_arg0) = m ((c.tc : Thread nD τ).loc main_arg0)) ∧ r.2.sem = fun _ => 0 :=
  (θ_run defs _ _).mono (fun r h => ⟨fun c => ⟨(h c main_v46).trans (val_v46 _).symm, (h c main_arg0).trans (kept m c)⟩,
    sem_eq_zero_of_no_sems (by decide) r.2⟩) (run m ρ)

theorem reference_frame : θ_run (defs (F := Ideal)) (onTc (τ := τ) (main (F := Ideal))) ⟨m, fun _ => 0, ρ⟩ fun r =>
    (∀ c : Dev nD, r.2.mem ((c.tc : Thread nD τ).loc main_arg0) = m ((c.tc : Thread nD τ).loc main_arg0)) ∧ r.2.sem = fun _ => 0 :=
  (θ_run defs _ _).mono (fun _ h => ⟨fun c => (h.1 c).2, h.2⟩) (reference_run m ρ)

end

/-- The program and the reference, over the extended reals and where one class wins each row, end with the same result. -/
theorem same [Cert.Pre_one_winner.Facts] : algebraic_KernelIdeal_ReferenceIdeal_pre_one_winner := by
  intro m g m' g' hpre harg
  refine ⟨fun c => Cert.KernelIdeal.Noise.result (F := Ideal) (m ((c.tc : Thread Cert.KernelIdeal.nD Cert.KernelIdeal.τ).loc Cert.KernelIdeal.main_arg0)),
    Cert.KernelIdeal.Noise.run m g, ?_⟩
  refine (θ_run Cert.ReferenceIdeal.defs _ _).mono (fun r h c => ⟨((h.1 c).1).trans ?_, (h.1 c).2⟩) (reference_run m' g')
  have e := (argument m' c).trans (harg c)
  have hp := hpre c
  rw [← e] at hp
  exact (Cert.Equal.result_eq _ hp).symm.trans (congrArg (Cert.KernelIdeal.Noise.result (F := Ideal)) e)

theorem claim : Cert.Claim :=
  ⟨Cert.Kernel.Gen.facts, Cert.KernelIdeal.Gen.facts, Cert.ReferenceIdeal.Gen.facts, Cert.Pre_one_winner.Gen.facts,
    fun m ρ _ => Cert.Kernel.Gen.frame m ρ,
    fun m ρ _ => Cert.KernelIdeal.Gen.frame m ρ,
    fun m ρ _ => Cert.KernelIdeal.Gen.frame m ρ,
    fun m ρ _ => reference_frame m ρ,
    fun m ρ _ => reference_frame m ρ,
    trivial,
    same⟩

end Cert.Proof

end
